-- ==== Defs.lean ====
def Pre_Kernel2Ideal (m : (ℓ : Loc Cert.Kernel2Ideal.nD Cert.Kernel2Ideal.τ Cert.Kernel2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
      ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
      ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
      ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
      ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
      ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15)
      ∧ r.2.mem ((c.tc : Thread Cert.Kernel15Ideal.nD Cert.Kernel15Ideal.τ).loc Cert.Kernel15Ideal.main_arg16) = m ((c.tc : Thread Cert.Kernel15Ideal.nD Cert.Kernel15Ideal.τ).loc Cert.Kernel15Ideal.main_arg16)
      ∧ r.2.mem ((c.tc : Thread Cert.Kernel15Ideal.nD Cert.Kernel15Ideal.τ).loc Cert.Kernel15Ideal.main_arg17) = m ((c.tc : Thread Cert.Kernel15Ideal.nD Cert.Kernel15Ideal.τ).loc Cert.Kernel15Ideal.main_arg17)
      ∧ r.2.mem ((c.tc : Thread Cert.Kernel15Ideal.nD Cert.Kernel15Ideal.τ).loc Cert.Kernel15Ideal.main_arg18) = m ((c.tc : Thread Cert.Kernel15Ideal.nD Cert.Kernel15Ideal.τ).loc Cert.Kernel15Ideal.main_arg18)
      ∧ r.2.mem ((c.tc : Thread Cert.Kernel15Ideal.nD Cert.Kernel15Ideal.τ).loc Cert.Kernel15Ideal.main_arg19) = m ((c.tc : Thread Cert.Kernel15Ideal.nD Cert.Kernel15Ideal.τ).loc Cert.Kernel15Ideal.main_arg19)
      ∧ r.2.mem ((c.tc : Thread Cert.Kernel15Ideal.nD Cert.Kernel15Ideal.τ).loc Cert.Kernel15Ideal.main_arg20) = m ((c.tc : Thread Cert.Kernel15Ideal.nD Cert.Kernel15Ideal.τ).loc Cert.Kernel15Ideal.main_arg20)
      ∧ r.2.mem ((c.tc : Thread Cert.Kernel15Ideal.nD Cert.Kernel15Ideal.τ).loc Cert.Kernel15Ideal.main_arg21) = m ((c.tc : Thread Cert.Kernel15Ideal.nD Cert.Kernel15Ideal.τ).loc Cert.Kernel15Ideal.main_arg21)
      ∧ r.2.mem ((c.tc : Thread Cert.Kernel15Ideal.nD Cert.Kernel15Ideal.τ).loc Cert.Kernel15Ideal.main_arg22) = m ((c.tc : Thread Cert.Kernel15Ideal.nD Cert.Kernel15Ideal.τ).loc Cert.Kernel15Ideal.main_arg22)
      ∧ r.2.mem ((c.tc : Thread Cert.Kernel15Ideal.nD Cert.Kernel15Ideal.τ).loc Cert.Kernel15Ideal.main_arg23) = m ((c.tc : Thread Cert.Kernel15Ideal.nD Cert.Kernel15Ideal.τ).loc Cert.Kernel15Ideal.main_arg23)
      ∧ r.2.mem ((c.tc : Thread Cert.Kernel15Ideal.nD Cert.Kernel15Ideal.τ).loc Cert.Kernel15Ideal.main_arg24) = m ((c.tc : Thread Cert.Kernel15Ideal.nD Cert.Kernel15Ideal.τ).loc Cert.Kernel15Ideal.main_arg24)
      ∧ r.2.mem ((c.tc : Thread Cert.Kernel15Ideal.nD Cert.Kernel15Ideal.τ).loc Cert.Kernel15Ideal.main_arg25) = m ((c.tc : Thread Cert.Kernel15Ideal.nD Cert.Kernel15Ideal.τ).loc Cert.Kernel15Ideal.main_arg25)
      ∧ r.2.mem ((c.tc : Thread Cert.Kernel15Ideal.nD Cert.Kernel15Ideal.τ).loc Cert.Kernel15Ideal.main_arg26) = m ((c.tc : Thread Cert.Kernel15Ideal.nD Cert.Kernel15Ideal.τ).loc Cert.Kernel15Ideal.main_arg26)
      ∧ r.2.mem ((c.tc : Thread Cert.Kernel15Ideal.nD Cert.Kernel15Ideal.τ).loc Cert.Kernel15Ideal.main_arg27) = m ((c.tc : Thread Cert.Kernel15Ideal.nD Cert.Kernel15Ideal.τ).loc Cert.Kernel15Ideal.main_arg27)
      ∧ r.2.mem ((c.tc : Thread Cert.Kernel15Ideal.nD Cert.Kernel15Ideal.τ).loc Cert.Kernel15Ideal.main_arg28) = m ((c.tc : Thread Cert.Kernel15Ideal.nD Cert.Kernel15Ideal.τ).loc Cert.Kernel15Ideal.main_arg28)
      ∧ r.2.mem ((c.tc : Thread Cert.Kernel15Ideal.nD Cert.Kernel15Ideal.τ).loc Cert.Kernel15Ideal.main_arg29) = m ((c.tc : Thread Cert.Kernel15Ideal.nD Cert.Kernel15Ideal.τ).loc Cert.Kernel15Ideal.main_arg29)
      ∧ r.2.mem ((c.tc : Thread Cert.Kernel15Ideal.nD Cert.Kernel15Ideal.τ).loc Cert.Kernel15Ideal.main_arg30) = m ((c.tc : Thread Cert.Kernel15Ideal.nD Cert.Kernel15Ideal.τ).loc Cert.Kernel15Ideal.main_arg30)
      ∧ r.2.mem ((c.tc : Thread Cert.Kernel15Ideal.nD Cert.Kernel15Ideal.τ).loc Cert.Kernel15Ideal.main_arg31) = m ((c.tc : Thread Cert.Kernel15Ideal.nD Cert.Kernel15Ideal.τ).loc Cert.Kernel15Ideal.main_arg31))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10)
      ∧ r.2.mem ((c.tc : Thread Cert.Reference15Ideal.nD Cert.Reference15Ideal.τ).loc Cert.Reference15Ideal.main_arg11) = m ((c.tc : Thread Cert.Reference15Ideal.nD Cert.Reference15Ideal.τ).loc Cert.Reference15Ideal.main_arg11)
      ∧ r.2.mem ((c.tc : Thread Cert.Reference15Ideal.nD Cert.Reference15Ideal.τ).loc Cert.Reference15Ideal.main_arg12) = m ((c.tc : Thread Cert.Reference15Ideal.nD Cert.Reference15Ideal.τ).loc Cert.Reference15Ideal.main_arg12)
      ∧ r.2.mem ((c.tc : Thread Cert.Reference15Ideal.nD Cert.Reference15Ideal.τ).loc Cert.Reference15Ideal.main_arg13) = m ((c.tc : Thread Cert.Reference15Ideal.nD Cert.Reference15Ideal.τ).loc Cert.Reference15Ideal.main_arg13)
      ∧ r.2.mem ((c.tc : Thread Cert.Reference15Ideal.nD Cert.Reference15Ideal.τ).loc Cert.Reference15Ideal.main_arg14) = m ((c.tc : Thread Cert.Reference15Ideal.nD Cert.Reference15Ideal.τ).loc Cert.Reference15Ideal.main_arg14)
      ∧ r.2.mem ((c.tc : Thread Cert.Reference15Ideal.nD Cert.Reference15Ideal.τ).loc Cert.Reference15Ideal.main_arg15) = m ((c.tc : Thread Cert.Reference15Ideal.nD Cert.Reference15Ideal.τ).loc Cert.Reference15Ideal.main_arg15)
      ∧ r.2.mem ((c.tc : Thread Cert.Reference15Ideal.nD Cert.Reference15Ideal.τ).loc Cert.Reference15Ideal.main_arg16) = m ((c.tc : Thread Cert.Reference15Ideal.nD Cert.Reference15Ideal.τ).loc Cert.Reference15Ideal.main_arg16)
      ∧ r.2.mem ((c.tc : Thread Cert.Reference15Ideal.nD Cert.Reference15Ideal.τ).loc Cert.Reference15Ideal.main_arg17) = m ((c.tc : Thread Cert.Reference15Ideal.nD Cert.Reference15Ideal.τ).loc Cert.Reference15Ideal.main_arg17)
      ∧ r.2.mem ((c.tc : Thread Cert.Reference15Ideal.nD Cert.Reference15Ideal.τ).loc Cert.Reference15Ideal.main_arg18) = m ((c.tc : Thread Cert.Reference15Ideal.nD Cert.Reference15Ideal.τ).loc Cert.Reference15Ideal.main_arg18)
      ∧ r.2.mem ((c.tc : Thread Cert.Reference15Ideal.nD Cert.Reference15Ideal.τ).loc Cert.Reference15Ideal.main_arg19) = m ((c.tc : Thread Cert.Reference15Ideal.nD Cert.Reference15Ideal.τ).loc Cert.Reference15Ideal.main_arg19)
      ∧ r.2.mem ((c.tc : Thread Cert.Reference15Ideal.nD Cert.Reference15Ideal.τ).loc Cert.Reference15Ideal.main_arg20) = m ((c.tc : Thread Cert.Reference15Ideal.nD Cert.Reference15Ideal.τ).loc Cert.Reference15Ideal.main_arg20)
      ∧ r.2.mem ((c.tc : Thread Cert.Reference15Ideal.nD Cert.Reference15Ideal.τ).loc Cert.Reference15Ideal.main_arg21) = m ((c.tc : Thread Cert.Reference15Ideal.nD Cert.Reference15Ideal.τ).loc Cert.Reference15Ideal.main_arg21)
      ∧ r.2.mem ((c.tc : Thread Cert.Reference15Ideal.nD Cert.Reference15Ideal.τ).loc Cert.Reference15Ideal.main_arg22) = m ((c.tc : Thread Cert.Reference15Ideal.nD Cert.Reference15Ideal.τ).loc Cert.Reference15Ideal.main_arg22)
      ∧ r.2.mem ((c.tc : Thread Cert.Reference15Ideal.nD Cert.Reference15Ideal.τ).loc Cert.Reference15Ideal.main_arg23) = m ((c.tc : Thread Cert.Reference15Ideal.nD Cert.Reference15Ideal.τ).loc Cert.Reference15Ideal.main_arg23)
      ∧ r.2.mem ((c.tc : Thread Cert.Reference15Ideal.nD Cert.Reference15Ideal.τ).loc Cert.Reference15Ideal.main_arg24) = m ((c.tc : Thread Cert.Reference15Ideal.nD Cert.Reference15Ideal.τ).loc Cert.Reference15Ideal.main_arg24)
      ∧ r.2.mem ((c.tc : Thread Cert.Reference15Ideal.nD Cert.Reference15Ideal.τ).loc Cert.Reference15Ideal.main_arg25) = m ((c.tc : Thread Cert.Reference15Ideal.nD Cert.Reference15Ideal.τ).loc Cert.Reference15Ideal.main_arg25)
      ∧ r.2.mem ((c.tc : Thread Cert.Reference15Ideal.nD Cert.Reference15Ideal.τ).loc Cert.Reference15Ideal.main_arg26) = m ((c.tc : Thread Cert.Reference15Ideal.nD Cert.Reference15Ideal.τ).loc Cert.Reference15Ideal.main_arg26)
      ∧ r.2.mem ((c.tc : Thread Cert.Reference15Ideal.nD Cert.Reference15Ideal.τ).loc Cert.Reference15Ideal.main_arg27) = m ((c.tc : Thread Cert.Reference15Ideal.nD Cert.Reference15Ideal.τ).loc Cert.Reference15Ideal.main_arg27)
      ∧ r.2.mem ((c.tc : Thread Cert.Reference15Ideal.nD Cert.Reference15Ideal.τ).loc Cert.Reference15Ideal.main_arg28) = m ((c.tc : Thread Cert.Reference15Ideal.nD Cert.Reference15Ideal.τ).loc Cert.Reference15Ideal.main_arg28)
      ∧ r.2.mem ((c.tc : Thread Cert.Reference15Ideal.nD Cert.Reference15Ideal.τ).loc Cert.Reference15Ideal.main_arg29) = m ((c.tc : Thread Cert.Reference15Ideal.nD Cert.Reference15Ideal.τ).loc Cert.Reference15Ideal.main_arg29)
      ∧ r.2.mem ((c.tc : Thread Cert.Reference15Ideal.nD Cert.Reference15Ideal.τ).loc Cert.Reference15Ideal.main_arg30) = m ((c.tc : Thread Cert.Reference15Ideal.nD Cert.Reference15Ideal.τ).loc Cert.Reference15Ideal.main_arg30)
      ∧ r.2.mem ((c.tc : Thread Cert.Reference15Ideal.nD Cert.Reference15Ideal.τ).loc Cert.Reference15Ideal.main_arg31) = m ((c.tc : Thread Cert.Reference15Ideal.nD Cert.Reference15Ideal.τ).loc Cert.Reference15Ideal.main_arg31))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0))
      ∧ r.2.sem = fun _ => 0)

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v22_0)) (v1 : (c : Dev Cert.Kernel3Ideal.nD) → Buf (Elt Ideal) ((c.tc : Thread Cert.Kernel3Ideal.nD Cert.Kernel3Ideal.τ).loc Cert.Kernel3Ideal.main_v22_1)) (v2 : (c : Dev Cert.Kernel3Ideal.nD) → Buf (Elt Ideal) ((c.tc : Thread Cert.Kernel3Ideal.nD Cert.Kernel3Ideal.τ).loc Cert.Kernel3Ideal.main_v22_7)) (v3 : (c : Dev Cert.Kernel3Ideal.nD) → Buf (Elt Ideal) ((c.tc : Thread Cert.Kernel3Ideal.nD Cert.Kernel3Ideal.τ).loc Cert.Kernel3Ideal.main_v22_3)) (v4 : (c : Dev Cert.Kernel3Ideal.nD) → Buf (Elt Ideal) ((c.tc : Thread Cert.Kernel3Ideal.nD Cert.Kernel3Ideal.τ).loc Cert.Kernel3Ideal.main_v22_2)) (v5 : (c : Dev Cert.Kernel3Ideal.nD) → Buf (Elt Ideal) ((c.tc : Thread Cert.Kernel3Ideal.nD Cert.Kernel3Ideal.τ).loc Cert.Kernel3Ideal.main_v22_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22_0) = v0 c
          ∧ r.2.mem ((c.tc : Thread Cert.Kernel3Ideal.nD Cert.Kernel3Ideal.τ).loc Cert.Kernel3Ideal.main_v22_1) = v1 c
          ∧ r.2.mem ((c.tc : Thread Cert.Kernel3Ideal.nD Cert.Kernel3Ideal.τ).loc Cert.Kernel3Ideal.main_v22_7) = v2 c
          ∧ r.2.mem ((c.tc : Thread Cert.Kernel3Ideal.nD Cert.Kernel3Ideal.τ).loc Cert.Kernel3Ideal.main_v22_3) = v3 c
          ∧ r.2.mem ((c.tc : Thread Cert.Kernel3Ideal.nD Cert.Kernel3Ideal.τ).loc Cert.Kernel3Ideal.main_v22_2) = v4 c
          ∧ r.2.mem ((c.tc : Thread Cert.Kernel3Ideal.nD Cert.Kernel3Ideal.τ).loc Cert.Kernel3Ideal.main_v22_4) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_v68) = v1 c
          ∧ r.2.mem ((c.tc : Thread Cert.Reference3Ideal.nD Cert.Reference3Ideal.τ).loc Cert.Reference3Ideal.main_v81) = v2 c
          ∧ r.2.mem ((c.tc : Thread Cert.Reference3Ideal.nD Cert.Reference3Ideal.τ).loc Cert.Reference3Ideal.main_v82) = v3 c
          ∧ r.2.mem ((c.tc : Thread Cert.Reference3Ideal.nD Cert.Reference3Ideal.τ).loc Cert.Reference3Ideal.main_v85) = v4 c
          ∧ r.2.mem ((c.tc : Thread Cert.Reference3Ideal.nD Cert.Reference3Ideal.τ).loc Cert.Reference3Ideal.main_v86) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)) (v2 : (c : Dev Cert.Kernel8Ideal.nD) → Buf (Elt Ideal) ((c.tc : Thread Cert.Kernel8Ideal.nD Cert.Kernel8Ideal.τ).loc Cert.Kernel8Ideal.main_v3_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_v3_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v40) = v0 c
          ∧ r.2.mem ((c.tc : Thread Cert.Reference8Ideal.nD Cert.Reference8Ideal.τ).loc Cert.Reference8Ideal.main_v0) = v1 c
          ∧ r.2.mem ((c.tc : Thread Cert.Reference8Ideal.nD Cert.Reference8Ideal.τ).loc Cert.Reference8Ideal.main_v41) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v5_0)) (v1 : (c : Dev Cert.Kernel9Ideal.nD) → Buf (Elt Ideal) ((c.tc : Thread Cert.Kernel9Ideal.nD Cert.Kernel9Ideal.τ).loc Cert.Kernel9Ideal.main_v5_1)) (v2 : (c : Dev Cert.Kernel9Ideal.nD) → Buf (Elt Ideal) ((c.tc : Thread Cert.Kernel9Ideal.nD Cert.Kernel9Ideal.τ).loc Cert.Kernel9Ideal.main_v5_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_0) = v0 c
          ∧ r.2.mem ((c.tc : Thread Cert.Kernel9Ideal.nD Cert.Kernel9Ideal.τ).loc Cert.Kernel9Ideal.main_v5_1) = v1 c
          ∧ r.2.mem ((c.tc : Thread Cert.Kernel9Ideal.nD Cert.Kernel9Ideal.τ).loc Cert.Kernel9Ideal.main_v5_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v17) = v1 c
          ∧ r.2.mem ((c.tc : Thread Cert.Reference9Ideal.nD Cert.Reference9Ideal.τ).loc Cert.Reference9Ideal.main_v21) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v5_0)) (v1 : (c : Dev Cert.Kernel10Ideal.nD) → Buf (Elt Ideal) ((c.tc : Thread Cert.Kernel10Ideal.nD Cert.Kernel10Ideal.τ).loc Cert.Kernel10Ideal.main_v5_1)) (v2 : (c : Dev Cert.Kernel10Ideal.nD) → Buf (Elt Ideal) ((c.tc : Thread Cert.Kernel10Ideal.nD Cert.Kernel10Ideal.τ).loc Cert.Kernel10Ideal.main_v5_2)) (v3 : (c : Dev Cert.Kernel10Ideal.nD) → Buf (Elt Ideal) ((c.tc : Thread Cert.Kernel10Ideal.nD Cert.Kernel10Ideal.τ).loc Cert.Kernel10Ideal.main_v5_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5_0) = v0 c
          ∧ r.2.mem ((c.tc : Thread Cert.Kernel10Ideal.nD Cert.Kernel10Ideal.τ).loc Cert.Kernel10Ideal.main_v5_1) = v1 c
          ∧ r.2.mem ((c.tc : Thread Cert.Kernel10Ideal.nD Cert.Kernel10Ideal.τ).loc Cert.Kernel10Ideal.main_v5_2) = v2 c
          ∧ r.2.mem ((c.tc : Thread Cert.Kernel10Ideal.nD Cert.Kernel10Ideal.τ).loc Cert.Kernel10Ideal.main_v5_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_v17) = v1 c
          ∧ r.2.mem ((c.tc : Thread Cert.Reference10Ideal.nD Cert.Reference10Ideal.τ).loc Cert.Reference10Ideal.main_v36) = v2 c
          ∧ r.2.mem ((c.tc : Thread Cert.Reference10Ideal.nD Cert.Reference10Ideal.τ).loc Cert.Reference10Ideal.main_v38) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v24) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v26) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v24) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v26) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)) (v2 : (c : Dev Cert.Kernel13Ideal.nD) → Buf (Elt Ideal) ((c.tc : Thread Cert.Kernel13Ideal.nD Cert.Kernel13Ideal.τ).loc Cert.Kernel13Ideal.main_v4_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_v4_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v24) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v26) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v24) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v26) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)
      ∧ m' ((c.tc : Thread Cert.Reference15Ideal.nD Cert.Reference15Ideal.τ).loc Cert.Reference15Ideal.main_arg11) = m ((c.tc : Thread Cert.Kernel15Ideal.nD Cert.Kernel15Ideal.τ).loc Cert.Kernel15Ideal.main_arg11)
      ∧ m' ((c.tc : Thread Cert.Reference15Ideal.nD Cert.Reference15Ideal.τ).loc Cert.Reference15Ideal.main_arg12) = m ((c.tc : Thread Cert.Kernel15Ideal.nD Cert.Kernel15Ideal.τ).loc Cert.Kernel15Ideal.main_arg12)
      ∧ m' ((c.tc : Thread Cert.Reference15Ideal.nD Cert.Reference15Ideal.τ).loc Cert.Reference15Ideal.main_arg13) = m ((c.tc : Thread Cert.Kernel15Ideal.nD Cert.Kernel15Ideal.τ).loc Cert.Kernel15Ideal.main_arg13)
      ∧ m' ((c.tc : Thread Cert.Reference15Ideal.nD Cert.Reference15Ideal.τ).loc Cert.Reference15Ideal.main_arg14) = m ((c.tc : Thread Cert.Kernel15Ideal.nD Cert.Kernel15Ideal.τ).loc Cert.Kernel15Ideal.main_arg14)
      ∧ m' ((c.tc : Thread Cert.Reference15Ideal.nD Cert.Reference15Ideal.τ).loc Cert.Reference15Ideal.main_arg15) = m ((c.tc : Thread Cert.Kernel15Ideal.nD Cert.Kernel15Ideal.τ).loc Cert.Kernel15Ideal.main_arg15)
      ∧ m' ((c.tc : Thread Cert.Reference15Ideal.nD Cert.Reference15Ideal.τ).loc Cert.Reference15Ideal.main_arg16) = m ((c.tc : Thread Cert.Kernel15Ideal.nD Cert.Kernel15Ideal.τ).loc Cert.Kernel15Ideal.main_arg16)
      ∧ m' ((c.tc : Thread Cert.Reference15Ideal.nD Cert.Reference15Ideal.τ).loc Cert.Reference15Ideal.main_arg17) = m ((c.tc : Thread Cert.Kernel15Ideal.nD Cert.Kernel15Ideal.τ).loc Cert.Kernel15Ideal.main_arg17)
      ∧ m' ((c.tc : Thread Cert.Reference15Ideal.nD Cert.Reference15Ideal.τ).loc Cert.Reference15Ideal.main_arg18) = m ((c.tc : Thread Cert.Kernel15Ideal.nD Cert.Kernel15Ideal.τ).loc Cert.Kernel15Ideal.main_arg18)
      ∧ m' ((c.tc : Thread Cert.Reference15Ideal.nD Cert.Reference15Ideal.τ).loc Cert.Reference15Ideal.main_arg19) = m ((c.tc : Thread Cert.Kernel15Ideal.nD Cert.Kernel15Ideal.τ).loc Cert.Kernel15Ideal.main_arg19)
      ∧ m' ((c.tc : Thread Cert.Reference15Ideal.nD Cert.Reference15Ideal.τ).loc Cert.Reference15Ideal.main_arg20) = m ((c.tc : Thread Cert.Kernel15Ideal.nD Cert.Kernel15Ideal.τ).loc Cert.Kernel15Ideal.main_arg20)
      ∧ m' ((c.tc : Thread Cert.Reference15Ideal.nD Cert.Reference15Ideal.τ).loc Cert.Reference15Ideal.main_arg21) = m ((c.tc : Thread Cert.Kernel15Ideal.nD Cert.Kernel15Ideal.τ).loc Cert.Kernel15Ideal.main_arg21)
      ∧ m' ((c.tc : Thread Cert.Reference15Ideal.nD Cert.Reference15Ideal.τ).loc Cert.Reference15Ideal.main_arg22) = m ((c.tc : Thread Cert.Kernel15Ideal.nD Cert.Kernel15Ideal.τ).loc Cert.Kernel15Ideal.main_arg22)
      ∧ m' ((c.tc : Thread Cert.Reference15Ideal.nD Cert.Reference15Ideal.τ).loc Cert.Reference15Ideal.main_arg23) = m ((c.tc : Thread Cert.Kernel15Ideal.nD Cert.Kernel15Ideal.τ).loc Cert.Kernel15Ideal.main_arg23)
      ∧ m' ((c.tc : Thread Cert.Reference15Ideal.nD Cert.Reference15Ideal.τ).loc Cert.Reference15Ideal.main_arg24) = m ((c.tc : Thread Cert.Kernel15Ideal.nD Cert.Kernel15Ideal.τ).loc Cert.Kernel15Ideal.main_arg24)
      ∧ m' ((c.tc : Thread Cert.Reference15Ideal.nD Cert.Reference15Ideal.τ).loc Cert.Reference15Ideal.main_arg25) = m ((c.tc : Thread Cert.Kernel15Ideal.nD Cert.Kernel15Ideal.τ).loc Cert.Kernel15Ideal.main_arg25)
      ∧ m' ((c.tc : Thread Cert.Reference15Ideal.nD Cert.Reference15Ideal.τ).loc Cert.Reference15Ideal.main_arg26) = m ((c.tc : Thread Cert.Kernel15Ideal.nD Cert.Kernel15Ideal.τ).loc Cert.Kernel15Ideal.main_arg26)
      ∧ m' ((c.tc : Thread Cert.Reference15Ideal.nD Cert.Reference15Ideal.τ).loc Cert.Reference15Ideal.main_arg27) = m ((c.tc : Thread Cert.Kernel15Ideal.nD Cert.Kernel15Ideal.τ).loc Cert.Kernel15Ideal.main_arg27)
      ∧ m' ((c.tc : Thread Cert.Reference15Ideal.nD Cert.Reference15Ideal.τ).loc Cert.Reference15Ideal.main_arg28) = m ((c.tc : Thread Cert.Kernel15Ideal.nD Cert.Kernel15Ideal.τ).loc Cert.Kernel15Ideal.main_arg28)
      ∧ m' ((c.tc : Thread Cert.Reference15Ideal.nD Cert.Reference15Ideal.τ).loc Cert.Reference15Ideal.main_arg29) = m ((c.tc : Thread Cert.Kernel15Ideal.nD Cert.Kernel15Ideal.τ).loc Cert.Kernel15Ideal.main_arg29)
      ∧ m' ((c.tc : Thread Cert.Reference15Ideal.nD Cert.Reference15Ideal.τ).loc Cert.Reference15Ideal.main_arg30) = m ((c.tc : Thread Cert.Kernel15Ideal.nD Cert.Kernel15Ideal.τ).loc Cert.Kernel15Ideal.main_arg30)
      ∧ m' ((c.tc : Thread Cert.Reference15Ideal.nD Cert.Reference15Ideal.τ).loc Cert.Reference15Ideal.main_arg31) = m ((c.tc : Thread Cert.Kernel15Ideal.nD Cert.Kernel15Ideal.τ).loc Cert.Kernel15Ideal.main_arg31)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)) (v4 : (c : Dev Cert.Kernel15Ideal.nD) → Buf (Elt Ideal) ((c.tc : Thread Cert.Kernel15Ideal.nD Cert.Kernel15Ideal.τ).loc Cert.Kernel15Ideal.main_v0_4)) (v5 : (c : Dev Cert.Kernel15Ideal.nD) → Buf (Elt Ideal) ((c.tc : Thread Cert.Kernel15Ideal.nD Cert.Kernel15Ideal.τ).loc Cert.Kernel15Ideal.main_v0_5)) (v6 : (c : Dev Cert.Kernel15Ideal.nD) → Buf (Elt Ideal) ((c.tc : Thread Cert.Kernel15Ideal.nD Cert.Kernel15Ideal.τ).loc Cert.Kernel15Ideal.main_v0_6)) (v7 : (c : Dev Cert.Kernel15Ideal.nD) → Buf (Elt Ideal) ((c.tc : Thread Cert.Kernel15Ideal.nD Cert.Kernel15Ideal.τ).loc Cert.Kernel15Ideal.main_v0_7)) (v8 : (c : Dev Cert.Kernel15Ideal.nD) → Buf (Elt Ideal) ((c.tc : Thread Cert.Kernel15Ideal.nD Cert.Kernel15Ideal.τ).loc Cert.Kernel15Ideal.main_v0_8)) (v9 : (c : Dev Cert.Kernel15Ideal.nD) → Buf (Elt Ideal) ((c.tc : Thread Cert.Kernel15Ideal.nD Cert.Kernel15Ideal.τ).loc Cert.Kernel15Ideal.main_v0_9)) (v10 : (c : Dev Cert.Kernel15Ideal.nD) → Buf (Elt Ideal) ((c.tc : Thread Cert.Kernel15Ideal.nD Cert.Kernel15Ideal.τ).loc Cert.Kernel15Ideal.main_v0_10)) (v11 : (c : Dev Cert.Kernel15Ideal.nD) → Buf (Elt Ideal) ((c.tc : Thread Cert.Kernel15Ideal.nD Cert.Kernel15Ideal.τ).loc Cert.Kernel15Ideal.main_v0_11)) (v12 : (c : Dev Cert.Kernel15Ideal.nD) → Buf (Elt Ideal) ((c.tc : Thread Cert.Kernel15Ideal.nD Cert.Kernel15Ideal.τ).loc Cert.Kernel15Ideal.main_v0_12)) (v13 : (c : Dev Cert.Kernel15Ideal.nD) → Buf (Elt Ideal) ((c.tc : Thread Cert.Kernel15Ideal.nD Cert.Kernel15Ideal.τ).loc Cert.Kernel15Ideal.main_v0_13)) (v14 : (c : Dev Cert.Kernel15Ideal.nD) → Buf (Elt Ideal) ((c.tc : Thread Cert.Kernel15Ideal.nD Cert.Kernel15Ideal.τ).loc Cert.Kernel15Ideal.main_v0_14)) (v15 : (c : Dev Cert.Kernel15Ideal.nD) → Buf (Elt Ideal) ((c.tc : Thread Cert.Kernel15Ideal.nD Cert.Kernel15Ideal.τ).loc Cert.Kernel15Ideal.main_v0_15)) (v16 : (c : Dev Cert.Kernel15Ideal.nD) → Buf (Elt Ideal) ((c.tc : Thread Cert.Kernel15Ideal.nD Cert.Kernel15Ideal.τ).loc Cert.Kernel15Ideal.main_v0_16)) (v17 : (c : Dev Cert.Kernel15Ideal.nD) → Buf (Elt Ideal) ((c.tc : Thread Cert.Kernel15Ideal.nD Cert.Kernel15Ideal.τ).loc Cert.Kernel15Ideal.main_v0_17)) (v18 : (c : Dev Cert.Kernel15Ideal.nD) → Buf (Elt Ideal) ((c.tc : Thread Cert.Kernel15Ideal.nD Cert.Kernel15Ideal.τ).loc Cert.Kernel15Ideal.main_v0_18)) (v19 : (c : Dev Cert.Kernel15Ideal.nD) → Buf (Elt Ideal) ((c.tc : Thread Cert.Kernel15Ideal.nD Cert.Kernel15Ideal.τ).loc Cert.Kernel15Ideal.main_v0_19)) (v20 : (c : Dev Cert.Kernel15Ideal.nD) → Buf (Elt Ideal) ((c.tc : Thread Cert.Kernel15Ideal.nD Cert.Kernel15Ideal.τ).loc Cert.Kernel15Ideal.main_v0_20)) (v21 : (c : Dev Cert.Kernel15Ideal.nD) → Buf (Elt Ideal) ((c.tc : Thread Cert.Kernel15Ideal.nD Cert.Kernel15Ideal.τ).loc Cert.Kernel15Ideal.main_v0_21)) (v22 : (c : Dev Cert.Kernel15Ideal.nD) → Buf (Elt Ideal) ((c.tc : Thread Cert.Kernel15Ideal.nD Cert.Kernel15Ideal.τ).loc Cert.Kernel15Ideal.main_v0_22)) (v23 : (c : Dev Cert.Kernel15Ideal.nD) → Buf (Elt Ideal) ((c.tc : Thread Cert.Kernel15Ideal.nD Cert.Kernel15Ideal.τ).loc Cert.Kernel15Ideal.main_v0_23)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_v0_4) = v4 c
          ∧ r.2.mem ((c.tc : Thread Cert.Kernel15Ideal.nD Cert.Kernel15Ideal.τ).loc Cert.Kernel15Ideal.main_v0_5) = v5 c
          ∧ r.2.mem ((c.tc : Thread Cert.Kernel15Ideal.nD Cert.Kernel15Ideal.τ).loc Cert.Kernel15Ideal.main_v0_6) = v6 c
          ∧ r.2.mem ((c.tc : Thread Cert.Kernel15Ideal.nD Cert.Kernel15Ideal.τ).loc Cert.Kernel15Ideal.main_v0_7) = v7 c
          ∧ r.2.mem ((c.tc : Thread Cert.Kernel15Ideal.nD Cert.Kernel15Ideal.τ).loc Cert.Kernel15Ideal.main_v0_8) = v8 c
          ∧ r.2.mem ((c.tc : Thread Cert.Kernel15Ideal.nD Cert.Kernel15Ideal.τ).loc Cert.Kernel15Ideal.main_v0_9) = v9 c
          ∧ r.2.mem ((c.tc : Thread Cert.Kernel15Ideal.nD Cert.Kernel15Ideal.τ).loc Cert.Kernel15Ideal.main_v0_10) = v10 c
          ∧ r.2.mem ((c.tc : Thread Cert.Kernel15Ideal.nD Cert.Kernel15Ideal.τ).loc Cert.Kernel15Ideal.main_v0_11) = v11 c
          ∧ r.2.mem ((c.tc : Thread Cert.Kernel15Ideal.nD Cert.Kernel15Ideal.τ).loc Cert.Kernel15Ideal.main_v0_12) = v12 c
          ∧ r.2.mem ((c.tc : Thread Cert.Kernel15Ideal.nD Cert.Kernel15Ideal.τ).loc Cert.Kernel15Ideal.main_v0_13) = v13 c
          ∧ r.2.mem ((c.tc : Thread Cert.Kernel15Ideal.nD Cert.Kernel15Ideal.τ).loc Cert.Kernel15Ideal.main_v0_14) = v14 c
          ∧ r.2.mem ((c.tc : Thread Cert.Kernel15Ideal.nD Cert.Kernel15Ideal.τ).loc Cert.Kernel15Ideal.main_v0_15) = v15 c
          ∧ r.2.mem ((c.tc : Thread Cert.Kernel15Ideal.nD Cert.Kernel15Ideal.τ).loc Cert.Kernel15Ideal.main_v0_16) = v16 c
          ∧ r.2.mem ((c.tc : Thread Cert.Kernel15Ideal.nD Cert.Kernel15Ideal.τ).loc Cert.Kernel15Ideal.main_v0_17) = v17 c
          ∧ r.2.mem ((c.tc : Thread Cert.Kernel15Ideal.nD Cert.Kernel15Ideal.τ).loc Cert.Kernel15Ideal.main_v0_18) = v18 c
          ∧ r.2.mem ((c.tc : Thread Cert.Kernel15Ideal.nD Cert.Kernel15Ideal.τ).loc Cert.Kernel15Ideal.main_v0_19) = v19 c
          ∧ r.2.mem ((c.tc : Thread Cert.Kernel15Ideal.nD Cert.Kernel15Ideal.τ).loc Cert.Kernel15Ideal.main_v0_20) = v20 c
          ∧ r.2.mem ((c.tc : Thread Cert.Kernel15Ideal.nD Cert.Kernel15Ideal.τ).loc Cert.Kernel15Ideal.main_v0_21) = v21 c
          ∧ r.2.mem ((c.tc : Thread Cert.Kernel15Ideal.nD Cert.Kernel15Ideal.τ).loc Cert.Kernel15Ideal.main_v0_22) = v22 c
          ∧ r.2.mem ((c.tc : Thread Cert.Kernel15Ideal.nD Cert.Kernel15Ideal.τ).loc Cert.Kernel15Ideal.main_v0_23) = v23 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
          ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
          ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
          ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
          ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
          ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15)
          ∧ r.2.mem ((c.tc : Thread Cert.Kernel15Ideal.nD Cert.Kernel15Ideal.τ).loc Cert.Kernel15Ideal.main_arg16) = m ((c.tc : Thread Cert.Kernel15Ideal.nD Cert.Kernel15Ideal.τ).loc Cert.Kernel15Ideal.main_arg16)
          ∧ r.2.mem ((c.tc : Thread Cert.Kernel15Ideal.nD Cert.Kernel15Ideal.τ).loc Cert.Kernel15Ideal.main_arg17) = m ((c.tc : Thread Cert.Kernel15Ideal.nD Cert.Kernel15Ideal.τ).loc Cert.Kernel15Ideal.main_arg17)
          ∧ r.2.mem ((c.tc : Thread Cert.Kernel15Ideal.nD Cert.Kernel15Ideal.τ).loc Cert.Kernel15Ideal.main_arg18) = m ((c.tc : Thread Cert.Kernel15Ideal.nD Cert.Kernel15Ideal.τ).loc Cert.Kernel15Ideal.main_arg18)
          ∧ r.2.mem ((c.tc : Thread Cert.Kernel15Ideal.nD Cert.Kernel15Ideal.τ).loc Cert.Kernel15Ideal.main_arg19) = m ((c.tc : Thread Cert.Kernel15Ideal.nD Cert.Kernel15Ideal.τ).loc Cert.Kernel15Ideal.main_arg19)
          ∧ r.2.mem ((c.tc : Thread Cert.Kernel15Ideal.nD Cert.Kernel15Ideal.τ).loc Cert.Kernel15Ideal.main_arg20) = m ((c.tc : Thread Cert.Kernel15Ideal.nD Cert.Kernel15Ideal.τ).loc Cert.Kernel15Ideal.main_arg20)
          ∧ r.2.mem ((c.tc : Thread Cert.Kernel15Ideal.nD Cert.Kernel15Ideal.τ).loc Cert.Kernel15Ideal.main_arg21) = m ((c.tc : Thread Cert.Kernel15Ideal.nD Cert.Kernel15Ideal.τ).loc Cert.Kernel15Ideal.main_arg21)
          ∧ r.2.mem ((c.tc : Thread Cert.Kernel15Ideal.nD Cert.Kernel15Ideal.τ).loc Cert.Kernel15Ideal.main_arg22) = m ((c.tc : Thread Cert.Kernel15Ideal.nD Cert.Kernel15Ideal.τ).loc Cert.Kernel15Ideal.main_arg22)
          ∧ r.2.mem ((c.tc : Thread Cert.Kernel15Ideal.nD Cert.Kernel15Ideal.τ).loc Cert.Kernel15Ideal.main_arg23) = m ((c.tc : Thread Cert.Kernel15Ideal.nD Cert.Kernel15Ideal.τ).loc Cert.Kernel15Ideal.main_arg23)
          ∧ r.2.mem ((c.tc : Thread Cert.Kernel15Ideal.nD Cert.Kernel15Ideal.τ).loc Cert.Kernel15Ideal.main_arg24) = m ((c.tc : Thread Cert.Kernel15Ideal.nD Cert.Kernel15Ideal.τ).loc Cert.Kernel15Ideal.main_arg24)
          ∧ r.2.mem ((c.tc : Thread Cert.Kernel15Ideal.nD Cert.Kernel15Ideal.τ).loc Cert.Kernel15Ideal.main_arg25) = m ((c.tc : Thread Cert.Kernel15Ideal.nD Cert.Kernel15Ideal.τ).loc Cert.Kernel15Ideal.main_arg25)
          ∧ r.2.mem ((c.tc : Thread Cert.Kernel15Ideal.nD Cert.Kernel15Ideal.τ).loc Cert.Kernel15Ideal.main_arg26) = m ((c.tc : Thread Cert.Kernel15Ideal.nD Cert.Kernel15Ideal.τ).loc Cert.Kernel15Ideal.main_arg26)
          ∧ r.2.mem ((c.tc : Thread Cert.Kernel15Ideal.nD Cert.Kernel15Ideal.τ).loc Cert.Kernel15Ideal.main_arg27) = m ((c.tc : Thread Cert.Kernel15Ideal.nD Cert.Kernel15Ideal.τ).loc Cert.Kernel15Ideal.main_arg27)
          ∧ r.2.mem ((c.tc : Thread Cert.Kernel15Ideal.nD Cert.Kernel15Ideal.τ).loc Cert.Kernel15Ideal.main_arg28) = m ((c.tc : Thread Cert.Kernel15Ideal.nD Cert.Kernel15Ideal.τ).loc Cert.Kernel15Ideal.main_arg28)
          ∧ r.2.mem ((c.tc : Thread Cert.Kernel15Ideal.nD Cert.Kernel15Ideal.τ).loc Cert.Kernel15Ideal.main_arg29) = m ((c.tc : Thread Cert.Kernel15Ideal.nD Cert.Kernel15Ideal.τ).loc Cert.Kernel15Ideal.main_arg29)
          ∧ r.2.mem ((c.tc : Thread Cert.Kernel15Ideal.nD Cert.Kernel15Ideal.τ).loc Cert.Kernel15Ideal.main_arg30) = m ((c.tc : Thread Cert.Kernel15Ideal.nD Cert.Kernel15Ideal.τ).loc Cert.Kernel15Ideal.main_arg30)
          ∧ r.2.mem ((c.tc : Thread Cert.Kernel15Ideal.nD Cert.Kernel15Ideal.τ).loc Cert.Kernel15Ideal.main_arg31) = m ((c.tc : Thread Cert.Kernel15Ideal.nD Cert.Kernel15Ideal.τ).loc Cert.Kernel15Ideal.main_arg31))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v47) = v1 c
          ∧ r.2.mem ((c.tc : Thread Cert.Reference15Ideal.nD Cert.Reference15Ideal.τ).loc Cert.Reference15Ideal.main_v71) = v2 c
          ∧ r.2.mem ((c.tc : Thread Cert.Reference15Ideal.nD Cert.Reference15Ideal.τ).loc Cert.Reference15Ideal.main_v95) = v3 c
          ∧ r.2.mem ((c.tc : Thread Cert.Reference15Ideal.nD Cert.Reference15Ideal.τ).loc Cert.Reference15Ideal.main_v119) = v4 c
          ∧ r.2.mem ((c.tc : Thread Cert.Reference15Ideal.nD Cert.Reference15Ideal.τ).loc Cert.Reference15Ideal.main_v143) = v5 c
          ∧ r.2.mem ((c.tc : Thread Cert.Reference15Ideal.nD Cert.Reference15Ideal.τ).loc Cert.Reference15Ideal.main_v167) = v6 c
          ∧ r.2.mem ((c.tc : Thread Cert.Reference15Ideal.nD Cert.Reference15Ideal.τ).loc Cert.Reference15Ideal.main_v191) = v7 c
          ∧ r.2.mem ((c.tc : Thread Cert.Reference15Ideal.nD Cert.Reference15Ideal.τ).loc Cert.Reference15Ideal.main_v4) = v8 c
          ∧ r.2.mem ((c.tc : Thread Cert.Reference15Ideal.nD Cert.Reference15Ideal.τ).loc Cert.Reference15Ideal.main_v28) = v9 c
          ∧ r.2.mem ((c.tc : Thread Cert.Reference15Ideal.nD Cert.Reference15Ideal.τ).loc Cert.Reference15Ideal.main_v52) = v10 c
          ∧ r.2.mem ((c.tc : Thread Cert.Reference15Ideal.nD Cert.Reference15Ideal.τ).loc Cert.Reference15Ideal.main_v76) = v11 c
          ∧ r.2.mem ((c.tc : Thread Cert.Reference15Ideal.nD Cert.Reference15Ideal.τ).loc Cert.Reference15Ideal.main_v100) = v12 c
          ∧ r.2.mem ((c.tc : Thread Cert.Reference15Ideal.nD Cert.Reference15Ideal.τ).loc Cert.Reference15Ideal.main_v124) = v13 c
          ∧ r.2.mem ((c.tc : Thread Cert.Reference15Ideal.nD Cert.Reference15Ideal.τ).loc Cert.Reference15Ideal.main_v148) = v14 c
          ∧ r.2.mem ((c.tc : Thread Cert.Reference15Ideal.nD Cert.Reference15Ideal.τ).loc Cert.Reference15Ideal.main_v172) = v15 c
          ∧ r.2.mem ((c.tc : Thread Cert.Reference15Ideal.nD Cert.Reference15Ideal.τ).loc Cert.Reference15Ideal.main_v10) = v16 c
          ∧ r.2.mem ((c.tc : Thread Cert.Reference15Ideal.nD Cert.Reference15Ideal.τ).loc Cert.Reference15Ideal.main_v34) = v17 c
          ∧ r.2.mem ((c.tc : Thread Cert.Reference15Ideal.nD Cert.Reference15Ideal.τ).loc Cert.Reference15Ideal.main_v58) = v18 c
          ∧ r.2.mem ((c.tc : Thread Cert.Reference15Ideal.nD Cert.Reference15Ideal.τ).loc Cert.Reference15Ideal.main_v82) = v19 c
          ∧ r.2.mem ((c.tc : Thread Cert.Reference15Ideal.nD Cert.Reference15Ideal.τ).loc Cert.Reference15Ideal.main_v106) = v20 c
          ∧ r.2.mem ((c.tc : Thread Cert.Reference15Ideal.nD Cert.Reference15Ideal.τ).loc Cert.Reference15Ideal.main_v130) = v21 c
          ∧ r.2.mem ((c.tc : Thread Cert.Reference15Ideal.nD Cert.Reference15Ideal.τ).loc Cert.Reference15Ideal.main_v154) = v22 c
          ∧ r.2.mem ((c.tc : Thread Cert.Reference15Ideal.nD Cert.Reference15Ideal.τ).loc Cert.Reference15Ideal.main_v178) = v23 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10)
          ∧ r.2.mem ((c.tc : Thread Cert.Reference15Ideal.nD Cert.Reference15Ideal.τ).loc Cert.Reference15Ideal.main_arg11) = m' ((c.tc : Thread Cert.Reference15Ideal.nD Cert.Reference15Ideal.τ).loc Cert.Reference15Ideal.main_arg11)
          ∧ r.2.mem ((c.tc : Thread Cert.Reference15Ideal.nD Cert.Reference15Ideal.τ).loc Cert.Reference15Ideal.main_arg12) = m' ((c.tc : Thread Cert.Reference15Ideal.nD Cert.Reference15Ideal.τ).loc Cert.Reference15Ideal.main_arg12)
          ∧ r.2.mem ((c.tc : Thread Cert.Reference15Ideal.nD Cert.Reference15Ideal.τ).loc Cert.Reference15Ideal.main_arg13) = m' ((c.tc : Thread Cert.Reference15Ideal.nD Cert.Reference15Ideal.τ).loc Cert.Reference15Ideal.main_arg13)
          ∧ r.2.mem ((c.tc : Thread Cert.Reference15Ideal.nD Cert.Reference15Ideal.τ).loc Cert.Reference15Ideal.main_arg14) = m' ((c.tc : Thread Cert.Reference15Ideal.nD Cert.Reference15Ideal.τ).loc Cert.Reference15Ideal.main_arg14)
          ∧ r.2.mem ((c.tc : Thread Cert.Reference15Ideal.nD Cert.Reference15Ideal.τ).loc Cert.Reference15Ideal.main_arg15) = m' ((c.tc : Thread Cert.Reference15Ideal.nD Cert.Reference15Ideal.τ).loc Cert.Reference15Ideal.main_arg15)
          ∧ r.2.mem ((c.tc : Thread Cert.Reference15Ideal.nD Cert.Reference15Ideal.τ).loc Cert.Reference15Ideal.main_arg16) = m' ((c.tc : Thread Cert.Reference15Ideal.nD Cert.Reference15Ideal.τ).loc Cert.Reference15Ideal.main_arg16)
          ∧ r.2.mem ((c.tc : Thread Cert.Reference15Ideal.nD Cert.Reference15Ideal.τ).loc Cert.Reference15Ideal.main_arg17) = m' ((c.tc : Thread Cert.Reference15Ideal.nD Cert.Reference15Ideal.τ).loc Cert.Reference15Ideal.main_arg17)
          ∧ r.2.mem ((c.tc : Thread Cert.Reference15Ideal.nD Cert.Reference15Ideal.τ).loc Cert.Reference15Ideal.main_arg18) = m' ((c.tc : Thread Cert.Reference15Ideal.nD Cert.Reference15Ideal.τ).loc Cert.Reference15Ideal.main_arg18)
          ∧ r.2.mem ((c.tc : Thread Cert.Reference15Ideal.nD Cert.Reference15Ideal.τ).loc Cert.Reference15Ideal.main_arg19) = m' ((c.tc : Thread Cert.Reference15Ideal.nD Cert.Reference15Ideal.τ).loc Cert.Reference15Ideal.main_arg19)
          ∧ r.2.mem ((c.tc : Thread Cert.Reference15Ideal.nD Cert.Reference15Ideal.τ).loc Cert.Reference15Ideal.main_arg20) = m' ((c.tc : Thread Cert.Reference15Ideal.nD Cert.Reference15Ideal.τ).loc Cert.Reference15Ideal.main_arg20)
          ∧ r.2.mem ((c.tc : Thread Cert.Reference15Ideal.nD Cert.Reference15Ideal.τ).loc Cert.Reference15Ideal.main_arg21) = m' ((c.tc : Thread Cert.Reference15Ideal.nD Cert.Reference15Ideal.τ).loc Cert.Reference15Ideal.main_arg21)
          ∧ r.2.mem ((c.tc : Thread Cert.Reference15Ideal.nD Cert.Reference15Ideal.τ).loc Cert.Reference15Ideal.main_arg22) = m' ((c.tc : Thread Cert.Reference15Ideal.nD Cert.Reference15Ideal.τ).loc Cert.Reference15Ideal.main_arg22)
          ∧ r.2.mem ((c.tc : Thread Cert.Reference15Ideal.nD Cert.Reference15Ideal.τ).loc Cert.Reference15Ideal.main_arg23) = m' ((c.tc : Thread Cert.Reference15Ideal.nD Cert.Reference15Ideal.τ).loc Cert.Reference15Ideal.main_arg23)
          ∧ r.2.mem ((c.tc : Thread Cert.Reference15Ideal.nD Cert.Reference15Ideal.τ).loc Cert.Reference15Ideal.main_arg24) = m' ((c.tc : Thread Cert.Reference15Ideal.nD Cert.Reference15Ideal.τ).loc Cert.Reference15Ideal.main_arg24)
          ∧ r.2.mem ((c.tc : Thread Cert.Reference15Ideal.nD Cert.Reference15Ideal.τ).loc Cert.Reference15Ideal.main_arg25) = m' ((c.tc : Thread Cert.Reference15Ideal.nD Cert.Reference15Ideal.τ).loc Cert.Reference15Ideal.main_arg25)
          ∧ r.2.mem ((c.tc : Thread Cert.Reference15Ideal.nD Cert.Reference15Ideal.τ).loc Cert.Reference15Ideal.main_arg26) = m' ((c.tc : Thread Cert.Reference15Ideal.nD Cert.Reference15Ideal.τ).loc Cert.Reference15Ideal.main_arg26)
          ∧ r.2.mem ((c.tc : Thread Cert.Reference15Ideal.nD Cert.Reference15Ideal.τ).loc Cert.Reference15Ideal.main_arg27) = m' ((c.tc : Thread Cert.Reference15Ideal.nD Cert.Reference15Ideal.τ).loc Cert.Reference15Ideal.main_arg27)
          ∧ r.2.mem ((c.tc : Thread Cert.Reference15Ideal.nD Cert.Reference15Ideal.τ).loc Cert.Reference15Ideal.main_arg28) = m' ((c.tc : Thread Cert.Reference15Ideal.nD Cert.Reference15Ideal.τ).loc Cert.Reference15Ideal.main_arg28)
          ∧ r.2.mem ((c.tc : Thread Cert.Reference15Ideal.nD Cert.Reference15Ideal.τ).loc Cert.Reference15Ideal.main_arg29) = m' ((c.tc : Thread Cert.Reference15Ideal.nD Cert.Reference15Ideal.τ).loc Cert.Reference15Ideal.main_arg29)
          ∧ r.2.mem ((c.tc : Thread Cert.Reference15Ideal.nD Cert.Reference15Ideal.τ).loc Cert.Reference15Ideal.main_arg30) = m' ((c.tc : Thread Cert.Reference15Ideal.nD Cert.Reference15Ideal.τ).loc Cert.Reference15Ideal.main_arg30)
          ∧ r.2.mem ((c.tc : Thread Cert.Reference15Ideal.nD Cert.Reference15Ideal.τ).loc Cert.Reference15Ideal.main_arg31) = m' ((c.tc : Thread Cert.Reference15Ideal.nD Cert.Reference15Ideal.τ).loc Cert.Reference15Ideal.main_arg31))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v12) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v12) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)) →
    ∃ (v0 : (c : Dev Cert.Kernel19Ideal.nD) → Buf (Elt Ideal) ((c.tc : Thread Cert.Kernel19Ideal.nD Cert.Kernel19Ideal.τ).loc Cert.Kernel19Ideal.main_v20)) (v1 : (c : Dev Cert.Kernel19Ideal.nD) → Buf (Elt Ideal) ((c.tc : Thread Cert.Kernel19Ideal.nD Cert.Kernel19Ideal.τ).loc Cert.Kernel19Ideal.main_v3)) (v2 : (c : Dev Cert.Kernel19Ideal.nD) → Buf (Elt Ideal) ((c.tc : Thread Cert.Kernel19Ideal.nD Cert.Kernel19Ideal.τ).loc Cert.Kernel19Ideal.main_v5)) (v3 : (c : Dev Cert.Kernel19Ideal.nD) → Buf (Elt Ideal) ((c.tc : Thread Cert.Kernel19Ideal.nD Cert.Kernel19Ideal.τ).loc Cert.Kernel19Ideal.main_v7)) (v4 : (c : Dev Cert.Kernel19Ideal.nD) → Buf (Elt Ideal) ((c.tc : Thread Cert.Kernel19Ideal.nD Cert.Kernel19Ideal.τ).loc Cert.Kernel19Ideal.main_v9)) (v5 : (c : Dev Cert.Kernel19Ideal.nD) → Buf (Elt Ideal) ((c.tc : Thread Cert.Kernel19Ideal.nD Cert.Kernel19Ideal.τ).loc Cert.Kernel19Ideal.main_v11)) (v6 : (c : Dev Cert.Kernel19Ideal.nD) → Buf (Elt Ideal) ((c.tc : Thread Cert.Kernel19Ideal.nD Cert.Kernel19Ideal.τ).loc Cert.Kernel19Ideal.main_v13)) (v7 : (c : Dev Cert.Kernel19Ideal.nD) → Buf (Elt Ideal) ((c.tc : Thread Cert.Kernel19Ideal.nD Cert.Kernel19Ideal.τ).loc Cert.Kernel19Ideal.main_v15)) (v8 : (c : Dev Cert.Kernel19Ideal.nD) → Buf (Elt Ideal) ((c.tc : Thread Cert.Kernel19Ideal.nD Cert.Kernel19Ideal.τ).loc Cert.Kernel19Ideal.main_v17)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v20) = v0 c
          ∧ r.2.mem ((c.tc : Thread Cert.Kernel19Ideal.nD Cert.Kernel19Ideal.τ).loc Cert.Kernel19Ideal.main_v3) = v1 c
          ∧ r.2.mem ((c.tc : Thread Cert.Kernel19Ideal.nD Cert.Kernel19Ideal.τ).loc Cert.Kernel19Ideal.main_v5) = v2 c
          ∧ r.2.mem ((c.tc : Thread Cert.Kernel19Ideal.nD Cert.Kernel19Ideal.τ).loc Cert.Kernel19Ideal.main_v7) = v3 c
          ∧ r.2.mem ((c.tc : Thread Cert.Kernel19Ideal.nD Cert.Kernel19Ideal.τ).loc Cert.Kernel19Ideal.main_v9) = v4 c
          ∧ r.2.mem ((c.tc : Thread Cert.Kernel19Ideal.nD Cert.Kernel19Ideal.τ).loc Cert.Kernel19Ideal.main_v11) = v5 c
          ∧ r.2.mem ((c.tc : Thread Cert.Kernel19Ideal.nD Cert.Kernel19Ideal.τ).loc Cert.Kernel19Ideal.main_v13) = v6 c
          ∧ r.2.mem ((c.tc : Thread Cert.Kernel19Ideal.nD Cert.Kernel19Ideal.τ).loc Cert.Kernel19Ideal.main_v15) = v7 c
          ∧ r.2.mem ((c.tc : Thread Cert.Kernel19Ideal.nD Cert.Kernel19Ideal.τ).loc Cert.Kernel19Ideal.main_v17) = v8 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v22) = v0 c
          ∧ r.2.mem ((c.tc : Thread Cert.Reference19Ideal.nD Cert.Reference19Ideal.τ).loc Cert.Reference19Ideal.main_v12) = v1 c
          ∧ r.2.mem ((c.tc : Thread Cert.Reference19Ideal.nD Cert.Reference19Ideal.τ).loc Cert.Reference19Ideal.main_v13) = v2 c
          ∧ r.2.mem ((c.tc : Thread Cert.Reference19Ideal.nD Cert.Reference19Ideal.τ).loc Cert.Reference19Ideal.main_v14) = v3 c
          ∧ r.2.mem ((c.tc : Thread Cert.Reference19Ideal.nD Cert.Reference19Ideal.τ).loc Cert.Reference19Ideal.main_v15) = v4 c
          ∧ r.2.mem ((c.tc : Thread Cert.Reference19Ideal.nD Cert.Reference19Ideal.τ).loc Cert.Reference19Ideal.main_v16) = v5 c
          ∧ r.2.mem ((c.tc : Thread Cert.Reference19Ideal.nD Cert.Reference19Ideal.τ).loc Cert.Reference19Ideal.main_v17) = v6 c
          ∧ r.2.mem ((c.tc : Thread Cert.Reference19Ideal.nD Cert.Reference19Ideal.τ).loc Cert.Reference19Ideal.main_v18) = v7 c
          ∧ r.2.mem ((c.tc : Thread Cert.Reference19Ideal.nD Cert.Reference19Ideal.τ).loc Cert.Reference19Ideal.main_v19) = v8 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0))

def Claim : Prop :=
  ∃ (hKernel2Ideal : Cert.Kernel2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts),
    quiescent_Kernel2Ideal (hKernel2Ideal := hKernel2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Kernel2Ideal.lean ====
abbrev S4096x1536 : Shape := ⟨2, ![4096, 1536]⟩
abbrev S4096x2560 : Shape := ⟨2, ![4096, 2560]⟩
abbrev S4096x512 : Shape := ⟨2, ![4096, 512]⟩
abbrev S4096x1024 : Shape := ⟨2, ![4096, 1024]⟩
abbrev S1x1x128 : Shape := ⟨3, ![1, 1, 128]⟩
abbrev S1x3x8x256x768 : Shape := ⟨5, ![1, 3, 8, 256, 768]⟩
abbrev S3x8x256x768 : Shape := ⟨4, ![3, 8, 256, 768]⟩
abbrev S4x1x128 : Shape := ⟨3, ![4, 1, 128]⟩
abbrev S256x128 : Shape := ⟨2, ![256, 128]⟩
abbrev S4096x128 : Shape := ⟨2, ![4096, 128]⟩
abbrev S1x1x2x256x768 : Shape := ⟨5, ![1, 1, 2, 256, 768]⟩
abbrev S1x2x256x768 : Shape := ⟨4, ![1, 2, 256, 768]⟩
abbrev S16x128x256 : Shape := ⟨3, ![16, 128, 256]⟩
abbrev S2x256x768 : Shape := ⟨3, ![2, 256, 768]⟩
abbrev S1x128 : Shape := ⟨2, ![1, 128]⟩
abbrev S768x128 : Shape := ⟨2, ![768, 128]⟩
abbrev S256 : Shape := ⟨1, ![256]⟩
abbrev S256x1 : Shape := ⟨2, ![256, 1]⟩
abbrev S256x768 : Shape := ⟨2, ![256, 768]⟩
abbrev S1x256x768 : Shape := ⟨3, ![1, 256, 768]⟩
abbrev S16x1 : Shape := ⟨2, ![16, 1]⟩
abbrev S1x16x768 : Shape := ⟨3, ![1, 16, 768]⟩
abbrev S16x768 : Shape := ⟨2, ![16, 768]⟩
abbrev S1x1x1x16x768 : Shape := ⟨5, ![1, 1, 1, 16, 768]⟩
abbrev S1x1x16x768 : Shape := ⟨4, ![1, 1, 16, 768]⟩
abbrev S128x768 : Shape := ⟨2, ![128, 768]⟩
abbrev S1x128x256 : Shape := ⟨3, ![1, 128, 256]⟩
abbrev S128x256 : Shape := ⟨2, ![128, 256]⟩
abbrev S128 : Shape := ⟨1, ![128]⟩
abbrev S128x128 : Shape := ⟨2, ![128, 128]⟩

abbrev nBuf : Space → Nat
  | .hbm => 14
  | .vmem => 40
  | .smem => 0
  | _ => 0

abbrev bufTy : (tb : Table) → Fin (tcTables nBuf tb) → BufTy
  | .hbm, ⟨0, _⟩ => ⟨S4096x1536, .bf16⟩
  | .hbm, ⟨1, _⟩ => ⟨S4096x2560, .f32⟩
  | .hbm, ⟨2, _⟩ => ⟨S4096x512, .f32⟩
  | .hbm, ⟨3, _⟩ => ⟨S4096x512, .f32⟩
  | .hbm, ⟨4, _⟩ => ⟨S4096x1024, .f32⟩
  | .hbm, ⟨5, _⟩ => ⟨S1x1x128, .f32⟩
  | .hbm, ⟨6, _⟩ => ⟨S1x1x128, .f32⟩
  | .hbm, ⟨7, _⟩ => ⟨S1x3x8x256x768, .f32⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S3x8x256x768, .f32⟩
  | .hbm, ⟨12, _⟩ => ⟨S4x1x128, .f32⟩
  | .hbm, ⟨13, _⟩ => ⟨S4x1x128, .f32⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .f32⟩
  | .local _ .vmem, ⟨7, _⟩ => ⟨S256x128, .f32⟩
  | .local _ .vmem, ⟨8, _⟩ => ⟨S4096x128, .f32⟩
  | .local _ .vmem, ⟨9, _⟩ => ⟨S4096x128, .f32⟩
  | .local _ .vmem, ⟨10, _⟩ => ⟨S1x1x128, .f32⟩
  | .local _ .vmem, ⟨11, _⟩ => ⟨S1x1x128, .f32⟩
  | .local _ .vmem, ⟨12, _⟩ => ⟨S1x1x2x256x768, .f32⟩
  | .local _ .vmem, ⟨13, _⟩ => ⟨S1x1x2x256x768, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .bf16⟩
  | .local _ .vmem, ⟨21, _⟩ => ⟨S256x128, .bf16⟩
  | .local _ .vmem, ⟨22, _⟩ => ⟨S4096x128, .bf16⟩
  | .local _ .vmem, ⟨23, _⟩ => ⟨S4096x128, .bf16⟩
  | .local _ .vmem, ⟨24, _⟩ => ⟨S4096x128, .bf16⟩
  | .local _ .vmem, ⟨25, _⟩ => ⟨S4096x128, .bf16⟩
  | .local _ .vmem, ⟨26, _⟩ => ⟨S1x2x256x768, .f32⟩
  | .local _ .vmem, ⟨27, _⟩ => ⟨S1x2x256x768, .f32⟩
  | .local _ .vmem, ⟨28, _⟩ => ⟨S1x1x128, .f32⟩
  | .local _ .vmem, ⟨29, _⟩ => ⟨S1x1x128, .f32⟩
  | .local _ .vmem, ⟨30, _⟩ => ⟨S1x1x128, .f32⟩
  | .local _ .vmem, ⟨31, _⟩ => ⟨S1x1x128, .f32⟩
  | .local _ .vmem, ⟨32, _⟩ => ⟨S16x128x256, .f32⟩
  | .local _ .vmem, ⟨33, _⟩ => ⟨S16x128x256, .f32⟩
  | .local _ .vmem, ⟨34, _⟩ => ⟨S2x256x768, .f32⟩
  | .local _ .vmem, ⟨35, _⟩ => ⟨S2x256x768, .f32⟩
  | .local _ .vmem, ⟨36, _⟩ => ⟨S2x256x768, .bf16⟩
  | .local _ .vmem, ⟨37, _⟩ => ⟨S2x256x768, .bf16⟩
  | .local _ .vmem, ⟨38, _⟩ => ⟨S256x128, .f32⟩
  | .local _ .vmem, ⟨39, _⟩ => ⟨S256x128, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_scratch7 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c256_i32 : BitVec 32 := 256#32
  let v2 : BitVec 32 := Scalar.muli v1 c256_i32
  v2
def k0_off1 (i : grid0.Coords) : Fin 2 → Nat :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c256_i32 : BitVec 32 := 256#32
  let v2 : BitVec 32 := Scalar.muli v1 c256_i32
  let v3 : BitVec 32 := v2
  let v14 : Index := Scalar.indexCast v3
  let c0_4 : Index := 0#32
  ![v14.toNat, 0]
def k0_off2 (i : grid0.Coords) (c0_i32_485 : BitVec 32) : Fin 3 → Nat :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let v534 : BitVec 32 := Scalar.addi v1 c0_i32_485
  let v535 : Index := Scalar.indexCast v534
  let c0_486 : Index := 0#32
  let c0_487 : Index := 0#32
  ![v535.toNat, 0, 0]
def k0_cond3 (i : grid0.Coords) : BitVec 1 :=
  let arg1 : BitVec 32 := BitVec.ofNat 32 (i 1).val
  let c15_i32 : BitVec 32 := 15#32
  let v1221 : BitVec 1 := Scalar.cmpi .eq arg1 c15_i32
  let v1222 : BitVec 32 := Scalar.extui v1221
  let c0_i32_1062 : BitVec 32 := 0#32
  let v1223 : BitVec 1 := Scalar.cmpi .ne v1222 c0_i32_1062
  v1223

def k0_cond1 (i : grid0.Coords) : BitVec 1 :=
  let arg1 : BitVec 32 := BitVec.ofNat 32 (i 1).val
  let c0_i32_0 : BitVec 32 := 0#32
  let v7 : BitVec 1 := Scalar.cmpi .eq arg1 c0_i32_0
  let v8 : BitVec 32 := Scalar.extui v7
  let c0_i32_1 : BitVec 32 := 0#32
  let v9 : BitVec 1 := Scalar.cmpi .ne v8 c0_i32_1
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.subi c2_i32 arg1
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![c0_i32_0.toNat, v1.toNat, arg0.toNat, c0_i32_1.toNat, c0_i32_2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_14 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.subi c2_i32 arg1
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, arg0.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x2x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4096x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S4096x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x2x256x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== Kernel3.lean ====
abbrev S4096x1024 : Shape := ⟨2, ![4096, 1024]⟩
abbrev S1024 : Shape := ⟨1, ![1024]⟩
abbrev S1024x4096 : Shape := ⟨2, ![1024, 4096]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S1x1x1024 : Shape := ⟨3, ![1, 1, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 40
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S1024x4096, .bf16⟩
  | .hbm, ⟨25, _⟩ => ⟨S4096x4096, .f32⟩
  | .hbm, ⟨26, _⟩ => ⟨S4096x4096, .bf16⟩
  | .hbm, ⟨27, _⟩ => ⟨S1x1x1024, .f32⟩
  | .hbm, ⟨28, _⟩ => ⟨S1024x4096, .bf16⟩
  | .hbm, ⟨29, _⟩ => ⟨S4096x1024, .bf16⟩
  | .hbm, ⟨30, _⟩ => ⟨S4096x1024, .bf16⟩
  | .hbm, ⟨31, _⟩ => ⟨S1024x1024, .bf16⟩
  | .hbm, ⟨32, _⟩ => ⟨S4096x1024, .f32⟩
  | .hbm, ⟨33, _⟩ => ⟨S4096x1024, .f32⟩
  | .hbm, ⟨34, _⟩ => ⟨S4096x4096, .bf16⟩
  | .hbm, ⟨35, _⟩ => ⟨S4096x4096, .bf16⟩
  | .hbm, ⟨36, _⟩ => ⟨S4096x1024, .bf16⟩
  | .hbm, ⟨37, _⟩ => ⟨S4096x1024, .bf16⟩
  | .hbm, ⟨38, _⟩ => ⟨S4096x1024, .bf16⟩
  | .hbm, ⟨39, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x4096, .bf16⟩
  | .local _ .vmem, ⟨3, _⟩ => ⟨S256x4096, .bf16⟩
  | .local _ .vmem, ⟨4, _⟩ => ⟨S256x1024, .f32⟩
  | .local _ .vmem, ⟨5, _⟩ => ⟨S256x1024, .f32⟩
  | .local _ .vmem, ⟨6, _⟩ => ⟨S1x1x1024, .f32⟩
  | .local _ .vmem, ⟨7, _⟩ => ⟨S4096x1024, .bf16⟩
  | .local _ .vmem, ⟨8, _⟩ => ⟨S4096x1024, .bf16⟩
  | .local _ .vmem, ⟨9, _⟩ => ⟨S1024x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x4096, .bf16⟩
  | .local _ .vmem, ⟨15, _⟩ => ⟨S256x4096, .bf16⟩
  | .local _ .vmem, ⟨16, _⟩ => ⟨S256x4096, .bf16⟩
  | .local _ .vmem, ⟨17, _⟩ => ⟨S256x4096, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev main_v22_4 : Ref sig .tc := ⟨.hbm, 36, rfl⟩
abbrev main_v22_5 : Ref sig .tc := ⟨.hbm, 37, rfl⟩
abbrev main_v22_6 : Ref sig .tc := ⟨.hbm, 38, rfl⟩
abbrev main_v22_7 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference3Ideal.lean ====
abbrev S4096x1024 : Shape := ⟨2, ![4096, 1024]⟩
abbrev S1024 : Shape := ⟨1, ![1024]⟩
abbrev S1024x4096 : Shape := ⟨2, ![1024, 4096]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 120
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x4096, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096x4096, .f32⟩
  | .hbm, ⟨50, _⟩ => ⟨S4096x4096, .i1⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096x4096, .f32⟩
  | .hbm, ⟨56, _⟩ => ⟨S4096x4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x4096, .f32⟩
  | .hbm, ⟨61, _⟩ => ⟨S4096x4096, .f32⟩
  | .hbm, ⟨62, _⟩ => ⟨S_, .f32⟩
  | .hbm, ⟨63, _⟩ => ⟨S4096x4096, .f32⟩
  | .hbm, ⟨64, _⟩ => ⟨S4096x4096, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S4096x1024, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S_, .f32⟩
  | .hbm, ⟨95, _⟩ => ⟨S4096x4096, .f32⟩
  | .hbm, ⟨96, _⟩ => ⟨S4096x4096, .f32⟩
  | .hbm, ⟨97, _⟩ => ⟨S_, .f32⟩
  | .hbm, ⟨98, _⟩ => ⟨S4096x4096, .f32⟩
  | .hbm, ⟨99, _⟩ => ⟨S4096x4096, .i1⟩
  | .hbm, ⟨100, _⟩ => ⟨S_, .f32⟩
  | .hbm, ⟨101, _⟩ => ⟨S4096x4096, .f32⟩
  | .hbm, ⟨102, _⟩ => ⟨S4096x4096, .f32⟩
  | .hbm, ⟨103, _⟩ => ⟨S_, .f32⟩
  | .hbm, ⟨104, _⟩ => ⟨S4096x4096, .f32⟩
  | .hbm, ⟨105, _⟩ => ⟨S4096x4096, .f32⟩
  | .hbm, ⟨106, _⟩ => ⟨S4096x1024, .f32⟩
  | .hbm, ⟨107, _⟩ => ⟨S4096x4096, .f32⟩
  | .hbm, ⟨108, _⟩ => ⟨S4096x4096, .f32⟩
  | .hbm, ⟨109, _⟩ => ⟨S_, .f32⟩
  | .hbm, ⟨110, _⟩ => ⟨S4096x4096, .f32⟩
  | .hbm, ⟨111, _⟩ => ⟨S4096x4096, .f32⟩
  | .hbm, ⟨112, _⟩ => ⟨S1x1024, .f32⟩
  | .hbm, ⟨113, _⟩ => ⟨S4096x4096, .bf16⟩
  | .hbm, ⟨114, _⟩ => ⟨S_, .f32⟩
  | .hbm, ⟨115, _⟩ => ⟨S4096x4096, .f32⟩
  | .hbm, ⟨116, _⟩ => ⟨S4096x4096, .f32⟩
  | .hbm, ⟨117, _⟩ => ⟨S4096x4096, .f32⟩
  | .hbm, ⟨118, _⟩ => ⟨S4096x4096, .bf16⟩
  | .hbm, ⟨119, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_v60 : Ref sig .tc := ⟨.hbm, 84, rfl⟩
abbrev main_cst_14 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_call1_cst : Ref sig .tc := ⟨.hbm, 94, rfl⟩
abbrev main_call1_v0 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_cst_16 : Ref sig .tc := ⟨.hbm, 100, rfl⟩
abbrev main_v72 : Ref sig .tc := ⟨.hbm, 101, rfl⟩
abbrev main_v73 : Ref sig .tc := ⟨.hbm, 102, rfl⟩
abbrev main_cst_17 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_18 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call2_cst : Ref sig .tc := ⟨.hbm, 114, rfl⟩
abbrev main_call2_v0 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]
-- ==== Kernel4.lean ====
abbrev S4096x4096 : Shape := ⟨2, ![4096, 4096]⟩
abbrev S4096x1024 : Shape := ⟨2, ![4096, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S4096x4096 : Shape := ⟨2, ![4096, 4096]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x1024 : Shape := ⟨2, ![4096, 1024]⟩
abbrev S4096x2560 : Shape := ⟨2, ![4096, 2560]⟩
abbrev S2560x1024 : Shape := ⟨2, ![2560, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S2560x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S4096x1024 : Shape := ⟨2, ![4096, 1024]⟩
abbrev S4096x2560 : Shape := ⟨2, ![4096, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S4096x1024, .f32⟩
  | .hbm, ⟨3, _⟩ => ⟨S4096x2560, .f32⟩
  | .hbm, ⟨4, _⟩ => ⟨S_, .f32⟩
  | .hbm, ⟨5, _⟩ => ⟨S1024x2560, .f32⟩
  | .hbm, ⟨6, _⟩ => ⟨S4096x2560, .f32⟩
  | .hbm, ⟨7, _⟩ => ⟨S2560x1024, .f32⟩
  | .hbm, ⟨8, _⟩ => ⟨S1024x2560, .f32⟩
  | .hbm, ⟨9, _⟩ => ⟨S1024x2560, .bf16⟩
  | .hbm, ⟨10, _⟩ => ⟨S2560x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x512 : Shape := ⟨2, ![4096, 512]⟩
abbrev S4096x256 : Shape := ⟨2, ![4096, 256]⟩
abbrev S4096x1024 : Shape := ⟨2, ![4096, 1024]⟩
abbrev S1024 : Shape := ⟨1, ![1024]⟩
abbrev S1024x2560 : Shape := ⟨2, ![1024, 2560]⟩
abbrev S1x1x1024 : Shape := ⟨3, ![1, 1, 1024]⟩
abbrev S2560x1024 : Shape := ⟨2, ![2560, 1024]⟩
abbrev S4096x2560 : Shape := ⟨2, ![4096, 2560]⟩
abbrev S1x1024 : Shape := ⟨2, ![1, 1024]⟩
abbrev S256x512 : Shape := ⟨2, ![256, 512]⟩
abbrev S256x256 : Shape := ⟨2, ![256, 256]⟩
abbrev S256x1024 : Shape := ⟨2, ![256, 1024]⟩
abbrev S256x2560 : Shape := ⟨2, ![256, 2560]⟩
abbrev S256 : Shape := ⟨1, ![256]⟩
abbrev S256x1 : Shape := ⟨2, ![256, 1]⟩

abbrev nBuf : Space → Nat
  | .hbm => 17
  | .vmem => 25
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x256, .bf16⟩
  | .hbm, ⟨4, _⟩ => ⟨S4096x256, .bf16⟩
  | .hbm, ⟨5, _⟩ => ⟨S4096x256, .bf16⟩
  | .hbm, ⟨6, _⟩ => ⟨S4096x256, .bf16⟩
  | .hbm, ⟨7, _⟩ => ⟨S4096x1024, .f32⟩
  | .hbm, ⟨8, _⟩ => ⟨S4096x1024, .f32⟩
  | .hbm, ⟨9, _⟩ => ⟨S1024, .f32⟩
  | .hbm, ⟨10, _⟩ => ⟨S1024x2560, .f32⟩
  | .hbm, ⟨11, _⟩ => ⟨S1x1x1024, .f32⟩
  | .hbm, ⟨12, _⟩ => ⟨S1024x2560, .bf16⟩
  | .hbm, ⟨13, _⟩ => ⟨S2560x1024, .bf16⟩
  | .hbm, ⟨14, _⟩ => ⟨S4096x1024, .f32⟩
  | .hbm, ⟨15, _⟩ => ⟨S4096x2560, .bf16⟩
  | .hbm, ⟨16, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1x1x1024, .f32⟩
  | .local _ .vmem, ⟨19, _⟩ => ⟨S2560x1024, .bf16⟩
  | .local _ .vmem, ⟨20, _⟩ => ⟨S256x1024, .f32⟩
  | .local _ .vmem, ⟨21, _⟩ => ⟨S256x1024, .f32⟩
  | .local _ .vmem, ⟨22, _⟩ => ⟨S256x2560, .bf16⟩
  | .local _ .vmem, ⟨23, _⟩ => ⟨S256x2560, .bf16⟩
  | .local _ .vmem, ⟨24, _⟩ => ⟨S1x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2560x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2560 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference8Ideal.lean ====
abbrev S4096x512 : Shape := ⟨2, ![4096, 512]⟩
abbrev S4096x256 : Shape := ⟨2, ![4096, 256]⟩
abbrev S4096x1024 : Shape := ⟨2, ![4096, 1024]⟩
abbrev S1024 : Shape := ⟨1, ![1024]⟩
abbrev S1024x2560 : Shape := ⟨2, ![1024, 2560]⟩
abbrev S4096x2560 : Shape := ⟨2, ![4096, 2560]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x256, .bf16⟩
  | .hbm, ⟨4, _⟩ => ⟨S4096x256, .bf16⟩
  | .hbm, ⟨5, _⟩ => ⟨S4096x256, .bf16⟩
  | .hbm, ⟨6, _⟩ => ⟨S4096x256, .bf16⟩
  | .hbm, ⟨7, _⟩ => ⟨S4096x1024, .f32⟩
  | .hbm, ⟨8, _⟩ => ⟨S4096x1024, .f32⟩
  | .hbm, ⟨9, _⟩ => ⟨S1024, .f32⟩
  | .hbm, ⟨10, _⟩ => ⟨S1024x2560, .f32⟩
  | .hbm, ⟨11, _⟩ => ⟨S4096x2560, .bf16⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x2560, .f32⟩
  | .hbm, ⟨33, _⟩ => ⟨S4096x2560, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S1x1x1024 : Shape := ⟨3, ![1, 1, 1024]⟩
abbrev S4096x4096 : Shape := ⟨2, ![4096, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x1024 : Shape := ⟨2, ![1, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024x1024, .bf16⟩
  | .hbm, ⟨7, _⟩ => ⟨S1x1x1024, .f32⟩
  | .hbm, ⟨8, _⟩ => ⟨S1024x4096, .bf16⟩
  | .hbm, ⟨9, _⟩ => ⟨S4096x1024, .bf16⟩
  | .hbm, ⟨10, _⟩ => ⟨S4096x1024, .bf16⟩
  | .hbm, ⟨11, _⟩ => ⟨S4096x1024, .f32⟩
  | .hbm, ⟨12, _⟩ => ⟨S4096x4096, .bf16⟩
  | .hbm, ⟨13, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1x1x1024, .f32⟩
  | .local _ .vmem, ⟨6, _⟩ => ⟨S4096x1024, .bf16⟩
  | .local _ .vmem, ⟨7, _⟩ => ⟨S4096x1024, .bf16⟩
  | .local _ .vmem, ⟨8, _⟩ => ⟨S256x1024, .f32⟩
  | .local _ .vmem, ⟨9, _⟩ => ⟨S256x1024, .f32⟩
  | .local _ .vmem, ⟨10, _⟩ => ⟨S256x4096, .bf16⟩
  | .local _ .vmem, ⟨11, _⟩ => ⟨S256x4096, .bf16⟩
  | .local _ .vmem, ⟨12, _⟩ => ⟨S256x1024, .f32⟩
  | .local _ .vmem, ⟨13, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S4096x4096, .bf16⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x1024, .f32⟩
  | .hbm, ⟨32, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S1x1x1024 : Shape := ⟨3, ![1, 1, 1024]⟩
abbrev S4096x4096 : Shape := ⟨2, ![4096, 4096]⟩
abbrev S8x128 : Shape := ⟨2, ![8, 128]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x1024 : Shape := ⟨2, ![1, 1024]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 16
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S4096x1024, .f32⟩
  | .hbm, ⟨7, _⟩ => ⟨S1024x1024, .bf16⟩
  | .hbm, ⟨8, _⟩ => ⟨S1x1x1024, .f32⟩
  | .hbm, ⟨9, _⟩ => ⟨S1024x4096, .bf16⟩
  | .hbm, ⟨10, _⟩ => ⟨S4096x1024, .bf16⟩
  | .hbm, ⟨11, _⟩ => ⟨S4096x1024, .bf16⟩
  | .hbm, ⟨12, _⟩ => ⟨S4096x1024, .f32⟩
  | .hbm, ⟨13, _⟩ => ⟨S4096x4096, .bf16⟩
  | .hbm, ⟨14, _⟩ => ⟨S4096x1024, .f32⟩
  | .hbm, ⟨15, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1x1x1024, .f32⟩
  | .local _ .vmem, ⟨6, _⟩ => ⟨S4096x1024, .bf16⟩
  | .local _ .vmem, ⟨7, _⟩ => ⟨S4096x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x4096, .bf16⟩
  | .local _ .vmem, ⟨13, _⟩ => ⟨S256x4096, .bf16⟩
  | .local _ .vmem, ⟨14, _⟩ => ⟨S256x1024, .f32⟩
  | .local _ .vmem, ⟨15, _⟩ => ⟨S256x1024, .f32⟩
  | .local _ .vmem, ⟨16, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference10Ideal.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S8x128 : Shape := ⟨2, ![8, 128]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x4096, .f32⟩
  | .hbm, ⟨27, _⟩ => ⟨S4096x4096, .bf16⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S_, .f32⟩
  | .hbm, ⟨59, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_cst_7 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Kernel11.lean ====
abbrev S4x1024x320 : Shape := ⟨3, ![4, 1024, 320]⟩
abbrev S4096x320 : Shape := ⟨2, ![4096, 320]⟩
abbrev S512x320 : Shape := ⟨2, ![512, 320]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x320, .f32⟩
  | .hbm, ⟨1, _⟩ => ⟨S4x1024x320, .f32⟩
  | .hbm, ⟨2, _⟩ => ⟨S4x1024x320, .f32⟩
  | .hbm, ⟨3, _⟩ => ⟨S4x1024x320, .f32⟩
  | .hbm, ⟨4, _⟩ => ⟨S4096x320, .f32⟩
  | .hbm, ⟨5, _⟩ => ⟨S4096x320, .f32⟩
  | .hbm, ⟨6, _⟩ => ⟨S4096x320, .f32⟩
  | .hbm, ⟨7, _⟩ => ⟨S4096x320, .f32⟩
  | .hbm, ⟨8, _⟩ => ⟨S4096x320, .f32⟩
  | .hbm, ⟨9, _⟩ => ⟨S4096x320, .f32⟩
  | .hbm, ⟨10, _⟩ => ⟨S4096x320, .f32⟩
  | .local _ .vmem, ⟨0, _⟩ => ⟨S512x320, .f32⟩
  | .local _ .vmem, ⟨1, _⟩ => ⟨S512x320, .f32⟩
  | .local _ .vmem, ⟨2, _⟩ => ⟨S512x320, .f32⟩
  | .local _ .vmem, ⟨3, _⟩ => ⟨S512x320, .f32⟩
  | .local _ .vmem, ⟨4, _⟩ => ⟨S512x320, .f32⟩
  | .local _ .vmem, ⟨5, _⟩ => ⟨S512x320, .f32⟩
  | .local _ .vmem, ⟨6, _⟩ => ⟨S512x320, .f32⟩
  | .local _ .vmem, ⟨7, _⟩ => ⟨S512x320, .f32⟩
  | .local _ .vmem, ⟨8, _⟩ => ⟨S512x320, .f32⟩
  | .local _ .vmem, ⟨9, _⟩ => ⟨S512x320, .f32⟩
  | .local _ .vmem, ⟨10, _⟩ => ⟨S512x320, .f32⟩
  | .local _ .vmem, ⟨11, _⟩ => ⟨S512x320, .f32⟩
  | .local _ .vmem, ⟨12, _⟩ => ⟨S512x320, .f32⟩
  | .local _ .vmem, ⟨13, _⟩ => ⟨S512x320, .f32⟩
  | _, _ => ⟨S4x1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel11Ideal.lean ====
abbrev S4x1024x320 : Shape := ⟨3, ![4, 1024, 320]⟩
abbrev S4096x320 : Shape := ⟨2, ![4096, 320]⟩
abbrev S512x320 : Shape := ⟨2, ![512, 320]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x320, .f32⟩
  | .hbm, ⟨1, _⟩ => ⟨S4x1024x320, .f32⟩
  | .hbm, ⟨2, _⟩ => ⟨S4x1024x320, .f32⟩
  | .hbm, ⟨3, _⟩ => ⟨S4x1024x320, .f32⟩
  | .hbm, ⟨4, _⟩ => ⟨S4096x320, .f32⟩
  | .hbm, ⟨5, _⟩ => ⟨S4096x320, .f32⟩
  | .hbm, ⟨6, _⟩ => ⟨S4096x320, .f32⟩
  | .hbm, ⟨7, _⟩ => ⟨S4096x320, .f32⟩
  | .hbm, ⟨8, _⟩ => ⟨S4096x320, .f32⟩
  | .hbm, ⟨9, _⟩ => ⟨S4096x320, .f32⟩
  | .hbm, ⟨10, _⟩ => ⟨S4096x320, .f32⟩
  | .local _ .vmem, ⟨0, _⟩ => ⟨S512x320, .f32⟩
  | .local _ .vmem, ⟨1, _⟩ => ⟨S512x320, .f32⟩
  | .local _ .vmem, ⟨2, _⟩ => ⟨S512x320, .f32⟩
  | .local _ .vmem, ⟨3, _⟩ => ⟨S512x320, .f32⟩
  | .local _ .vmem, ⟨4, _⟩ => ⟨S512x320, .f32⟩
  | .local _ .vmem, ⟨5, _⟩ => ⟨S512x320, .f32⟩
  | .local _ .vmem, ⟨6, _⟩ => ⟨S512x320, .f32⟩
  | .local _ .vmem, ⟨7, _⟩ => ⟨S512x320, .f32⟩
  | .local _ .vmem, ⟨8, _⟩ => ⟨S512x320, .f32⟩
  | .local _ .vmem, ⟨9, _⟩ => ⟨S512x320, .f32⟩
  | .local _ .vmem, ⟨10, _⟩ => ⟨S512x320, .f32⟩
  | .local _ .vmem, ⟨11, _⟩ => ⟨S512x320, .f32⟩
  | .local _ .vmem, ⟨12, _⟩ => ⟨S512x320, .f32⟩
  | .local _ .vmem, ⟨13, _⟩ => ⟨S512x320, .f32⟩
  | _, _ => ⟨S4x1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S4x1024x320 : Shape := ⟨3, ![4, 1024, 320]⟩
abbrev S_ : Shape := ⟨0, ![]⟩
abbrev S4096x320 : Shape := ⟨2, ![4096, 320]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x320, .f32⟩
  | .hbm, ⟨1, _⟩ => ⟨S4x1024x320, .f32⟩
  | .hbm, ⟨2, _⟩ => ⟨S4x1024x320, .f32⟩
  | .hbm, ⟨3, _⟩ => ⟨S4x1024x320, .f32⟩
  | .hbm, ⟨4, _⟩ => ⟨S_, .f32⟩
  | .hbm, ⟨5, _⟩ => ⟨S4x1024x320, .f32⟩
  | .hbm, ⟨6, _⟩ => ⟨S4x1024x320, .f32⟩
  | .hbm, ⟨7, _⟩ => ⟨S_, .f32⟩
  | .hbm, ⟨8, _⟩ => ⟨S4x1024x320, .f32⟩
  | .hbm, ⟨9, _⟩ => ⟨S4x1024x320, .f32⟩
  | .hbm, ⟨10, _⟩ => ⟨S4x1024x320, .f32⟩
  | .hbm, ⟨11, _⟩ => ⟨S_, .f32⟩
  | .hbm, ⟨12, _⟩ => ⟨S4x1024x320, .f32⟩
  | .hbm, ⟨13, _⟩ => ⟨S4x1024x320, .f32⟩
  | .hbm, ⟨14, _⟩ => ⟨S4x1024x320, .f32⟩
  | .hbm, ⟨15, _⟩ => ⟨S_, .f32⟩
  | .hbm, ⟨16, _⟩ => ⟨S4x1024x320, .f32⟩
  | .hbm, ⟨17, _⟩ => ⟨S4x1024x320, .f32⟩
  | .hbm, ⟨18, _⟩ => ⟨S4x1024x320, .f32⟩
  | .hbm, ⟨19, _⟩ => ⟨S_, .f32⟩
  | .hbm, ⟨20, _⟩ => ⟨S4x1024x320, .f32⟩
  | .hbm, ⟨21, _⟩ => ⟨S4x1024x320, .f32⟩
  | .hbm, ⟨22, _⟩ => ⟨S_, .f32⟩
  | .hbm, ⟨23, _⟩ => ⟨S4x1024x320, .f32⟩
  | .hbm, ⟨24, _⟩ => ⟨S4x1024x320, .f32⟩
  | .hbm, ⟨25, _⟩ => ⟨S4x1024x320, .f32⟩
  | .hbm, ⟨26, _⟩ => ⟨S_, .f32⟩
  | .hbm, ⟨27, _⟩ => ⟨S4x1024x320, .f32⟩
  | .hbm, ⟨28, _⟩ => ⟨S4x1024x320, .f32⟩
  | .hbm, ⟨29, _⟩ => ⟨S4x1024x320, .f32⟩
  | .hbm, ⟨30, _⟩ => ⟨S_, .f32⟩
  | .hbm, ⟨31, _⟩ => ⟨S4x1024x320, .f32⟩
  | .hbm, ⟨32, _⟩ => ⟨S4x1024x320, .f32⟩
  | .hbm, ⟨33, _⟩ => ⟨S4x1024x320, .f32⟩
  | .hbm, ⟨34, _⟩ => ⟨S_, .f32⟩
  | .hbm, ⟨35, _⟩ => ⟨S4x1024x320, .f32⟩
  | .hbm, ⟨36, _⟩ => ⟨S4x1024x320, .f32⟩
  | .hbm, ⟨37, _⟩ => ⟨S4096x320, .f32⟩
  | .hbm, ⟨38, _⟩ => ⟨S4096x320, .f32⟩
  | .hbm, ⟨39, _⟩ => ⟨S4096x320, .f32⟩
  | _, _ => ⟨S4x1024x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel12.lean ====
abbrev S4x128x1024 : Shape := ⟨3, ![4, 128, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel12Ideal.lean ====
abbrev S4x128x1024 : Shape := ⟨3, ![4, 128, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference12Ideal.lean ====
abbrev S4x128x1024 : Shape := ⟨3, ![4, 128, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel13.lean ====
abbrev S4x1024x512 : Shape := ⟨3, ![4, 1024, 512]⟩
abbrev S4096x512 : Shape := ⟨2, ![4096, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel13Ideal.lean ====
abbrev S4x1024x512 : Shape := ⟨3, ![4, 1024, 512]⟩
abbrev S4096x512 : Shape := ⟨2, ![4096, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S4x1024x512 : Shape := ⟨3, ![4, 1024, 512]⟩
abbrev S_ : Shape := ⟨0, ![]⟩
abbrev S4096x512 : Shape := ⟨2, ![4096, 512]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S_, .f32⟩
  | .hbm, ⟨5, _⟩ => ⟨S4x1024x512, .f32⟩
  | .hbm, ⟨6, _⟩ => ⟨S4x1024x512, .f32⟩
  | .hbm, ⟨7, _⟩ => ⟨S_, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S_, .f32⟩
  | .hbm, ⟨12, _⟩ => ⟨S4x1024x512, .f32⟩
  | .hbm, ⟨13, _⟩ => ⟨S4x1024x512, .f32⟩
  | .hbm, ⟨14, _⟩ => ⟨S4x1024x512, .f32⟩
  | .hbm, ⟨15, _⟩ => ⟨S_, .f32⟩
  | .hbm, ⟨16, _⟩ => ⟨S4x1024x512, .f32⟩
  | .hbm, ⟨17, _⟩ => ⟨S4x1024x512, .f32⟩
  | .hbm, ⟨18, _⟩ => ⟨S4x1024x512, .f32⟩
  | .hbm, ⟨19, _⟩ => ⟨S_, .f32⟩
  | .hbm, ⟨20, _⟩ => ⟨S4x1024x512, .f32⟩
  | .hbm, ⟨21, _⟩ => ⟨S4x1024x512, .f32⟩
  | .hbm, ⟨22, _⟩ => ⟨S_, .f32⟩
  | .hbm, ⟨23, _⟩ => ⟨S4x1024x512, .f32⟩
  | .hbm, ⟨24, _⟩ => ⟨S4x1024x512, .f32⟩
  | .hbm, ⟨25, _⟩ => ⟨S4x1024x512, .f32⟩
  | .hbm, ⟨26, _⟩ => ⟨S_, .f32⟩
  | .hbm, ⟨27, _⟩ => ⟨S4x1024x512, .f32⟩
  | .hbm, ⟨28, _⟩ => ⟨S4x1024x512, .f32⟩
  | .hbm, ⟨29, _⟩ => ⟨S4x1024x512, .f32⟩
  | .hbm, ⟨30, _⟩ => ⟨S_, .f32⟩
  | .hbm, ⟨31, _⟩ => ⟨S4x1024x512, .f32⟩
  | .hbm, ⟨32, _⟩ => ⟨S4x1024x512, .f32⟩
  | .hbm, ⟨33, _⟩ => ⟨S4x1024x512, .f32⟩
  | .hbm, ⟨34, _⟩ => ⟨S_, .f32⟩
  | .hbm, ⟨35, _⟩ => ⟨S4x1024x512, .f32⟩
  | .hbm, ⟨36, _⟩ => ⟨S4x1024x512, .f32⟩
  | .hbm, ⟨37, _⟩ => ⟨S4096x512, .f32⟩
  | .hbm, ⟨38, _⟩ => ⟨S4096x512, .f32⟩
  | .hbm, ⟨39, _⟩ => ⟨S4096x512, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel14.lean ====
abbrev S4x512x1024 : Shape := ⟨3, ![4, 512, 1024]⟩
abbrev S2048x1024 : Shape := ⟨2, ![2048, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S4x512x1024 : Shape := ⟨3, ![4, 512, 1024]⟩
abbrev S_ : Shape := ⟨0, ![]⟩
abbrev S2048x1024 : Shape := ⟨2, ![2048, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S_, .f32⟩
  | .hbm, ⟨5, _⟩ => ⟨S4x512x1024, .f32⟩
  | .hbm, ⟨6, _⟩ => ⟨S4x512x1024, .f32⟩
  | .hbm, ⟨7, _⟩ => ⟨S_, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .hbm, ⟨11, _⟩ => ⟨S_, .f32⟩
  | .hbm, ⟨12, _⟩ => ⟨S4x512x1024, .f32⟩
  | .hbm, ⟨13, _⟩ => ⟨S4x512x1024, .f32⟩
  | .hbm, ⟨14, _⟩ => ⟨S4x512x1024, .f32⟩
  | .hbm, ⟨15, _⟩ => ⟨S_, .f32⟩
  | .hbm, ⟨16, _⟩ => ⟨S4x512x1024, .f32⟩
  | .hbm, ⟨17, _⟩ => ⟨S4x512x1024, .f32⟩
  | .hbm, ⟨18, _⟩ => ⟨S4x512x1024, .f32⟩
  | .hbm, ⟨19, _⟩ => ⟨S_, .f32⟩
  | .hbm, ⟨20, _⟩ => ⟨S4x512x1024, .f32⟩
  | .hbm, ⟨21, _⟩ => ⟨S4x512x1024, .f32⟩
  | .hbm, ⟨22, _⟩ => ⟨S_, .f32⟩
  | .hbm, ⟨23, _⟩ => ⟨S4x512x1024, .f32⟩
  | .hbm, ⟨24, _⟩ => ⟨S4x512x1024, .f32⟩
  | .hbm, ⟨25, _⟩ => ⟨S4x512x1024, .f32⟩
  | .hbm, ⟨26, _⟩ => ⟨S_, .f32⟩
  | .hbm, ⟨27, _⟩ => ⟨S4x512x1024, .f32⟩
  | .hbm, ⟨28, _⟩ => ⟨S4x512x1024, .f32⟩
  | .hbm, ⟨29, _⟩ => ⟨S4x512x1024, .f32⟩
  | .hbm, ⟨30, _⟩ => ⟨S_, .f32⟩
  | .hbm, ⟨31, _⟩ => ⟨S4x512x1024, .f32⟩
  | .hbm, ⟨32, _⟩ => ⟨S4x512x1024, .f32⟩
  | .hbm, ⟨33, _⟩ => ⟨S4x512x1024, .f32⟩
  | .hbm, ⟨34, _⟩ => ⟨S_, .f32⟩
  | .hbm, ⟨35, _⟩ => ⟨S4x512x1024, .f32⟩
  | .hbm, ⟨36, _⟩ => ⟨S4x512x1024, .f32⟩
  | .hbm, ⟨37, _⟩ => ⟨S2048x1024, .f32⟩
  | .hbm, ⟨38, _⟩ => ⟨S2048x1024, .f32⟩
  | .hbm, ⟨39, _⟩ => ⟨S2048x1024, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel15Ideal.lean ====
abbrev S4x1024 : Shape := ⟨2, ![4, 1024]⟩
abbrev S4x64 : Shape := ⟨2, ![4, 64]⟩
abbrev S4x8x257 : Shape := ⟨3, ![4, 8, 257]⟩
abbrev S4x3x32 : Shape := ⟨3, ![4, 3, 32]⟩
abbrev S4x4x64x64 : Shape := ⟨4, ![4, 4, 64, 64]⟩
abbrev S4x256 : Shape := ⟨2, ![4, 256]⟩

abbrev nBuf : Space → Nat
  | .hbm => 56
  | .vmem => 56
  | .smem => 0
  | _ => 0

abbrev bufTy : (tb : Table) → Fin (tcTables nBuf tb) → BufTy
  | .hbm, ⟨0, _⟩ => ⟨S4x1024, .f32⟩
  | .hbm, ⟨1, _⟩ => ⟨S4x64, .f32⟩
  | .hbm, ⟨2, _⟩ => ⟨S4x64, .f32⟩
  | .hbm, ⟨3, _⟩ => ⟨S4x8x257, .f32⟩
  | .hbm, ⟨4, _⟩ => ⟨S4x3x32, .f32⟩
  | .hbm, ⟨5, _⟩ => ⟨S4x4x64x64, .f32⟩
  | .hbm, ⟨6, _⟩ => ⟨S4x256, .f32⟩
  | .hbm, ⟨7, _⟩ => ⟨S4x1024, .f32⟩
  | .hbm, ⟨8, _⟩ => ⟨S4x1024, .f32⟩
  | .hbm, ⟨9, _⟩ => ⟨S4x64, .f32⟩
  | .hbm, ⟨10, _⟩ => ⟨S4x64, .f32⟩
  | .hbm, ⟨11, _⟩ => ⟨S4x8x257, .f32⟩
  | .hbm, ⟨12, _⟩ => ⟨S4x3x32, .f32⟩
  | .hbm, ⟨13, _⟩ => ⟨S4x4x64x64, .f32⟩
  | .hbm, ⟨14, _⟩ => ⟨S4x256, .f32⟩
  | .hbm, ⟨15, _⟩ => ⟨S4x1024, .f32⟩
  | .hbm, ⟨16, _⟩ => ⟨S4x1024, .f32⟩
  | .hbm, ⟨17, _⟩ => ⟨S4x64, .f32⟩
  | .hbm, ⟨18, _⟩ => ⟨S4x64, .f32⟩
  | .hbm, ⟨19, _⟩ => ⟨S4x8x257, .f32⟩
  | .hbm, ⟨20, _⟩ => ⟨S4x3x32, .f32⟩
  | .hbm, ⟨21, _⟩ => ⟨S4x4x64x64, .f32⟩
  | .hbm, ⟨22, _⟩ => ⟨S4x256, .f32⟩
  | .hbm, ⟨23, _⟩ => ⟨S4x1024, .f32⟩
  | .hbm, ⟨24, _⟩ => ⟨S4x1024, .f32⟩
  | .hbm, ⟨25, _⟩ => ⟨S4x64, .f32⟩
  | .hbm, ⟨26, _⟩ => ⟨S4x64, .f32⟩
  | .hbm, ⟨27, _⟩ => ⟨S4x8x257, .f32⟩
  | .hbm, ⟨28, _⟩ => ⟨S4x3x32, .f32⟩
  | .hbm, ⟨29, _⟩ => ⟨S4x4x64x64, .f32⟩
  | .hbm, ⟨30, _⟩ => ⟨S4x256, .f32⟩
  | .hbm, ⟨31, _⟩ => ⟨S4x1024, .f32⟩
  | .hbm, ⟨32, _⟩ => ⟨S4x1024, .f32⟩
  | .hbm, ⟨33, _⟩ => ⟨S4x64, .f32⟩
  | .hbm, ⟨34, _⟩ => ⟨S4x64, .f32⟩
  | .hbm, ⟨35, _⟩ => ⟨S4x8x257, .f32⟩
  | .hbm, ⟨36, _⟩ => ⟨S4x3x32, .f32⟩
  | .hbm, ⟨37, _⟩ => ⟨S4x4x64x64, .f32⟩
  | .hbm, ⟨38, _⟩ => ⟨S4x256, .f32⟩
  | .hbm, ⟨39, _⟩ => ⟨S4x1024, .f32⟩
  | .hbm, ⟨40, _⟩ => ⟨S4x1024, .f32⟩
  | .hbm, ⟨41, _⟩ => ⟨S4x64, .f32⟩
  | .hbm, ⟨42, _⟩ => ⟨S4x64, .f32⟩
  | .hbm, ⟨43, _⟩ => ⟨S4x8x257, .f32⟩
  | .hbm, ⟨44, _⟩ => ⟨S4x3x32, .f32⟩
  | .hbm, ⟨45, _⟩ => ⟨S4x4x64x64, .f32⟩
  | .hbm, ⟨46, _⟩ => ⟨S4x256, .f32⟩
  | .hbm, ⟨47, _⟩ => ⟨S4x1024, .f32⟩
  | .hbm, ⟨48, _⟩ => ⟨S4x1024, .f32⟩
  | .hbm, ⟨49, _⟩ => ⟨S4x64, .f32⟩
  | .hbm, ⟨50, _⟩ => ⟨S4x64, .f32⟩
  | .hbm, ⟨51, _⟩ => ⟨S4x8x257, .f32⟩
  | .hbm, ⟨52, _⟩ => ⟨S4x3x32, .f32⟩
  | .hbm, ⟨53, _⟩ => ⟨S4x4x64x64, .f32⟩
  | .hbm, ⟨54, _⟩ => ⟨S4x256, .f32⟩
  | .hbm, ⟨55, _⟩ => ⟨S4x1024, .f32⟩
  | .local _ .vmem, ⟨0, _⟩ => ⟨S4x1024, .f32⟩
  | .local _ .vmem, ⟨1, _⟩ => ⟨S4x64, .f32⟩
  | .local _ .vmem, ⟨2, _⟩ => ⟨S4x64, .f32⟩
  | .local _ .vmem, ⟨3, _⟩ => ⟨S4x8x257, .f32⟩
  | .local _ .vmem, ⟨4, _⟩ => ⟨S4x3x32, .f32⟩
  | .local _ .vmem, ⟨5, _⟩ => ⟨S4x4x64x64, .f32⟩
  | .local _ .vmem, ⟨6, _⟩ => ⟨S4x256, .f32⟩
  | .local _ .vmem, ⟨7, _⟩ => ⟨S4x1024, .f32⟩
  | .local _ .vmem, ⟨8, _⟩ => ⟨S4x1024, .f32⟩
  | .local _ .vmem, ⟨9, _⟩ => ⟨S4x64, .f32⟩
  | .local _ .vmem, ⟨10, _⟩ => ⟨S4x64, .f32⟩
  | .local _ .vmem, ⟨11, _⟩ => ⟨S4x8x257, .f32⟩
  | .local _ .vmem, ⟨12, _⟩ => ⟨S4x3x32, .f32⟩
  | .local _ .vmem, ⟨13, _⟩ => ⟨S4x4x64x64, .f32⟩
  | .local _ .vmem, ⟨14, _⟩ => ⟨S4x256, .f32⟩
  | .local _ .vmem, ⟨15, _⟩ => ⟨S4x1024, .f32⟩
  | .local _ .vmem, ⟨16, _⟩ => ⟨S4x1024, .f32⟩
  | .local _ .vmem, ⟨17, _⟩ => ⟨S4x64, .f32⟩
  | .local _ .vmem, ⟨18, _⟩ => ⟨S4x64, .f32⟩
  | .local _ .vmem, ⟨19, _⟩ => ⟨S4x8x257, .f32⟩
  | .local _ .vmem, ⟨20, _⟩ => ⟨S4x3x32, .f32⟩
  | .local _ .vmem, ⟨21, _⟩ => ⟨S4x4x64x64, .f32⟩
  | .local _ .vmem, ⟨22, _⟩ => ⟨S4x256, .f32⟩
  | .local _ .vmem, ⟨23, _⟩ => ⟨S4x1024, .f32⟩
  | .local _ .vmem, ⟨24, _⟩ => ⟨S4x1024, .f32⟩
  | .local _ .vmem, ⟨25, _⟩ => ⟨S4x64, .f32⟩
  | .local _ .vmem, ⟨26, _⟩ => ⟨S4x64, .f32⟩
  | .local _ .vmem, ⟨27, _⟩ => ⟨S4x8x257, .f32⟩
  | .local _ .vmem, ⟨28, _⟩ => ⟨S4x3x32, .f32⟩
  | .local _ .vmem, ⟨29, _⟩ => ⟨S4x4x64x64, .f32⟩
  | .local _ .vmem, ⟨30, _⟩ => ⟨S4x256, .f32⟩
  | .local _ .vmem, ⟨31, _⟩ => ⟨S4x1024, .f32⟩
  | .local _ .vmem, ⟨32, _⟩ => ⟨S4x1024, .f32⟩
  | .local _ .vmem, ⟨33, _⟩ => ⟨S4x64, .f32⟩
  | .local _ .vmem, ⟨34, _⟩ => ⟨S4x64, .f32⟩
  | .local _ .vmem, ⟨35, _⟩ => ⟨S4x8x257, .f32⟩
  | .local _ .vmem, ⟨36, _⟩ => ⟨S4x3x32, .f32⟩
  | .local _ .vmem, ⟨37, _⟩ => ⟨S4x4x64x64, .f32⟩
  | .local _ .vmem, ⟨38, _⟩ => ⟨S4x256, .f32⟩
  | .local _ .vmem, ⟨39, _⟩ => ⟨S4x1024, .f32⟩
  | .local _ .vmem, ⟨40, _⟩ => ⟨S4x1024, .f32⟩
  | .local _ .vmem, ⟨41, _⟩ => ⟨S4x64, .f32⟩
  | .local _ .vmem, ⟨42, _⟩ => ⟨S4x64, .f32⟩
  | .local _ .vmem, ⟨43, _⟩ => ⟨S4x8x257, .f32⟩
  | .local _ .vmem, ⟨44, _⟩ => ⟨S4x3x32, .f32⟩
  | .local _ .vmem, ⟨45, _⟩ => ⟨S4x4x64x64, .f32⟩
  | .local _ .vmem, ⟨46, _⟩ => ⟨S4x256, .f32⟩
  | .local _ .vmem, ⟨47, _⟩ => ⟨S4x1024, .f32⟩
  | .local _ .vmem, ⟨48, _⟩ => ⟨S4x1024, .f32⟩
  | .local _ .vmem, ⟨49, _⟩ => ⟨S4x64, .f32⟩
  | .local _ .vmem, ⟨50, _⟩ => ⟨S4x64, .f32⟩
  | .local _ .vmem, ⟨51, _⟩ => ⟨S4x8x257, .f32⟩
  | .local _ .vmem, ⟨52, _⟩ => ⟨S4x3x32, .f32⟩
  | .local _ .vmem, ⟨53, _⟩ => ⟨S4x4x64x64, .f32⟩
  | .local _ .vmem, ⟨54, _⟩ => ⟨S4x256, .f32⟩
  | .local _ .vmem, ⟨55, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0_0 : Ref sig .tc := ⟨.hbm, 32, rfl⟩
abbrev main_v0_1 : Ref sig .tc := ⟨.hbm, 33, rfl⟩
abbrev main_v0_2 : Ref sig .tc := ⟨.hbm, 34, rfl⟩
abbrev main_v0_3 : Ref sig .tc := ⟨.hbm, 35, rfl⟩
abbrev main_v0_4 : Ref sig .tc := ⟨.hbm, 36, rfl⟩
abbrev main_v0_5 : Ref sig .tc := ⟨.hbm, 37, rfl⟩
abbrev main_v0_6 : Ref sig .tc := ⟨.hbm, 38, rfl⟩
abbrev main_v0_7 : Ref sig .tc := ⟨.hbm, 39, rfl⟩
abbrev main_v0_8 : Ref sig .tc := ⟨.hbm, 40, rfl⟩
abbrev main_v0_9 : Ref sig .tc := ⟨.hbm, 41, rfl⟩
abbrev main_v0_10 : Ref sig .tc := ⟨.hbm, 42, rfl⟩
abbrev main_v0_11 : Ref sig .tc := ⟨.hbm, 43, rfl⟩
abbrev main_v0_12 : Ref sig .tc := ⟨.hbm, 44, rfl⟩
abbrev main_v0_13 : Ref sig .tc := ⟨.hbm, 45, rfl⟩
abbrev main_v0_14 : Ref sig .tc := ⟨.hbm, 46, rfl⟩
abbrev main_v0_15 : Ref sig .tc := ⟨.hbm, 47, rfl⟩
abbrev main_v0_16 : Ref sig .tc := ⟨.hbm, 48, rfl⟩
abbrev main_v0_17 : Ref sig .tc := ⟨.hbm, 49, rfl⟩
abbrev main_v0_18 : Ref sig .tc := ⟨.hbm, 50, rfl⟩
abbrev main_v0_19 : Ref sig .tc := ⟨.hbm, 51, rfl⟩
abbrev main_v0_20 : Ref sig .tc := ⟨.hbm, 52, rfl⟩
abbrev main_v0_21 : Ref sig .tc := ⟨.hbm, 53, rfl⟩
abbrev main_v0_22 : Ref sig .tc := ⟨.hbm, 54, rfl⟩
abbrev main_v0_23 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x8x257 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x3x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x4x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x8x257 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x3x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x4x64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x8x257 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x3x32 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S4x4x64x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S4x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S4x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S4x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S4x64 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S4x64 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S4x8x257 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S4x3x32 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S4x4x64x64 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S4x256 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S4x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S4x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S4x64 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S4x64 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S4x8x257 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S4x3x32 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S4x4x64x64 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S4x256 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S4x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S4x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S4x64 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S4x64 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S4x8x257 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S4x3x32 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S4x4x64x64 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S4x256 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S4x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S4x1024 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S4x64 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S4x64 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S4x8x257 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S4x3x32 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S4x4x64x64 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S4x256 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S4x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))
-- ==== Reference15Ideal.lean ====
abbrev S4x1024 : Shape := ⟨2, ![4, 1024]⟩
abbrev S4x64 : Shape := ⟨2, ![4, 64]⟩
abbrev S4x8x257 : Shape := ⟨3, ![4, 8, 257]⟩
abbrev S4x3x32 : Shape := ⟨3, ![4, 3, 32]⟩
abbrev S4x4x64x64 : Shape := ⟨4, ![4, 4, 64, 64]⟩
abbrev S4x256 : Shape := ⟨2, ![4, 256]⟩
abbrev S_ : Shape := ⟨0, ![]⟩

abbrev nBuf : Space → Nat
  | .hbm => 296
  | .vmem => 0
  | .smem => 0
  | _ => 0

abbrev hbmTy0_0 (i : Nat) : BufTy := match i % 128 with
  | 0 => ⟨S4x1024, .f32⟩
  | 1 => ⟨S4x64, .f32⟩
  | 2 => ⟨S4x64, .f32⟩
  | 3 => ⟨S4x8x257, .f32⟩
  | 4 => ⟨S4x3x32, .f32⟩
  | 5 => ⟨S4x4x64x64, .f32⟩
  | 6 => ⟨S4x256, .f32⟩
  | 7 => ⟨S4x1024, .f32⟩
  | 8 => ⟨S4x1024, .f32⟩
  | 9 => ⟨S4x64, .f32⟩
  | 10 => ⟨S4x64, .f32⟩
  | 11 => ⟨S4x8x257, .f32⟩
  | 12 => ⟨S4x3x32, .f32⟩
  | 13 => ⟨S4x4x64x64, .f32⟩
  | 14 => ⟨S4x256, .f32⟩
  | 15 => ⟨S4x1024, .f32⟩
  | 16 => ⟨S4x1024, .f32⟩
  | 17 => ⟨S4x64, .f32⟩
  | 18 => ⟨S4x64, .f32⟩
  | 19 => ⟨S4x8x257, .f32⟩
  | 20 => ⟨S4x3x32, .f32⟩
  | 21 => ⟨S4x4x64x64, .f32⟩
  | 22 => ⟨S4x256, .f32⟩
  | 23 => ⟨S4x1024, .f32⟩
  | 24 => ⟨S4x1024, .f32⟩
  | 25 => ⟨S4x64, .f32⟩
  | 26 => ⟨S4x64, .f32⟩
  | 27 => ⟨S4x8x257, .f32⟩
  | 28 => ⟨S4x3x32, .f32⟩
  | 29 => ⟨S4x4x64x64, .f32⟩
  | 30 => ⟨S4x256, .f32⟩
  | 31 => ⟨S4x1024, .f32⟩
  | 32 => ⟨S_, .f32⟩
  | 33 => ⟨S4x1024, .f32⟩
  | 34 => ⟨S4x1024, .f32⟩
  | 35 => ⟨S_, .f32⟩
  | 36 => ⟨S4x1024, .f32⟩
  | 37 => ⟨S4x1024, .f32⟩
  | 38 => ⟨S4x1024, .f32⟩
  | 39 => ⟨S_, .f32⟩
  | 40 => ⟨S4x1024, .f32⟩
  | 41 => ⟨S4x1024, .f32⟩
  | 42 => ⟨S4x1024, .f32⟩
  | 43 => ⟨S_, .f32⟩
  | 44 => ⟨S4x1024, .f32⟩
  | 45 => ⟨S4x1024, .f32⟩
  | 46 => ⟨S4x1024, .f32⟩
  | 47 => ⟨S_, .f32⟩
  | 48 => ⟨S4x1024, .f32⟩
  | 49 => ⟨S4x1024, .f32⟩
  | 50 => ⟨S_, .f32⟩
  | 51 => ⟨S4x1024, .f32⟩
  | 52 => ⟨S4x1024, .f32⟩
  | 53 => ⟨S4x1024, .f32⟩
  | 54 => ⟨S_, .f32⟩
  | 55 => ⟨S4x1024, .f32⟩
  | 56 => ⟨S4x1024, .f32⟩
  | 57 => ⟨S4x1024, .f32⟩
  | 58 => ⟨S_, .f32⟩
  | 59 => ⟨S4x1024, .f32⟩
  | 60 => ⟨S4x1024, .f32⟩
  | 61 => ⟨S4x1024, .f32⟩
  | 62 => ⟨S_, .f32⟩
  | 63 => ⟨S4x1024, .f32⟩
  | 64 => ⟨S4x1024, .f32⟩
  | 65 => ⟨S_, .f32⟩
  | 66 => ⟨S4x64, .f32⟩
  | 67 => ⟨S4x64, .f32⟩
  | 68 => ⟨S_, .f32⟩
  | 69 => ⟨S4x64, .f32⟩
  | 70 => ⟨S4x64, .f32⟩
  | 71 => ⟨S4x64, .f32⟩
  | 72 => ⟨S_, .f32⟩
  | 73 => ⟨S4x64, .f32⟩
  | 74 => ⟨S4x64, .f32⟩
  | 75 => ⟨S4x64, .f32⟩
  | 76 => ⟨S_, .f32⟩
  | 77 => ⟨S4x64, .f32⟩
  | 78 => ⟨S4x64, .f32⟩
  | 79 => ⟨S4x64, .f32⟩
  | 80 => ⟨S_, .f32⟩
  | 81 => ⟨S4x64, .f32⟩
  | 82 => ⟨S4x64, .f32⟩
  | 83 => ⟨S_, .f32⟩
  | 84 => ⟨S4x64, .f32⟩
  | 85 => ⟨S4x64, .f32⟩
  | 86 => ⟨S4x64, .f32⟩
  | 87 => ⟨S_, .f32⟩
  | 88 => ⟨S4x64, .f32⟩
  | 89 => ⟨S4x64, .f32⟩
  | 90 => ⟨S4x64, .f32⟩
  | 91 => ⟨S_, .f32⟩
  | 92 => ⟨S4x64, .f32⟩
  | 93 => ⟨S4x64, .f32⟩
  | 94 => ⟨S4x64, .f32⟩
  | 95 => ⟨S_, .f32⟩
  | 96 => ⟨S4x64, .f32⟩
  | 97 => ⟨S4x64, .f32⟩
  | 98 => ⟨S_, .f32⟩
  | 99 => ⟨S4x64, .f32⟩
  | 100 => ⟨S4x64, .f32⟩
  | 101 => ⟨S_, .f32⟩
  | 102 => ⟨S4x64, .f32⟩
  | 103 => ⟨S4x64, .f32⟩
  | 104 => ⟨S4x64, .f32⟩
  | 105 => ⟨S_, .f32⟩
  | 106 => ⟨S4x64, .f32⟩
  | 107 => ⟨S4x64, .f32⟩
  | 108 => ⟨S4x64, .f32⟩
  | 109 => ⟨S_, .f32⟩
  | 110 => ⟨S4x64, .f32⟩
  | 111 => ⟨S4x64, .f32⟩
  | 112 => ⟨S4x64, .f32⟩
  | 113 => ⟨S_, .f32⟩
  | 114 => ⟨S4x64, .f32⟩
  | 115 => ⟨S4x64, .f32⟩
  | 116 => ⟨S_, .f32⟩
  | 117 => ⟨S4x64, .f32⟩
  | 118 => ⟨S4x64, .f32⟩
  | 119 => ⟨S4x64, .f32⟩
  | 120 => ⟨S_, .f32⟩
  | 121 => ⟨S4x64, .f32⟩
  | 122 => ⟨S4x64, .f32⟩
  | 123 => ⟨S4x64, .f32⟩
  | 124 => ⟨S_, .f32⟩
  | 125 => ⟨S4x64, .f32⟩
  | 126 => ⟨S4x64, .f32⟩
  | 127 => ⟨S4x64, .f32⟩
  | _ => ⟨S4x1024, .f32⟩

abbrev hbmTy0_1 (i : Nat) : BufTy := match i % 128 with
  | 0 => ⟨S_, .f32⟩
  | 1 => ⟨S4x64, .f32⟩
  | 2 => ⟨S4x64, .f32⟩
  | 3 => ⟨S_, .f32⟩
  | 4 => ⟨S4x8x257, .f32⟩
  | 5 => ⟨S4x8x257, .f32⟩
  | 6 => ⟨S_, .f32⟩
  | 7 => ⟨S4x8x257, .f32⟩
  | 8 => ⟨S4x8x257, .f32⟩
  | 9 => ⟨S4x8x257, .f32⟩
  | 10 => ⟨S_, .f32⟩
  | 11 => ⟨S4x8x257, .f32⟩
  | 12 => ⟨S4x8x257, .f32⟩
  | 13 => ⟨S4x8x257, .f32⟩
  | 14 => ⟨S_, .f32⟩
  | 15 => ⟨S4x8x257, .f32⟩
  | 16 => ⟨S4x8x257, .f32⟩
  | 17 => ⟨S4x8x257, .f32⟩
  | 18 => ⟨S_, .f32⟩
  | 19 => ⟨S4x8x257, .f32⟩
  | 20 => ⟨S4x8x257, .f32⟩
  | 21 => ⟨S_, .f32⟩
  | 22 => ⟨S4x8x257, .f32⟩
  | 23 => ⟨S4x8x257, .f32⟩
  | 24 => ⟨S4x8x257, .f32⟩
  | 25 => ⟨S_, .f32⟩
  | 26 => ⟨S4x8x257, .f32⟩
  | 27 => ⟨S4x8x257, .f32⟩
  | 28 => ⟨S4x8x257, .f32⟩
  | 29 => ⟨S_, .f32⟩
  | 30 => ⟨S4x8x257, .f32⟩
  | 31 => ⟨S4x8x257, .f32⟩
  | 32 => ⟨S4x8x257, .f32⟩
  | 33 => ⟨S_, .f32⟩
  | 34 => ⟨S4x8x257, .f32⟩
  | 35 => ⟨S4x8x257, .f32⟩
  | 36 => ⟨S_, .f32⟩
  | 37 => ⟨S4x3x32, .f32⟩
  | 38 => ⟨S4x3x32, .f32⟩
  | 39 => ⟨S_, .f32⟩
  | 40 => ⟨S4x3x32, .f32⟩
  | 41 => ⟨S4x3x32, .f32⟩
  | 42 => ⟨S4x3x32, .f32⟩
  | 43 => ⟨S_, .f32⟩
  | 44 => ⟨S4x3x32, .f32⟩
  | 45 => ⟨S4x3x32, .f32⟩
  | 46 => ⟨S4x3x32, .f32⟩
  | 47 => ⟨S_, .f32⟩
  | 48 => ⟨S4x3x32, .f32⟩
  | 49 => ⟨S4x3x32, .f32⟩
  | 50 => ⟨S4x3x32, .f32⟩
  | 51 => ⟨S_, .f32⟩
  | 52 => ⟨S4x3x32, .f32⟩
  | 53 => ⟨S4x3x32, .f32⟩
  | 54 => ⟨S_, .f32⟩
  | 55 => ⟨S4x3x32, .f32⟩
  | 56 => ⟨S4x3x32, .f32⟩
  | 57 => ⟨S4x3x32, .f32⟩
  | 58 => ⟨S_, .f32⟩
  | 59 => ⟨S4x3x32, .f32⟩
  | 60 => ⟨S4x3x32, .f32⟩
  | 61 => ⟨S4x3x32, .f32⟩
  | 62 => ⟨S_, .f32⟩
  | 63 => ⟨S4x3x32, .f32⟩
  | 64 => ⟨S4x3x32, .f32⟩
  | 65 => ⟨S4x3x32, .f32⟩
  | 66 => ⟨S_, .f32⟩
  | 67 => ⟨S4x3x32, .f32⟩
  | 68 => ⟨S4x3x32, .f32⟩
  | 69 => ⟨S_, .f32⟩
  | 70 => ⟨S4x4x64x64, .f32⟩
  | 71 => ⟨S4x4x64x64, .f32⟩
  | 72 => ⟨S_, .f32⟩
  | 73 => ⟨S4x4x64x64, .f32⟩
  | 74 => ⟨S4x4x64x64, .f32⟩
  | 75 => ⟨S4x4x64x64, .f32⟩
  | 76 => ⟨S_, .f32⟩
  | 77 => ⟨S4x4x64x64, .f32⟩
  | 78 => ⟨S4x4x64x64, .f32⟩
  | 79 => ⟨S4x4x64x64, .f32⟩
  | 80 => ⟨S_, .f32⟩
  | 81 => ⟨S4x4x64x64, .f32⟩
  | 82 => ⟨S4x4x64x64, .f32⟩
  | 83 => ⟨S4x4x64x64, .f32⟩
  | 84 => ⟨S_, .f32⟩
  | 85 => ⟨S4x4x64x64, .f32⟩
  | 86 => ⟨S4x4x64x64, .f32⟩
  | 87 => ⟨S_, .f32⟩
  | 88 => ⟨S4x4x64x64, .f32⟩
  | 89 => ⟨S4x4x64x64, .f32⟩
  | 90 => ⟨S4x4x64x64, .f32⟩
  | 91 => ⟨S_, .f32⟩
  | 92 => ⟨S4x4x64x64, .f32⟩
  | 93 => ⟨S4x4x64x64, .f32⟩
  | 94 => ⟨S4x4x64x64, .f32⟩
  | 95 => ⟨S_, .f32⟩
  | 96 => ⟨S4x4x64x64, .f32⟩
  | 97 => ⟨S4x4x64x64, .f32⟩
  | 98 => ⟨S4x4x64x64, .f32⟩
  | 99 => ⟨S_, .f32⟩
  | 100 => ⟨S4x4x64x64, .f32⟩
  | 101 => ⟨S4x4x64x64, .f32⟩
  | 102 => ⟨S_, .f32⟩
  | 103 => ⟨S4x256, .f32⟩
  | 104 => ⟨S4x256, .f32⟩
  | 105 => ⟨S_, .f32⟩
  | 106 => ⟨S4x256, .f32⟩
  | 107 => ⟨S4x256, .f32⟩
  | 108 => ⟨S4x256, .f32⟩
  | 109 => ⟨S_, .f32⟩
  | 110 => ⟨S4x256, .f32⟩
  | 111 => ⟨S4x256, .f32⟩
  | 112 => ⟨S4x256, .f32⟩
  | 113 => ⟨S_, .f32⟩
  | 114 => ⟨S4x256, .f32⟩
  | 115 => ⟨S4x256, .f32⟩
  | 116 => ⟨S4x256, .f32⟩
  | 117 => ⟨S_, .f32⟩
  | 118 => ⟨S4x256, .f32⟩
  | 119 => ⟨S4x256, .f32⟩
  | 120 => ⟨S_, .f32⟩
  | 121 => ⟨S4x256, .f32⟩
  | 122 => ⟨S4x256, .f32⟩
  | 123 => ⟨S4x256, .f32⟩
  | 124 => ⟨S_, .f32⟩
  | 125 => ⟨S4x256, .f32⟩
  | 126 => ⟨S4x256, .f32⟩
  | 127 => ⟨S4x256, .f32⟩
  | _ => ⟨S4x1024, .f32⟩

abbrev hbmTy0_2 (i : Nat) : BufTy := match i % 128 with
  | 0 => ⟨S_, .f32⟩
  | 1 => ⟨S4x256, .f32⟩
  | 2 => ⟨S4x256, .f32⟩
  | 3 => ⟨S4x256, .f32⟩
  | 4 => ⟨S_, .f32⟩
  | 5 => ⟨S4x256, .f32⟩
  | 6 => ⟨S4x256, .f32⟩
  | 7 => ⟨S_, .f32⟩
  | 8 => ⟨S4x1024, .f32⟩
  | 9 => ⟨S4x1024, .f32⟩
  | 10 => ⟨S_, .f32⟩
  | 11 => ⟨S4x1024, .f32⟩
  | 12 => ⟨S4x1024, .f32⟩
  | 13 => ⟨S4x1024, .f32⟩
  | 14 => ⟨S_, .f32⟩
  | 15 => ⟨S4x1024, .f32⟩
  | 16 => ⟨S4x1024, .f32⟩
  | 17 => ⟨S4x1024, .f32⟩
  | 18 => ⟨S_, .f32⟩
  | 19 => ⟨S4x1024, .f32⟩
  | 20 => ⟨S4x1024, .f32⟩
  | 21 => ⟨S4x1024, .f32⟩
  | 22 => ⟨S_, .f32⟩
  | 23 => ⟨S4x1024, .f32⟩
  | 24 => ⟨S4x1024, .f32⟩
  | 25 => ⟨S_, .f32⟩
  | 26 => ⟨S4x1024, .f32⟩
  | 27 => ⟨S4x1024, .f32⟩
  | 28 => ⟨S4x1024, .f32⟩
  | 29 => ⟨S_, .f32⟩
  | 30 => ⟨S4x1024, .f32⟩
  | 31 => ⟨S4x1024, .f32⟩
  | 32 => ⟨S4x1024, .f32⟩
  | 33 => ⟨S_, .f32⟩
  | 34 => ⟨S4x1024, .f32⟩
  | 35 => ⟨S4x1024, .f32⟩
  | 36 => ⟨S4x1024, .f32⟩
  | 37 => ⟨S_, .f32⟩
  | 38 => ⟨S4x1024, .f32⟩
  | 39 => ⟨S4x1024, .f32⟩
  | _ => ⟨S4x1024, .f32⟩

abbrev hbmTy (i : Nat) : BufTy := match i / 128 with
  | 0 => hbmTy0_0 i
  | 1 => hbmTy0_1 i
  | 2 => hbmTy0_2 i
  | _ => ⟨S4x1024, .f32⟩

abbrev bufTy : (tb : Table) → Fin (tcTables nBuf tb) → BufTy
  | .hbm, ⟨i, _⟩ => hbmTy i
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_3 : Ref sig .tc := ⟨.hbm, 47, rfl⟩
abbrev main_v11 : Ref sig .tc := ⟨.hbm, 48, rfl⟩
abbrev main_v12 : Ref sig .tc := ⟨.hbm, 49, rfl⟩
abbrev main_cst_4 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_6 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_7 : Ref sig .tc := ⟨.hbm, 62, rfl⟩
abbrev main_v22 : Ref sig .tc := ⟨.hbm, 63, rfl⟩
abbrev main_v23 : Ref sig .tc := ⟨.hbm, 64, rfl⟩
abbrev main_cst_8 : Ref sig .tc := ⟨.hbm, 65, rfl⟩
abbrev main_v24 : Ref sig .tc := ⟨.hbm, 66, rfl⟩
abbrev main_v25 : Ref sig .tc := ⟨.hbm, 67, rfl⟩
abbrev main_cst_9 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_10 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_11 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_12 : Ref sig .tc := ⟨.hbm, 80, rfl⟩
abbrev main_v35 : Ref sig .tc := ⟨.hbm, 81, rfl⟩
abbrev main_v36 : Ref sig .tc := ⟨.hbm, 82, rfl⟩
abbrev main_cst_13 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_14 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_15 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_16 : Ref sig .tc := ⟨.hbm, 95, rfl⟩
abbrev main_v46 : Ref sig .tc := ⟨.hbm, 96, rfl⟩
abbrev main_v47 : Ref sig .tc := ⟨.hbm, 97, rfl⟩
abbrev main_cst_17 : Ref sig .tc := ⟨.hbm, 98, rfl⟩
abbrev main_v48 : Ref sig .tc := ⟨.hbm, 99, rfl⟩
abbrev main_v49 : Ref sig .tc := ⟨.hbm, 100, rfl⟩
abbrev main_cst_18 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_19 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_20 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_21 : Ref sig .tc := ⟨.hbm, 113, rfl⟩
abbrev main_v59 : Ref sig .tc := ⟨.hbm, 114, rfl⟩
abbrev main_v60 : Ref sig .tc := ⟨.hbm, 115, rfl⟩
abbrev main_cst_22 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_23 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_24 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_25 : Ref sig .tc := ⟨.hbm, 128, rfl⟩
abbrev main_v70 : Ref sig .tc := ⟨.hbm, 129, rfl⟩
abbrev main_v71 : Ref sig .tc := ⟨.hbm, 130, rfl⟩
abbrev main_cst_26 : Ref sig .tc := ⟨.hbm, 131, rfl⟩
abbrev main_v72 : Ref sig .tc := ⟨.hbm, 132, rfl⟩
abbrev main_v73 : Ref sig .tc := ⟨.hbm, 133, rfl⟩
abbrev main_cst_27 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_28 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_29 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_30 : Ref sig .tc := ⟨.hbm, 146, rfl⟩
abbrev main_v83 : Ref sig .tc := ⟨.hbm, 147, rfl⟩
abbrev main_v84 : Ref sig .tc := ⟨.hbm, 148, rfl⟩
abbrev main_cst_31 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_32 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_33 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_34 : Ref sig .tc := ⟨.hbm, 161, rfl⟩
abbrev main_v94 : Ref sig .tc := ⟨.hbm, 162, rfl⟩
abbrev main_v95 : Ref sig .tc := ⟨.hbm, 163, rfl⟩
abbrev main_cst_35 : Ref sig .tc := ⟨.hbm, 164, rfl⟩
abbrev main_v96 : Ref sig .tc := ⟨.hbm, 165, rfl⟩
abbrev main_v97 : Ref sig .tc := ⟨.hbm, 166, rfl⟩
abbrev main_cst_36 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_37 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_38 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_cst_39 : Ref sig .tc := ⟨.hbm, 179, rfl⟩
abbrev main_v107 : Ref sig .tc := ⟨.hbm, 180, rfl⟩
abbrev main_v108 : Ref sig .tc := ⟨.hbm, 181, rfl⟩
abbrev main_cst_40 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_41 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_42 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_43 : Ref sig .tc := ⟨.hbm, 194, rfl⟩
abbrev main_v118 : Ref sig .tc := ⟨.hbm, 195, rfl⟩
abbrev main_v119 : Ref sig .tc := ⟨.hbm, 196, rfl⟩
abbrev main_cst_44 : Ref sig .tc := ⟨.hbm, 197, rfl⟩
abbrev main_v120 : Ref sig .tc := ⟨.hbm, 198, rfl⟩
abbrev main_v121 : Ref sig .tc := ⟨.hbm, 199, rfl⟩
abbrev main_cst_45 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_46 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_47 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_cst_48 : Ref sig .tc := ⟨.hbm, 212, rfl⟩
abbrev main_v131 : Ref sig .tc := ⟨.hbm, 213, rfl⟩
abbrev main_v132 : Ref sig .tc := ⟨.hbm, 214, rfl⟩
abbrev main_cst_49 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_50 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_51 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_52 : Ref sig .tc := ⟨.hbm, 227, rfl⟩
abbrev main_v142 : Ref sig .tc := ⟨.hbm, 228, rfl⟩
abbrev main_v143 : Ref sig .tc := ⟨.hbm, 229, rfl⟩
abbrev main_cst_53 : Ref sig .tc := ⟨.hbm, 230, rfl⟩
abbrev main_v144 : Ref sig .tc := ⟨.hbm, 231, rfl⟩
abbrev main_v145 : Ref sig .tc := ⟨.hbm, 232, rfl⟩
abbrev main_cst_54 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_55 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_56 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_57 : Ref sig .tc := ⟨.hbm, 245, rfl⟩
abbrev main_v155 : Ref sig .tc := ⟨.hbm, 246, rfl⟩
abbrev main_v156 : Ref sig .tc := ⟨.hbm, 247, rfl⟩
abbrev main_cst_58 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_cst_59 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_cst_60 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_cst_61 : Ref sig .tc := ⟨.hbm, 260, rfl⟩
abbrev main_v166 : Ref sig .tc := ⟨.hbm, 261, rfl⟩
abbrev main_v167 : Ref sig .tc := ⟨.hbm, 262, rfl⟩
abbrev main_cst_62 : Ref sig .tc := ⟨.hbm, 263, rfl⟩
abbrev main_v168 : Ref sig .tc := ⟨.hbm, 264, rfl⟩
abbrev main_v169 : Ref sig .tc := ⟨.hbm, 265, rfl⟩
abbrev main_cst_63 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_cst_64 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_cst_65 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_cst_66 : Ref sig .tc := ⟨.hbm, 278, rfl⟩
abbrev main_v179 : Ref sig .tc := ⟨.hbm, 279, rfl⟩
abbrev main_v180 : Ref sig .tc := ⟨.hbm, 280, rfl⟩
abbrev main_cst_67 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_cst_68 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_cst_69 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_cst_70 : Ref sig .tc := ⟨.hbm, 293, rfl⟩
abbrev main_v190 : Ref sig .tc := ⟨.hbm, 294, rfl⟩
abbrev main_v191 : Ref sig .tc := ⟨.hbm, 295, rfl⟩

abbrev nD : Nat := 1
abbrev τ : Topo := Topo.v7x

variable {F : FTy → Type} [FloatOps F]
-- ==== Kernel16.lean ====
abbrev S8x320x1024 : Shape := ⟨3, ![8, 320, 1024]⟩
abbrev S4x320x1024 : Shape := ⟨3, ![4, 320, 1024]⟩
abbrev S8x64x1024 : Shape := ⟨3, ![8, 64, 1024]⟩
abbrev S4x64x1024 : Shape := ⟨3, ![4, 64, 1024]⟩
abbrev S1x64x1024 : Shape := ⟨3, ![1, 64, 1024]⟩
abbrev S64x1024 : Shape := ⟨2, ![64, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8x320x1024, .bf16⟩
  | .hbm, ⟨1, _⟩ => ⟨S8x320x1024, .bf16⟩
  | .hbm, ⟨2, _⟩ => ⟨S8x320x1024, .bf16⟩
  | .hbm, ⟨3, _⟩ => ⟨S8x320x1024, .bf16⟩
  | .hbm, ⟨4, _⟩ => ⟨S4x320x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S8x64x1024, .bf16⟩
  | .local _ .vmem, ⟨3, _⟩ => ⟨S8x64x1024, .bf16⟩
  | .local _ .vmem, ⟨4, _⟩ => ⟨S8x64x1024, .bf16⟩
  | .local _ .vmem, ⟨5, _⟩ => ⟨S8x64x1024, .bf16⟩
  | .local _ .vmem, ⟨6, _⟩ => ⟨S8x64x1024, .bf16⟩
  | .local _ .vmem, ⟨7, _⟩ => ⟨S8x64x1024, .bf16⟩
  | .local _ .vmem, ⟨8, _⟩ => ⟨S4x64x1024, .f32⟩
  | .local _ .vmem, ⟨9, _⟩ => ⟨S4x64x1024, .f32⟩
  | _, _ => ⟨S8x320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel16Ideal.lean ====
abbrev S8x320x1024 : Shape := ⟨3, ![8, 320, 1024]⟩
abbrev S4x320x1024 : Shape := ⟨3, ![4, 320, 1024]⟩
abbrev S8x64x1024 : Shape := ⟨3, ![8, 64, 1024]⟩
abbrev S4x64x1024 : Shape := ⟨3, ![4, 64, 1024]⟩
abbrev S1x64x1024 : Shape := ⟨3, ![1, 64, 1024]⟩
abbrev S64x1024 : Shape := ⟨2, ![64, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8x320x1024, .bf16⟩
  | .hbm, ⟨1, _⟩ => ⟨S8x320x1024, .bf16⟩
  | .hbm, ⟨2, _⟩ => ⟨S8x320x1024, .bf16⟩
  | .hbm, ⟨3, _⟩ => ⟨S8x320x1024, .bf16⟩
  | .hbm, ⟨4, _⟩ => ⟨S4x320x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S8x64x1024, .bf16⟩
  | .local _ .vmem, ⟨3, _⟩ => ⟨S8x64x1024, .bf16⟩
  | .local _ .vmem, ⟨4, _⟩ => ⟨S8x64x1024, .bf16⟩
  | .local _ .vmem, ⟨5, _⟩ => ⟨S8x64x1024, .bf16⟩
  | .local _ .vmem, ⟨6, _⟩ => ⟨S8x64x1024, .bf16⟩
  | .local _ .vmem, ⟨7, _⟩ => ⟨S8x64x1024, .bf16⟩
  | .local _ .vmem, ⟨8, _⟩ => ⟨S4x64x1024, .f32⟩
  | .local _ .vmem, ⟨9, _⟩ => ⟨S4x64x1024, .f32⟩
  | _, _ => ⟨S8x320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference16Ideal.lean ====
abbrev S8x320x1024 : Shape := ⟨3, ![8, 320, 1024]⟩
abbrev S_ : Shape := ⟨0, ![]⟩
abbrev S320x1024 : Shape := ⟨2, ![320, 1024]⟩
abbrev S1x320x1024 : Shape := ⟨3, ![1, 320, 1024]⟩
abbrev S4x320x1024 : Shape := ⟨3, ![4, 320, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8x320x1024, .bf16⟩
  | .hbm, ⟨1, _⟩ => ⟨S8x320x1024, .bf16⟩
  | .hbm, ⟨2, _⟩ => ⟨S8x320x1024, .bf16⟩
  | .hbm, ⟨3, _⟩ => ⟨S8x320x1024, .bf16⟩
  | .hbm, ⟨4, _⟩ => ⟨S8x320x1024, .f32⟩
  | .hbm, ⟨5, _⟩ => ⟨S_, .f32⟩
  | .hbm, ⟨6, _⟩ => ⟨S320x1024, .f32⟩
  | .hbm, ⟨7, _⟩ => ⟨S8x320x1024, .f32⟩
  | .hbm, ⟨8, _⟩ => ⟨S_, .f32⟩
  | .hbm, ⟨9, _⟩ => ⟨S320x1024, .f32⟩
  | .hbm, ⟨10, _⟩ => ⟨S8x320x1024, .f32⟩
  | .hbm, ⟨11, _⟩ => ⟨S_, .f32⟩
  | .hbm, ⟨12, _⟩ => ⟨S320x1024, .f32⟩
  | .hbm, ⟨13, _⟩ => ⟨S8x320x1024, .f32⟩
  | .hbm, ⟨14, _⟩ => ⟨S_, .f32⟩
  | .hbm, ⟨15, _⟩ => ⟨S320x1024, .f32⟩
  | .hbm, ⟨16, _⟩ => ⟨S1x320x1024, .f32⟩
  | .hbm, ⟨17, _⟩ => ⟨S1x320x1024, .f32⟩
  | .hbm, ⟨18, _⟩ => ⟨S1x320x1024, .f32⟩
  | .hbm, ⟨19, _⟩ => ⟨S1x320x1024, .f32⟩
  | .hbm, ⟨20, _⟩ => ⟨S4x320x1024, .f32⟩
  | _, _ => ⟨S8x320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Kernel17.lean ====
abbrev S8x128x1024 : Shape := ⟨3, ![8, 128, 1024]⟩
abbrev S4x128x1024 : Shape := ⟨3, ![4, 128, 1024]⟩
abbrev S8x64x1024 : Shape := ⟨3, ![8, 64, 1024]⟩
abbrev S4x64x1024 : Shape := ⟨3, ![4, 64, 1024]⟩
abbrev S1x64x1024 : Shape := ⟨3, ![1, 64, 1024]⟩
abbrev S64x1024 : Shape := ⟨2, ![64, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S4x128x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S8x64x1024, .bf16⟩
  | .local _ .vmem, ⟨3, _⟩ => ⟨S8x64x1024, .bf16⟩
  | .local _ .vmem, ⟨4, _⟩ => ⟨S8x64x1024, .bf16⟩
  | .local _ .vmem, ⟨5, _⟩ => ⟨S8x64x1024, .bf16⟩
  | .local _ .vmem, ⟨6, _⟩ => ⟨S8x64x1024, .bf16⟩
  | .local _ .vmem, ⟨7, _⟩ => ⟨S8x64x1024, .bf16⟩
  | .local _ .vmem, ⟨8, _⟩ => ⟨S4x64x1024, .f32⟩
  | .local _ .vmem, ⟨9, _⟩ => ⟨S4x64x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel17Ideal.lean ====
abbrev S8x128x1024 : Shape := ⟨3, ![8, 128, 1024]⟩
abbrev S4x128x1024 : Shape := ⟨3, ![4, 128, 1024]⟩
abbrev S8x64x1024 : Shape := ⟨3, ![8, 64, 1024]⟩
abbrev S4x64x1024 : Shape := ⟨3, ![4, 64, 1024]⟩
abbrev S1x64x1024 : Shape := ⟨3, ![1, 64, 1024]⟩
abbrev S64x1024 : Shape := ⟨2, ![64, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S4x128x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S8x64x1024, .bf16⟩
  | .local _ .vmem, ⟨3, _⟩ => ⟨S8x64x1024, .bf16⟩
  | .local _ .vmem, ⟨4, _⟩ => ⟨S8x64x1024, .bf16⟩
  | .local _ .vmem, ⟨5, _⟩ => ⟨S8x64x1024, .bf16⟩
  | .local _ .vmem, ⟨6, _⟩ => ⟨S8x64x1024, .bf16⟩
  | .local _ .vmem, ⟨7, _⟩ => ⟨S8x64x1024, .bf16⟩
  | .local _ .vmem, ⟨8, _⟩ => ⟨S4x64x1024, .f32⟩
  | .local _ .vmem, ⟨9, _⟩ => ⟨S4x64x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference17Ideal.lean ====
abbrev S8x128x1024 : Shape := ⟨3, ![8, 128, 1024]⟩
abbrev S_ : Shape := ⟨0, ![]⟩
abbrev S128x1024 : Shape := ⟨2, ![128, 1024]⟩
abbrev S1x128x1024 : Shape := ⟨3, ![1, 128, 1024]⟩
abbrev S4x128x1024 : Shape := ⟨3, ![4, 128, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S8x128x1024, .f32⟩
  | .hbm, ⟨8, _⟩ => ⟨S_, .f32⟩
  | .hbm, ⟨9, _⟩ => ⟨S128x1024, .f32⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S8x128x1024, .f32⟩
  | .hbm, ⟨14, _⟩ => ⟨S_, .f32⟩
  | .hbm, ⟨15, _⟩ => ⟨S128x1024, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S1x128x1024, .f32⟩
  | .hbm, ⟨20, _⟩ => ⟨S4x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Kernel18.lean ====
abbrev S8x512x1024 : Shape := ⟨3, ![8, 512, 1024]⟩
abbrev S4x512x1024 : Shape := ⟨3, ![4, 512, 1024]⟩
abbrev S8x64x1024 : Shape := ⟨3, ![8, 64, 1024]⟩
abbrev S4x64x1024 : Shape := ⟨3, ![4, 64, 1024]⟩
abbrev S1x64x1024 : Shape := ⟨3, ![1, 64, 1024]⟩
abbrev S64x1024 : Shape := ⟨2, ![64, 1024]⟩

abbrev nBuf : Space → Nat
  | .hbm => 10
  | .vmem => 20
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S8x512x1024, .bf16⟩
  | .hbm, ⟨3, _⟩ => ⟨S8x512x1024, .bf16⟩
  | .hbm, ⟨4, _⟩ => ⟨S8x512x1024, .bf16⟩
  | .hbm, ⟨5, _⟩ => ⟨S8x512x1024, .bf16⟩
  | .hbm, ⟨6, _⟩ => ⟨S8x512x1024, .bf16⟩
  | .hbm, ⟨7, _⟩ => ⟨S8x512x1024, .bf16⟩
  | .hbm, ⟨8, _⟩ => ⟨S4x512x1024, .f32⟩
  | .hbm, ⟨9, _⟩ => ⟨S4x512x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S8x64x1024, .bf16⟩
  | .local _ .vmem, ⟨3, _⟩ => ⟨S8x64x1024, .bf16⟩
  | .local _ .vmem, ⟨4, _⟩ => ⟨S8x64x1024, .bf16⟩
  | .local _ .vmem, ⟨5, _⟩ => ⟨S8x64x1024, .bf16⟩
  | .local _ .vmem, ⟨6, _⟩ => ⟨S8x64x1024, .bf16⟩
  | .local _ .vmem, ⟨7, _⟩ => ⟨S8x64x1024, .bf16⟩
  | .local _ .vmem, ⟨8, _⟩ => ⟨S8x64x1024, .bf16⟩
  | .local _ .vmem, ⟨9, _⟩ => ⟨S8x64x1024, .bf16⟩
  | .local _ .vmem, ⟨10, _⟩ => ⟨S8x64x1024, .bf16⟩
  | .local _ .vmem, ⟨11, _⟩ => ⟨S8x64x1024, .bf16⟩
  | .local _ .vmem, ⟨12, _⟩ => ⟨S8x64x1024, .bf16⟩
  | .local _ .vmem, ⟨13, _⟩ => ⟨S8x64x1024, .bf16⟩
  | .local _ .vmem, ⟨14, _⟩ => ⟨S8x64x1024, .bf16⟩
  | .local _ .vmem, ⟨15, _⟩ => ⟨S8x64x1024, .bf16⟩
  | .local _ .vmem, ⟨16, _⟩ => ⟨S4x64x1024, .f32⟩
  | .local _ .vmem, ⟨17, _⟩ => ⟨S4x64x1024, .f32⟩
  | .local _ .vmem, ⟨18, _⟩ => ⟨S4x64x1024, .f32⟩
  | .local _ .vmem, ⟨19, _⟩ => ⟨S4x64x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference18Ideal.lean ====
abbrev S8x512x1024 : Shape := ⟨3, ![8, 512, 1024]⟩
abbrev S_ : Shape := ⟨0, ![]⟩
abbrev S512x1024 : Shape := ⟨2, ![512, 1024]⟩
abbrev S1x512x1024 : Shape := ⟨3, ![1, 512, 1024]⟩
abbrev S4x512x1024 : Shape := ⟨3, ![4, 512, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S8x512x1024, .bf16⟩
  | .hbm, ⟨3, _⟩ => ⟨S8x512x1024, .bf16⟩
  | .hbm, ⟨4, _⟩ => ⟨S8x512x1024, .bf16⟩
  | .hbm, ⟨5, _⟩ => ⟨S8x512x1024, .bf16⟩
  | .hbm, ⟨6, _⟩ => ⟨S8x512x1024, .bf16⟩
  | .hbm, ⟨7, _⟩ => ⟨S8x512x1024, .bf16⟩
  | .hbm, ⟨8, _⟩ => ⟨S8x512x1024, .f32⟩
  | .hbm, ⟨9, _⟩ => ⟨S_, .f32⟩
  | .hbm, ⟨10, _⟩ => ⟨S512x1024, .f32⟩
  | .hbm, ⟨11, _⟩ => ⟨S8x512x1024, .f32⟩
  | .hbm, ⟨12, _⟩ => ⟨S_, .f32⟩
  | .hbm, ⟨13, _⟩ => ⟨S512x1024, .f32⟩
  | .hbm, ⟨14, _⟩ => ⟨S8x512x1024, .f32⟩
  | .hbm, ⟨15, _⟩ => ⟨S_, .f32⟩
  | .hbm, ⟨16, _⟩ => ⟨S512x1024, .f32⟩
  | .hbm, ⟨17, _⟩ => ⟨S8x512x1024, .f32⟩
  | .hbm, ⟨18, _⟩ => ⟨S_, .f32⟩
  | .hbm, ⟨19, _⟩ => ⟨S512x1024, .f32⟩
  | .hbm, ⟨20, _⟩ => ⟨S1x512x1024, .f32⟩
  | .hbm, ⟨21, _⟩ => ⟨S1x512x1024, .f32⟩
  | .hbm, ⟨22, _⟩ => ⟨S1x512x1024, .f32⟩
  | .hbm, ⟨23, _⟩ => ⟨S1x512x1024, .f32⟩
  | .hbm, ⟨24, _⟩ => ⟨S4x512x1024, .f32⟩
  | .hbm, ⟨25, _⟩ => ⟨S8x512x1024, .f32⟩
  | .hbm, ⟨26, _⟩ => ⟨S_, .f32⟩
  | .hbm, ⟨27, _⟩ => ⟨S512x1024, .f32⟩
  | .hbm, ⟨28, _⟩ => ⟨S8x512x1024, .f32⟩
  | .hbm, ⟨29, _⟩ => ⟨S_, .f32⟩
  | .hbm, ⟨30, _⟩ => ⟨S512x1024, .f32⟩
  | .hbm, ⟨31, _⟩ => ⟨S8x512x1024, .f32⟩
  | .hbm, ⟨32, _⟩ => ⟨S_, .f32⟩
  | .hbm, ⟨33, _⟩ => ⟨S512x1024, .f32⟩
  | .hbm, ⟨34, _⟩ => ⟨S8x512x1024, .f32⟩
  | .hbm, ⟨35, _⟩ => ⟨S_, .f32⟩
  | .hbm, ⟨36, _⟩ => ⟨S512x1024, .f32⟩
  | .hbm, ⟨37, _⟩ => ⟨S1x512x1024, .f32⟩
  | .hbm, ⟨38, _⟩ => ⟨S1x512x1024, .f32⟩
  | .hbm, ⟨39, _⟩ => ⟨S1x512x1024, .f32⟩
  | .hbm, ⟨40, _⟩ => ⟨S1x512x1024, .f32⟩
  | .hbm, ⟨41, _⟩ => ⟨S4x512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Kernel19.lean ====
abbrev S5440x128 : Shape := ⟨2, ![5440, 128]⟩
abbrev S680x128 : Shape := ⟨2, ![680, 128]⟩
abbrev S87040 : Shape := ⟨1, ![87040]⟩
abbrev S4096 : Shape := ⟨1, ![4096]⟩
abbrev S4x1024 : Shape := ⟨2, ![4, 1024]⟩
abbrev S256 : Shape := ⟨1, ![256]⟩
abbrev S4x64 : Shape := ⟨2, ![4, 64]⟩
abbrev S8224 : Shape := ⟨1, ![8224]⟩
abbrev S4x8x257 : Shape := ⟨3, ![4, 8, 257]⟩
abbrev S3072 : Shape := ⟨1, ![3072]⟩
abbrev S4x3x256 : Shape := ⟨3, ![4, 3, 256]⟩
abbrev S65536 : Shape := ⟨1, ![65536]⟩
abbrev S4x4x64x64 : Shape := ⟨4, ![4, 4, 64, 64]⟩
abbrev S1024 : Shape := ⟨1, ![1024]⟩
abbrev S4x256 : Shape := ⟨2, ![4, 256]⟩
abbrev S1 : Shape := ⟨1, ![1]⟩
abbrev S_ : Shape := ⟨0, ![]⟩

abbrev nBuf : Space → Nat
  | .hbm => 23
  | .vmem => 2
  | .smem => 0
  | _ => 0

abbrev bufTy : (tb : Table) → Fin (tcTables nBuf tb) → BufTy
  | .hbm, ⟨0, _⟩ => ⟨S5440x128, .f32⟩
  | .hbm, ⟨1, _⟩ => ⟨S680x128, .f32⟩
  | .hbm, ⟨2, _⟩ => ⟨S87040, .f32⟩
  | .hbm, ⟨3, _⟩ => ⟨S4096, .f32⟩
  | .hbm, ⟨4, _⟩ => ⟨S4x1024, .f32⟩
  | .hbm, ⟨5, _⟩ => ⟨S256, .f32⟩
  | .hbm, ⟨6, _⟩ => ⟨S4x64, .f32⟩
  | .hbm, ⟨7, _⟩ => ⟨S256, .f32⟩
  | .hbm, ⟨8, _⟩ => ⟨S4x64, .f32⟩
  | .hbm, ⟨9, _⟩ => ⟨S8224, .f32⟩
  | .hbm, ⟨10, _⟩ => ⟨S4x8x257, .f32⟩
  | .hbm, ⟨11, _⟩ => ⟨S3072, .f32⟩
  | .hbm, ⟨12, _⟩ => ⟨S4x3x256, .f32⟩
  | .hbm, ⟨13, _⟩ => ⟨S65536, .f32⟩
  | .hbm, ⟨14, _⟩ => ⟨S4x4x64x64, .f32⟩
  | .hbm, ⟨15, _⟩ => ⟨S1024, .f32⟩
  | .hbm, ⟨16, _⟩ => ⟨S4x256, .f32⟩
  | .hbm, ⟨17, _⟩ => ⟨S4096, .f32⟩
  | .hbm, ⟨18, _⟩ => ⟨S4x1024, .f32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S5440x128, .f32⟩
  | .local _ .vmem, ⟨1, _⟩ => ⟨S680x128, .f32⟩
  | _, _ => ⟨S5440x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_cst : Ref sig .tc := ⟨.hbm, 21, rfl⟩
abbrev main_v20 : Ref sig .tc := ⟨.hbm, 22, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S5440x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S680x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference19Ideal.lean ====
abbrev S5440x128 : Shape := ⟨2, ![5440, 128]⟩
abbrev S8x87040 : Shape := ⟨2, ![8, 87040]⟩
abbrev S_ : Shape := ⟨0, ![]⟩
abbrev S87040 : Shape := ⟨1, ![87040]⟩
abbrev S4096 : Shape := ⟨1, ![4096]⟩
abbrev S256 : Shape := ⟨1, ![256]⟩
abbrev S8224 : Shape := ⟨1, ![8224]⟩
abbrev S3072 : Shape := ⟨1, ![3072]⟩
abbrev S65536 : Shape := ⟨1, ![65536]⟩
abbrev S1024 : Shape := ⟨1, ![1024]⟩
abbrev S1 : Shape := ⟨1, ![1]⟩
abbrev S479 : Shape := ⟨1, ![479]⟩
abbrev S4x1024 : Shape := ⟨2, ![4, 1024]⟩
abbrev S4x64 : Shape := ⟨2, ![4, 64]⟩
abbrev S4x8x257 : Shape := ⟨3, ![4, 8, 257]⟩
abbrev S4x3x256 : Shape := ⟨3, ![4, 3, 256]⟩
abbrev S4x4x64x64 : Shape := ⟨4, ![4, 4, 64, 64]⟩
abbrev S4x256 : Shape := ⟨2, ![4, 256]⟩

abbrev nBuf : Space → Nat
  | .hbm => 27
  | .vmem => 0
  | .smem => 0
  | _ => 0

abbrev bufTy : (tb : Table) → Fin (tcTables nBuf tb) → BufTy
  | .hbm, ⟨0, _⟩ => ⟨S5440x128, .f32⟩
  | .hbm, ⟨1, _⟩ => ⟨S8x87040, .f32⟩
  | .hbm, ⟨2, _⟩ => ⟨S_, .f32⟩
  | .hbm, ⟨3, _⟩ => ⟨S87040, .f32⟩
  | .hbm, ⟨4, _⟩ => ⟨S4096, .f32⟩
  | .hbm, ⟨5, _⟩ => ⟨S256, .f32⟩
  | .hbm, ⟨6, _⟩ => ⟨S256, .f32⟩
  | .hbm, ⟨7, _⟩ => ⟨S8224, .f32⟩
  | .hbm, ⟨8, _⟩ => ⟨S3072, .f32⟩
  | .hbm, ⟨9, _⟩ => ⟨S65536, .f32⟩
  | .hbm, ⟨10, _⟩ => ⟨S1024, .f32⟩
  | .hbm, ⟨11, _⟩ => ⟨S4096, .f32⟩
  | .hbm, ⟨12, _⟩ => ⟨S1, .f32⟩
  | .hbm, ⟨13, _⟩ => ⟨S479, .f32⟩
  | .hbm, ⟨14, _⟩ => ⟨S4x1024, .f32⟩
  | .hbm, ⟨15, _⟩ => ⟨S4x64, .f32⟩
  | .hbm, ⟨16, _⟩ => ⟨S4x64, .f32⟩
  | .hbm, ⟨17, _⟩ => ⟨S4x8x257, .f32⟩
  | .hbm, ⟨18, _⟩ => ⟨S4x3x256, .f32⟩
  | .hbm, ⟨19, _⟩ => ⟨S4x4x64x64, .f32⟩
  | .hbm, ⟨20, _⟩ => ⟨S4x256, .f32⟩
  | .hbm, ⟨21, _⟩ => ⟨S4x1024, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S5440x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_cst_0 : Ref sig .tc := ⟨.hbm, 23, rfl⟩
abbrev main_v21 : Ref sig .tc := ⟨.hbm, 24, rfl⟩
abbrev main_cst_1 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== Proof.RefFrames.lean ====
/- The frames of the references: host operations only, each computed through; no program of them declares a semaphore. -/
module

public import proofs.«01_k».proof.Defs
public import proofs.«01_k».proof.Proof.Gen.Reference3Ideal.Run
public import proofs.«01_k».proof.Proof.Gen.Reference3Ideal
public import proofs.«01_k».proof.Proof.Gen.Reference4Ideal.Run
public import proofs.«01_k».proof.Proof.Gen.Reference4Ideal
public import proofs.«01_k».proof.Proof.Gen.Reference5Ideal.Run
public import proofs.«01_k».proof.Proof.Gen.Reference5Ideal
public import proofs.«01_k».proof.Proof.Gen.Reference6Ideal.Run
public import proofs.«01_k».proof.Proof.Gen.Reference6Ideal
public import proofs.«01_k».proof.Proof.Gen.Reference7Ideal.Run
public import proofs.«01_k».proof.Proof.Gen.Reference7Ideal
public import proofs.«01_k».proof.Proof.Gen.Reference8Ideal.Run
public import proofs.«01_k».proof.Proof.Gen.Reference8Ideal
public import proofs.«01_k».proof.Proof.Gen.Reference9Ideal.Run
public import proofs.«01_k».proof.Proof.Gen.Reference9Ideal
public import proofs.«01_k».proof.Proof.Gen.Reference10Ideal.Run
public import proofs.«01_k».proof.Proof.Gen.Reference10Ideal
public import proofs.«01_k».proof.Proof.Gen.Reference11Ideal.Run
public import proofs.«01_k».proof.Proof.Gen.Reference11Ideal
public import proofs.«01_k».proof.Proof.Gen.Reference12Ideal.Run
public import proofs.«01_k».proof.Proof.Gen.Reference12Ideal
public import proofs.«01_k».proof.Proof.Gen.Reference13Ideal.Run
public import proofs.«01_k».proof.Proof.Gen.Reference13Ideal
public import proofs.«01_k».proof.Proof.Gen.Reference14Ideal.Run
public import proofs.«01_k».proof.Proof.Gen.Reference14Ideal
public import proofs.«01_k».proof.Proof.Gen.Reference15Ideal.Run
public import proofs.«01_k».proof.Proof.Gen.Reference15Ideal
public import proofs.«01_k».proof.Proof.Gen.Reference16Ideal.Run
public import proofs.«01_k».proof.Proof.Gen.Reference16Ideal
public import proofs.«01_k».proof.Proof.Gen.Reference17Ideal.Run
public import proofs.«01_k».proof.Proof.Gen.Reference17Ideal
public import proofs.«01_k».proof.Proof.Gen.Reference18Ideal.Run
public import proofs.«01_k».proof.Proof.Gen.Reference18Ideal
public import proofs.«01_k».proof.Proof.Gen.Reference19Ideal.Run
public import proofs.«01_k».proof.Proof.Gen.Reference19Ideal
public import Idealize.ShloMosaic.Lib.Claim

@[expose] public section

noncomputable section

namespace Cert.Proof

open Idealize.ShloMosaic Idealize.SL.Sem

theorem frame_Reference3Ideal : Cert.quiescent_Reference3Ideal (hReference3Ideal := Cert.Reference3Ideal.Gen.facts) := by
  intro m g _
  hlo_run
  · intro c; simp only [and_self]
  · exact sem_eq_zero_of_no_sems (by decide) _

theorem frame_Reference4Ideal : Cert.quiescent_Reference4Ideal (hReference4Ideal := Cert.Reference4Ideal.Gen.facts) := by
  intro m g _
  hlo_run
  · intro c; simp only [and_self]
  · exact sem_eq_zero_of_no_sems (by decide) _

theorem frame_Reference5Ideal : Cert.quiescent_Reference5Ideal (hReference5Ideal := Cert.Reference5Ideal.Gen.facts) := by
  intro m g _
  hlo_run
  · intro c; simp only [and_self]
  · exact sem_eq_zero_of_no_sems (by decide) _

theorem frame_Reference6Ideal : Cert.quiescent_Reference6Ideal (hReference6Ideal := Cert.Reference6Ideal.Gen.facts) := by
  intro m g _
  hlo_run
  · intro c; simp only [and_self]
  · exact sem_eq_zero_of_no_sems (by decide) _

theorem frame_Reference7Ideal : Cert.quiescent_Reference7Ideal (hReference7Ideal := Cert.Reference7Ideal.Gen.facts) := by
  intro m g _
  hlo_run
  · intro c; simp only [and_self]
  · exact sem_eq_zero_of_no_sems (by decide) _

theorem frame_Reference8Ideal : Cert.quiescent_Reference8Ideal (hReference8Ideal := Cert.Reference8Ideal.Gen.facts) := by
  intro m g _
  hlo_run
  · intro c; simp only [and_self]
  · exact sem_eq_zero_of_no_sems (by decide) _

theorem frame_Reference9Ideal : Cert.quiescent_Reference9Ideal (hReference9Ideal := Cert.Reference9Ideal.Gen.facts) := by
  intro m g _
  hlo_run
  · intro c; simp only [and_self]
  · exact sem_eq_zero_of_no_sems (by decide) _

theorem frame_Reference10Ideal : Cert.quiescent_Reference10Ideal (hReference10Ideal := Cert.Reference10Ideal.Gen.facts) := by
  intro m g _
  hlo_run
  · intro c; simp only [and_self]
  · exact sem_eq_zero_of_no_sems (by decide) _

theorem frame_Reference11Ideal : Cert.quiescent_Reference11Ideal (hReference11Ideal := Cert.Reference11Ideal.Gen.facts) := by
  intro m g _
  hlo_run
  · intro c; simp only [and_self]
  · exact sem_eq_zero_of_no_sems (by decide) _

theorem frame_Reference12Ideal : Cert.quiescent_Reference12Ideal (hReference12Ideal := Cert.Reference12Ideal.Gen.facts) := by
  intro m g _
  hlo_run
  · intro c; simp only [and_self]
  · exact sem_eq_zero_of_no_sems (by decide) _

theorem frame_Reference13Ideal : Cert.quiescent_Reference13Ideal (hReference13Ideal := Cert.Reference13Ideal.Gen.facts) := by
  intro m g _
  hlo_run
  · intro c; simp only [and_self]
  · exact sem_eq_zero_of_no_sems (by decide) _

theorem frame_Reference14Ideal : Cert.quiescent_Reference14Ideal (hReference14Ideal := Cert.Reference14Ideal.Gen.facts) := by
  intro m g _
  hlo_run
  · intro c; simp only [and_self]
  · exact sem_eq_zero_of_no_sems (by decide) _

set_option maxHeartbeats 2000000 in
theorem frame_Reference15Ideal : Cert.quiescent_Reference15Ideal (hReference15Ideal := Cert.Reference15Ideal.Gen.facts) := by
  intro m g _
  hlo_run
  · intro c; simp only [and_self]
  · exact sem_eq_zero_of_no_sems (by decide) _

theorem frame_Reference16Ideal : Cert.quiescent_Reference16Ideal (hReference16Ideal := Cert.Reference16Ideal.Gen.facts) := by
  intro m g _
  hlo_run
  · intro c; simp only [and_self]
  · exact sem_eq_zero_of_no_sems (by decide) _

theorem frame_Reference17Ideal : Cert.quiescent_Reference17Ideal (hReference17Ideal := Cert.Reference17Ideal.Gen.facts) := by
  intro m g _
  hlo_run
  · intro c; simp only [and_self]
  · exact sem_eq_zero_of_no_sems (by decide) _

theorem frame_Reference18Ideal : Cert.quiescent_Reference18Ideal (hReference18Ideal := Cert.Reference18Ideal.Gen.facts) := by
  intro m g _
  hlo_run
  · intro c; simp only [and_self]
  · exact sem_eq_zero_of_no_sems (by decide) _

theorem frame_Reference19Ideal : Cert.quiescent_Reference19Ideal (hReference19Ideal := Cert.Reference19Ideal.Gen.facts) := by
  intro m g _
  hlo_run
  · intro c; simp only [and_self]
  · exact sem_eq_zero_of_no_sems (by decide) _

end Cert.Proof

end
-- ==== Proof.WGrad.lean ====
module

public import proofs.«01_k».proof.Proof.Gen.Kernel4Ideal.Value
public import proofs.«01_k».proof.Proof.Gen.Reference4Ideal.Read
public import proofs.«01_k».proof.Proof.Gen.Kernel5Ideal.Value
public import proofs.«01_k».proof.Proof.Gen.Reference5Ideal.Read
public import proofs.«01_k».proof.Proof.Gen.Kernel6Ideal.Value
public import proofs.«01_k».proof.Proof.Gen.Reference6Ideal.Read
public import proofs.«01_k».proof.Proof.Gen.Kernel7Ideal.Value
public import proofs.«01_k».proof.Proof.Gen.Reference7Ideal.Read
public import Idealize.ShloMosaic.Lib.Pipeline.ValueKit
public import Idealize.ShloMosaic.Lib.Claim
public import proofs.«01_k».proof.Defs

@[expose] public section

set_option maxRecDepth 16384

/-! # The gradients of the four weight matrices

Each is one product contracted over the 4096 tokens. The kernel writes it in blocks of 512 rows, each block contracted at
once, so a block's element and the reference's are the same sum over the tokens: only the two factors of a term, or the
two coordinates of the result, may stand in the other order. Nothing is asked of the inputs. -/

noncomputable section

open Idealize.ShloMosaic Idealize.ShloMosaic.TcCoe Idealize.SL.Sem
open Idealize.ShloMosaic.Pipeline (Dat)

/-! ## `w_mlp2`: the squared activations against the incoming gradient -/

namespace Cert.Kernel4Ideal.Value

open Cert.Kernel4Ideal Cert.Kernel4Ideal.Gen

variable (m : (ℓ : Loc nD τ sig) → Buf (Elt Ideal) ℓ)

/-- The reference's result over the kernel's arguments. -/
abbrev REF (c : Dev nD) := Cert.Reference4Ideal.Read.val_main_v6 (F := Ideal) (m ((c : Thread nD τ).loc main_arg0)) (m ((c : Thread nD τ).loc main_arg1))

theorem idx : ∀ t : Fin cfg0.N, win0_0.index t = ![0, t.val] ∧ win0_1.index t = ![0, 0] ∧ win0_2.index t = ![t.val, 0] :=
  (by decide +kernel : ∀ t : Fin grid0.N, _)

/-- What grid point `t` stores at `y` is the reference's element at the place of `y` in the array. -/
theorem point (c : Dev nD) (t : Fin cfg0.N) (y) :
    k0_pay1 (iblk m c 0 t) (iblk m c 1 t) y = REF m c (((cfg0.win 2).blk t).view.emb y) := by
  pointwise [k0_pay1, Cert.Reference4Ideal.Read.val_main_v6, Cert.Reference4Ideal.Read.val_main_v5, Cert.Reference4Ideal.Read.val_main_v4, Cert.Reference4Ideal.Read.val_main_v1, Cert.Reference4Ideal.Read.val_main_v0]
  refine Fin.sum_fin_congr fun k => ?_
  rw [mul_comm]
  blk_point [iblk, V, idx t]

/-- The blocks tile the array. -/
theorem final (c : Dev nD) : (dats m 0 c).arrAt 2 (cfgs 0).N = REF m c := by
  refine (dats m 0 c).arrAt_eq_of_covers 2 _ (by decide +kernel) fun t _ y => ?_
  blk_simp
  rw [after0_2]; frame_out
  exact point m c t y

end Cert.Kernel4Ideal.Value

theorem Cert.algebraic4 : Cert.algebraic_Kernel4Ideal_Reference4Ideal
    (hKernel4Ideal := Cert.Kernel4Ideal.Gen.facts) (hReference4Ideal := Cert.Reference4Ideal.Gen.facts) := by
  pair_intro
  · run_from Cert.Kernel4Ideal.Gen.run_main m g
  · hlo_run
    exact (Cert.Kernel4Ideal.Value.final m c).symm

/-! ## `w_mlp1`: the gradient before the activation against the normed input -/

namespace Cert.Kernel5Ideal.Value

open Cert.Kernel5Ideal Cert.Kernel5Ideal.Gen

variable (m : (ℓ : Loc nD τ sig) → Buf (Elt Ideal) ℓ)

/-- The reference's result over the kernel's arguments. -/
abbrev REF (c : Dev nD) := Cert.Reference5Ideal.Read.val_main_v7 (F := Ideal) (m ((c : Thread nD τ).loc main_arg0)) (m ((c : Thread nD τ).loc main_arg1))

theorem idx : ∀ t : Fin cfg0.N, win0_0.index t = ![0, t.val] ∧ win0_1.index t = ![0, 0] ∧ win0_2.index t = ![t.val, 0] :=
  (by decide +kernel : ∀ t : Fin grid0.N, _)

/-- What grid point `t` stores at `y` is the reference's element at the place of `y` in the array. -/
theorem point (c : Dev nD) (t : Fin cfg0.N) (y) :
    k0_pay1 (iblk m c 0 t) (iblk m c 1 t) y = REF m c (((cfg0.win 2).blk t).view.emb y) := by
  pointwise [k0_pay1, Cert.Reference5Ideal.Read.val_main_v7, Cert.Reference5Ideal.Read.val_main_v6, Cert.Reference5Ideal.Read.val_main_v5, Cert.Reference5Ideal.Read.val_main_v4, Cert.Reference5Ideal.Read.val_main_v1, Cert.Reference5Ideal.Read.val_main_v0]
  blk_point [iblk, V, idx t]

/-- The blocks tile the array. -/
theorem final (c : Dev nD) : (dats m 0 c).arrAt 2 (cfgs 0).N = REF m c := by
  refine (dats m 0 c).arrAt_eq_of_covers 2 _ (by decide +kernel) fun t _ y => ?_
  blk_simp
  rw [after0_2]; frame_out
  exact point m c t y

end Cert.Kernel5Ideal.Value

theorem Cert.algebraic5 : Cert.algebraic_Kernel5Ideal_Reference5Ideal
    (hKernel5Ideal := Cert.Kernel5Ideal.Gen.facts) (hReference5Ideal := Cert.Reference5Ideal.Gen.facts) := by
  pair_intro
  · run_from Cert.Kernel5Ideal.Gen.run_main m g
  · hlo_run
    exact (Cert.Kernel5Ideal.Value.final m c).symm

/-! ## `w_in`: the gradient of the projection against the normed input -/

namespace Cert.Kernel6Ideal.Value

open Cert.Kernel6Ideal Cert.Kernel6Ideal.Gen

variable (m : (ℓ : Loc nD τ sig) → Buf (Elt Ideal) ℓ)

/-- The reference's result over the kernel's arguments. -/
abbrev REF (c : Dev nD) := Cert.Reference6Ideal.Read.val_main_v7 (F := Ideal) (m ((c : Thread nD τ).loc main_arg0)) (m ((c : Thread nD τ).loc main_arg1))

theorem idx : ∀ t : Fin cfg0.N, win0_0.index t = ![0, t.val] ∧ win0_1.index t = ![0, 0] ∧ win0_2.index t = ![t.val, 0] :=
  (by decide +kernel : ∀ t : Fin grid0.N, _)

/-- What grid point `t` stores at `y` is the reference's element at the place of `y` in the array. -/
theorem point (c : Dev nD) (t : Fin cfg0.N) (y) :
    k0_pay1 (iblk m c 0 t) (iblk m c 1 t) y = REF m c (((cfg0.win 2).blk t).view.emb y) := by
  pointwise [k0_pay1, Cert.Reference6Ideal.Read.val_main_v7, Cert.Reference6Ideal.Read.val_main_v6, Cert.Reference6Ideal.Read.val_main_v5, Cert.Reference6Ideal.Read.val_main_v4, Cert.Reference6Ideal.Read.val_main_v1, Cert.Reference6Ideal.Read.val_main_v0]
  blk_point [iblk, V, idx t]

/-- The blocks tile the array. -/
theorem final (c : Dev nD) : (dats m 0 c).arrAt 2 (cfgs 0).N = REF m c := by
  refine (dats m 0 c).arrAt_eq_of_covers 2 _ (by decide +kernel) fun t _ y => ?_
  blk_simp
  rw [after0_2]; frame_out
  exact point m c t y

end Cert.Kernel6Ideal.Value

theorem Cert.algebraic6 : Cert.algebraic_Kernel6Ideal_Reference6Ideal
    (hKernel6Ideal := Cert.Kernel6Ideal.Gen.facts) (hReference6Ideal := Cert.Reference6Ideal.Gen.facts) := by
  pair_intro
  · run_from Cert.Kernel6Ideal.Gen.run_main m g
  · hlo_run
    exact (Cert.Kernel6Ideal.Value.final m c).symm

/-! ## `w_out`: the mixer's output against the gradient after it -/

namespace Cert.Kernel7Ideal.Value

open Cert.Kernel7Ideal Cert.Kernel7Ideal.Gen

variable (m : (ℓ : Loc nD τ sig) → Buf (Elt Ideal) ℓ)

/-- The reference's result over the kernel's arguments. -/
abbrev REF (c : Dev nD) := Cert.Reference7Ideal.Read.val_main_v6 (F := Ideal) (m ((c : Thread nD τ).loc main_arg0)) (m ((c : Thread nD τ).loc main_arg1))

theorem idx : ∀ t : Fin cfg0.N, win0_0.index t = ![0, t.val] ∧ win0_1.index t = ![0, 0] ∧ win0_2.index t = ![t.val, 0] :=
  (by decide +kernel : ∀ t : Fin grid0.N, _)

/-- What grid point `t` stores at `y` is the reference's element at the place of `y` in the array. -/
theorem point (c : Dev nD) (t : Fin cfg0.N) (y) :
    k0_pay1 (iblk m c 0 t) (iblk m c 1 t) y = REF m c (((cfg0.win 2).blk t).view.emb y) := by
  pointwise [k0_pay1, Cert.Reference7Ideal.Read.val_main_v6, Cert.Reference7Ideal.Read.val_main_v5, Cert.Reference7Ideal.Read.val_main_v4, Cert.Reference7Ideal.Read.val_main_v1, Cert.Reference7Ideal.Read.val_main_v0]
  refine Fin.sum_fin_congr fun k => ?_
  rw [mul_comm]
  blk_point [iblk, V, idx t]

/-- The blocks tile the array. -/
theorem final (c : Dev nD) : (dats m 0 c).arrAt 2 (cfgs 0).N = REF m c := by
  refine (dats m 0 c).arrAt_eq_of_covers 2 _ (by decide +kernel) fun t _ y => ?_
  blk_simp
  rw [after0_2]; frame_out
  exact point m c t y

end Cert.Kernel7Ideal.Value

theorem Cert.algebraic7 : Cert.algebraic_Kernel7Ideal_Reference7Ideal
    (hKernel7Ideal := Cert.Kernel7Ideal.Gen.facts) (hReference7Ideal := Cert.Reference7Ideal.Gen.facts) := by
  pair_intro
  · run_from Cert.Kernel7Ideal.Gen.run_main m g
  · hlo_run
    exact (Cert.Kernel7Ideal.Value.final m c).symm

end
-- ==== Proof.RmsRow.lean ====
module

public import Idealize.ShloMosaic.Lib.Pipeline.ValueKit
public import Idealize.ShloMosaic.Lib.IdealHost

@[expose] public section

/-! # The gradient of a root-mean-square norm along one row

Over the extended reals the two ways to write it agree at every row: with `v` the mean square plus a positive number,
either `v` is infinite and both vanish, or `v` is a positive real and its inverse root distributes over every sum. -/

noncomputable section

open Idealize.ShloMosaic
open scoped BigOperators

namespace Cert.Rms

/-- A product with a real that is not negative distributes over a finite sum. -/
theorem sum_mul_real {ι : Type} (s : Finset ι) (f : ι → EReal) (r : ℝ) (hr : 0 ≤ r) :
    ∑ k ∈ s, f k * (r : EReal) = (∑ k ∈ s, f k) * (r : EReal) := by
  classical
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r)]

theorem add_self (y : EReal) : y + y = y * ((2 : ℝ) : EReal) := by
  induction y with
  | bot => rw [EReal.bot_mul_coe_of_pos (by norm_num)]; rfl
  | top => rw [EReal.top_mul_coe_of_pos (by norm_num)]; rfl
  | coe r => rw [← EReal.coe_add, ← EReal.coe_mul]; congr 1; ring

theorem mul_self_nonneg (x : EReal) : 0 ≤ x * x := by
  induction x with
  | bot => simp
  | top => simp
  | coe r => exact_mod_cast _root_.mul_self_nonneg r

/-- The mean square plus a positive number is infinite or a positive real. -/
theorem var_cases {n : ℕ} (x : Fin n → EReal) {N e : ℝ} (hN : 0 < N) (he : 0 < e) :
    Ideal.div (∑ k, x k * x k) (N : EReal) + (e : EReal) = ⊤
      ∨ ∃ w : ℝ, 0 < w ∧ Ideal.div (∑ k, x k * x k) (N : EReal) + (e : EReal) = (w : EReal) := by
  have h0 : (0 : EReal) ≤ ∑ k, x k * x k := Finset.sum_nonneg fun k _ => mul_self_nonneg (x k)
  rw [Ideal.div_coe hN.ne']
  generalize ∑ k, x k * x k = S at h0
  induction S with
  | bot => exact absurd h0 (by simp)
  | top => left; rw [EReal.top_mul_coe_of_pos (by positivity)]; rfl
  | coe r =>
    right
    have hr : 0 ≤ r := by exact_mod_cast h0
    refine ⟨r * (1 / N) + e, by positivity, ?_⟩
    rw [← EReal.coe_mul, ← EReal.coe_add]

/-- The row's gradient as one expression: the inverse root times what is left after the projection — against the sum of
the product rule's terms. -/
theorem row {n : ℕ} (u : EReal) (x d : Fin n → EReal) (j : Fin n) {N e : ℝ} (hN : 0 < N) (he : 0 < e)
    (v r : EReal) (hv : v = Ideal.div (∑ k, x k * x k) (N : EReal) + (e : EReal)) (hr : r = Ideal.rsqrt v) :
    u + r * (d j - x j * r * Ideal.div (∑ k, d k * (x k * r)) (N : EReal))
      = u + d j * r + x j * Ideal.div ((∑ k, x k * d k) * (((-1 / 2 : ℝ) : EReal) * Ideal.div r v)) (N : EReal)
        + Ideal.div ((∑ k, x k * d k) * (((-1 / 2 : ℝ) : EReal) * Ideal.div r v)) (N : EReal) * x j := by
  rcases var_cases x hN he with h | ⟨w, hw, h⟩
  · rw [h] at hv
    subst hv
    rw [Ideal.rsqrt_top] at hr
    subst hr
    rw [Ideal.div_coe hN.ne', Ideal.div_coe hN.ne']
    simp [Ideal.div]
  · rw [h] at hv
    subst hv
    rw [Ideal.rsqrt_coe, if_neg (not_lt.mpr hw.le), if_neg hw.ne'] at hr
    subst hr
    set ρ : ℝ := (Real.sqrt w)⁻¹ with hρ
    have hρ0 : 0 ≤ ρ := by positivity
    have hsq : ρ * ρ = 1 / w := by
      rw [hρ, ← mul_inv, Real.mul_self_sqrt hw.le, one_div]
    have hT : ∑ k, d k * (x k * (ρ : EReal)) = (∑ k, x k * d k) * (ρ : EReal) := by
      rw [← sum_mul_real _ _ ρ hρ0]
      refine Finset.sum_congr rfl fun k _ => ?_
      rw [← mul_assoc, mul_comm (d k)]
    rw [hT]
    generalize ∑ k, x k * d k = T
    simp only [Ideal.div_coe hN.ne', Ideal.div_coe hw.ne']
    rw [EReal.mul_sub_of_nonneg_of_ne_top (EReal.coe_nonneg.mpr hρ0) (EReal.coe_ne_top ρ), add_assoc, add_assoc,
      mul_comm (T * _ * _) (x j), add_self, mul_comm (ρ : EReal) (d j), sub_eq_add_neg]
    congr 2
    have hl : (ρ : EReal) * (x j * (ρ : EReal) * (T * (ρ : EReal) * ((1 / N : ℝ) : EReal)))
        = x j * T * ((ρ * ρ * ρ * (1 / N) : ℝ) : EReal) := by
      simp only [EReal.coe_mul]
      ac_rfl
    have hr : x j * (T * (((-1 / 2 : ℝ) : EReal) * ((ρ : EReal) * ((1 / w : ℝ) : EReal))) * ((1 / N : ℝ) : EReal)) * ((2 : ℝ) : EReal)
        = x j * T * ((-1 / 2 * (ρ * (1 / w)) * (1 / N) * 2 : ℝ) : EReal) := by
      simp only [EReal.coe_mul]
      ac_rfl
    rw [hl, hr, ← mul_neg, ← EReal.coe_neg]
    congr 2
    rw [← hsq]; ring

end Cert.Rms

end
-- ==== Proof.MlpPoint.lean ====
module

public import proofs.«01_k».proof.Proof.Gen.Kernel3Ideal.Value
public import proofs.«01_k».proof.Proof.Gen.Reference3Ideal.Read
public import Idealize.ShloMosaic.Lib.Pipeline.ValueKit
public import Idealize.ShloMosaic.Lib.Claim
public import proofs.«01_k».proof.Defs
public import proofs.«01_k».proof.Proof.RmsRow

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen Cert.Reference3Ideal.Read

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0]
    ∧ win0_10.index t = ![t.val, 0] ∧ win0_11.index t = ![t.val, 0] ∧ win0_14.index t = ![0, 0] :=
  (by decide +kernel : ∀ t : Fin grid0.N, _)

abbrev A0 (c : Dev nD) := m ((c : Thread nD τ).loc main_arg0)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)

/-- The array's row of row `i` of grid point `t`'s block. -/
abbrev row (t : Fin cfg0.N) (i : Fin 256) : Fin 4096 := ⟨256 * t.val + i.val, by have := t.isLt; have : cfg0.N = 16 := rfl; omega⟩

/-- The product before the activation, which the program computes ahead of the call: the reference's own. -/
theorem V_a (c : Dev nD) (i : S4096x4096.Idx) : V m c main_v16 i
    = val_main_v13 (F := Ideal) (A2 m c) (A3 m c) (A4 m c) i := by
  entry_read
  pointwise [val_main_v13, val_main_v12, val_main_v11, val_main_v10, val_main_v9, val_main_v8, val_main_v7, val_main_v6, val_main_v5, val_main_cst_1, val_main_v4, val_main_v3, val_main_cst_0, val_main_v2, val_main_v1, val_main_v0, val_main_cst]

theorem blk0 (c : Dev nD) (t : Fin cfg0.N) (i : Fin 256) (j : Fin 1024) : iblk m c 0 t (ix2 i j) = A0 m c (ix2 (row t i) j) := by
  blk_point [iblk, V, idx t]

theorem blk1 (c : Dev nD) (t : Fin cfg0.N) (i : Fin 256) (j : Fin 4096) : iblk m c 1 t (ix2 i j)
    = val_main_v13 (F := Ideal) (A2 m c) (A3 m c) (A4 m c) (ix2 (row t i) j) := by
  rw [← V_a]
  blk_ext [iblk, idx t]

theorem blk2 (c : Dev nD) (t : Fin cfg0.N) (i : Fin 256) (j : Fin 1024) : iblk m c 2 t (ix2 i j) = A2 m c (ix2 (row t i) j) := by
  blk_point [iblk, V, idx t]

theorem blk3 (c : Dev nD) (t : Fin cfg0.N) (j : Fin 1024) : iblk m c 3 t (ix3 0 0 j) = A3 m c (ix1 j) := by
  blk_point [iblk, V, idx t]

theorem blk4 (c : Dev nD) (t : Fin cfg0.N) (i : Fin 4096) (j : Fin 1024) : iblk m c 4 t (ix2 i j) = A4 m c (ix2 j i) := by
  blk_point [iblk, V, idx t]

theorem blk5 (c : Dev nD) (t : Fin cfg0.N) (i : Fin 4096) (j : Fin 1024) : iblk m c 5 t (ix2 i j) = A5 m c (ix2 i j) := by
  blk_point [iblk, V, idx t]

theorem blk6 (c : Dev nD) (t : Fin cfg0.N) (i : Fin 1024) (j : Fin 1024) : iblk m c 6 t (ix2 i j) = A6 m c (ix2 i j) := by
  blk_point [iblk, V, idx t]

theorem emb7 (t : Fin cfg0.N) (i : Fin 256) (j : Fin 1024) : ((cfg0.win 7).blk t).view.emb (ix2 i j) = ix2 (row t i) j := by
  blk_ext [idx t]

theorem emb8 (t : Fin cfg0.N) (i : Fin 256) (j : Fin 1024) : ((cfg0.win 8).blk t).view.emb (ix2 i j) = ix2 (row t i) j := by
  blk_ext [idx t]

theorem emb9 (t : Fin cfg0.N) (i : Fin 256) (j : Fin 4096) : ((cfg0.win 9).blk t).view.emb (ix2 i j) = ix2 (row t i) j := by
  blk_ext [idx t]

theorem emb10 (t : Fin cfg0.N) (i : Fin 256) (j : Fin 4096) : ((cfg0.win 10).blk t).view.emb (ix2 i j) = ix2 (row t i) j := by
  blk_ext [idx t]

theorem emb11 (t : Fin cfg0.N) (i : Fin 256) (j : Fin 1024) : ((cfg0.win 11).blk t).view.emb (ix2 i j) = ix2 (row t i) j := by
  blk_ext [idx t]

/-- The squared activation. -/
theorem pay6 (c : Dev nD) (t : Fin cfg0.N) (i : Fin 256) (j : Fin 4096) : k0_pay6 (iblk m c 1 t) (ix2 i j)
    = val_main_v85 (F := Ideal) (A2 m c) (A3 m c) (A4 m c) (ix2 (row t i) j) := by
  pointwise [k0_pay6, k0_pay5, val_main_v85, val_main_v84, val_main_v83, val_main_call2_v0, val_main_call2_cst]
  rw [blk1]

/-- Where the activation's input is not positive its value is zero, so that the selection in the gradient changes nothing. -/
theorem relu_grad (a s k : EReal) : (if 0 < a then s * (k * max a 0) else 0) = s * (k * max a 0) := by
  split_ifs with h
  · rfl
  · rw [max_eq_right (not_lt.mp h), mul_zero, mul_zero]

/-- The gradient before the activation. -/
theorem pay7 (c : Dev nD) (t : Fin cfg0.N) (i : Fin 256) (j : Fin 4096) : k0_pay7 (iblk m c 0 t) (iblk m c 1 t) (iblk m c 5 t) (ix2 i j)
    = val_main_v82 (F := Ideal) (A0 m c) (A2 m c) (A3 m c) (A4 m c) (A5 m c) (ix2 (row t i) j) := by
  pointwise [k0_pay7, k0_pay5, k0_pay4, val_main_v82, val_main_v80, val_main_v79, val_main_cst_18, val_main_v78, val_main_v77, val_main_v75, val_main_v74, val_main_cst_17, val_main_v71, val_main_v70, val_main_cst_15, val_main_v69, val_main_call1_v0, val_main_call1_cst]
  rw [relu_grad]
  simp only [blk0, blk1, blk5]

/-- The reference writes the product before the activation twice. -/
theorem v30 (x2 : FVec Ideal S4096x1024 .f32) (x3 : FVec Ideal S1024 .f32) (x4 : FVec Ideal S1024x4096 .f32) :
    val_main_v30 (F := Ideal) x2 x3 x4 = val_main_v13 (F := Ideal) x2 x3 x4 := rfl

/-- … and so the gradient before it. -/
theorem v44 (x0 x2 : FVec Ideal S4096x1024 .f32) (x3 : FVec Ideal S1024 .f32) (x4 : FVec Ideal S1024x4096 .f32) (x5 : FVec Ideal S4096x1024 .f32) (i) :
    val_main_v44 (F := Ideal) x0 x2 x3 x4 x5 i = val_main_v82 (F := Ideal) x0 x2 x3 x4 x5 i := by
  pointwise [val_main_v82, val_main_v80, val_main_v79, val_main_cst_18, val_main_v78, val_main_v77, val_main_v75, val_main_v74, val_main_cst_17, val_main_v71, val_main_v70, val_main_cst_15, val_main_v69, val_main_call1_v0, val_main_call1_cst, val_main_v44, val_main_v43, val_main_v42, val_main_v41, val_main_v40, val_main_v37, val_main_v36, val_main_cst_8, val_main_v33, val_main_v32, val_main_cst_6, val_main_v31, val_main_call0_v0, val_main_call0_cst, val_main_cst_9]
  rw [v30]

/-- The gradient of the normed input. -/
theorem pay8 (c : Dev nD) (t : Fin cfg0.N) (i : Fin 256) (j : Fin 1024) : k0_pay8 (iblk m c 0 t) (iblk m c 1 t) (iblk m c 5 t) (iblk m c 4 t) (ix2 i j)
    = val_main_v45 (F := Ideal) (A0 m c) (A2 m c) (A3 m c) (A4 m c) (A5 m c) (ix2 (row t i) j) := by
  pointwise [k0_pay8, val_main_v45]
  simp only [v44, blk4]
  refine Fin.sum_fin_congr fun k => ?_
  rw [pay7]

theorem ofBits_eps : Ideal.ofBits FTy.f32 897988541#32 = ((8796093 / 8796093022208 : ℝ) : EReal) := by
  simp [Ideal.ofBits, Ideal.ieee, -EReal.coe_mul]; norm_num

theorem ofBits_n : Ideal.ofBits FTy.f32 1149239296#32 = ((1024 : ℝ) : EReal) := by
  simp [Ideal.ofBits, Ideal.ieee, -EReal.coe_mul]; norm_num

theorem ofBits_mhalf : Ideal.ofBits FTy.f32 3204448256#32 = ((-1 / 2 : ℝ) : EReal) := by
  simp [Ideal.ofBits, Ideal.ieee, -EReal.coe_mul, -EReal.coe_neg]; norm_num

/-- The gradient after the mixer: the incoming one plus the norm's. -/
theorem pay15 (c : Dev nD) (t : Fin cfg0.N) (i : Fin 256) (j : Fin 1024) : k0_pay15 (iblk m c 0 t) (k0_pay8 (iblk m c 0 t) (iblk m c 1 t) (iblk m c 5 t) (iblk m c 4 t)) (iblk m c 2 t) (k0_pay9 (iblk m c 3 t)) (ix2 i j)
    = val_main_v66 (F := Ideal) (A0 m c) (A2 m c) (A3 m c) (A4 m c) (A5 m c) (ix2 (row t i) j) := by
  pointwise [k0_pay15, k0_pay13, k0_pay12, k0_pay9, val_main_v66, val_main_v65, val_main_v64, val_main_v63, val_main_v62, val_main_v61, val_main_cst_14, val_main_v60, val_main_v59, val_main_cst_13, val_main_v58, val_main_v57, val_main_v56, val_main_v55, val_main_v54, val_main_v53, val_main_cst_12, val_main_v52, val_main_v50, val_main_v49, val_main_v27, val_main_v24, val_main_v23, val_main_cst_5, val_main_v22, val_main_v21, val_main_v20, val_main_v19, val_main_cst_4, val_main_v18, val_main_v17, val_main_cst_3, val_main_v16, val_main_v15, val_main_cst_2, val_main_v14]
  simp only [blk0, blk2, blk3, pay8, ofBits_eps, ofBits_n, ofBits_mhalf, Finset.univ_unique, Finset.sum_singleton]
  exact Cert.Rms.row _ (fun k => A2 m c (ix2 (row t i) k)) (fun k => val_main_v45 (F := Ideal) (A0 m c) (A2 m c) (A3 m c) (A4 m c) (A5 m c) (ix2 (row t i) k) * A3 m c (ix1 k)) j
    (N := 1024) (e := 8796093 / 8796093022208) (by norm_num) (by norm_num) _ _ rfl rfl

/-- The gradient of the mixer's output. -/
theorem pay2 (c : Dev nD) (t : Fin cfg0.N) (i : Fin 256) (j : Fin 1024) : k0_pay2 (k0_pay15 (iblk m c 0 t) (k0_pay8 (iblk m c 0 t) (iblk m c 1 t) (iblk m c 5 t) (iblk m c 4 t)) (iblk m c 2 t) (k0_pay9 (iblk m c 3 t))) (iblk m c 6 t) (ix2 i j)
    = val_main_v68 (F := Ideal) (A0 m c) (A2 m c) (A3 m c) (A4 m c) (A5 m c) (A6 m c) (ix2 (row t i) j) := by
  pointwise [k0_pay2, k0_pay1, val_main_v68]
  refine Fin.sum_fin_congr fun k => ?_
  rw [pay15, blk6]

/-- The normed input. -/
theorem pay11 (c : Dev nD) (t : Fin cfg0.N) (y) : k0_pay11 (iblk m c 2 t) (k0_pay9 (iblk m c 3 t)) (k0_pay10 (iblk m c 2 t)) y
    = val_main_v86 (F := Ideal) (A2 m c) (A3 m c) (((cfg0.win 11).blk t).view.emb y) := by
  pointwise [k0_pay11, k0_pay9, k0_pay10, val_main_v86, val_main_v12, val_main_v11, val_main_v10, val_main_v9, val_main_v8, val_main_v7, val_main_v6, val_main_v5, val_main_cst_1, val_main_v4, val_main_v3, val_main_cst_0, val_main_v2, val_main_v1, val_main_v0, val_main_cst]
  blk_point [iblk, V, idx t]

end Cert.Kernel3Ideal.Value

end
-- ==== Proof.Mlp.lean ====
module

public import proofs.«01_k».proof.Proof.MlpPoint

@[expose] public section

set_option maxRecDepth 16384

/-! # The results of the feed-forward's backward call -/

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen Cert.Reference3Ideal.Read

variable (m : (ℓ : Loc nD τ sig) → Buf (Elt Ideal) ℓ)

theorem final7 (c : Dev nD) : (dats m 0 c).arrAt 7 (cfgs 0).N
    = val_main_v66 (F := Ideal) (A0 m c) (A2 m c) (A3 m c) (A4 m c) (A5 m c) := by
  refine (dats m 0 c).arrAt_eq_of_covers 7 _ (by decide +kernel) fun t _ y => ?_
  blk_simp
  rw [after0_7]
  obtain ⟨i, j, rfl⟩ : ∃ (i : Fin 256) (j : Fin 1024), y = ix2 i j := ⟨y 0, y 1, by blk_ext []⟩
  by_cases h : t.val % 16 = 0
  · rw [outsAt0_A m c t h]; frame_out
    exact (pay15 m c t i j).trans (congrArg _ (emb7 t i j).symm)
  · rw [outsAt0_B m c t h]; frame_out
    exact (pay15 m c t i j).trans (congrArg _ (emb7 t i j).symm)

theorem final8 (c : Dev nD) : (dats m 0 c).arrAt 8 (cfgs 0).N
    = val_main_v68 (F := Ideal) (A0 m c) (A2 m c) (A3 m c) (A4 m c) (A5 m c) (A6 m c) := by
  refine (dats m 0 c).arrAt_eq_of_covers 8 _ (by decide +kernel) fun t _ y => ?_
  blk_simp
  rw [after0_8]
  obtain ⟨i, j, rfl⟩ : ∃ (i : Fin 256) (j : Fin 1024), y = ix2 i j := ⟨y 0, y 1, by blk_ext []⟩
  by_cases h : t.val % 16 = 0
  · rw [outsAt0_A m c t h]; frame_out
    exact (pay2 m c t i j).trans (congrArg _ (emb8 t i j).symm)
  · rw [outsAt0_B m c t h]; frame_out
    exact (pay2 m c t i j).trans (congrArg _ (emb8 t i j).symm)

theorem final9 (c : Dev nD) : (dats m 0 c).arrAt 9 (cfgs 0).N
    = val_main_v85 (F := Ideal) (A2 m c) (A3 m c) (A4 m c) := by
  refine (dats m 0 c).arrAt_eq_of_covers 9 _ (by decide +kernel) fun t _ y => ?_
  blk_simp
  rw [after0_9]
  obtain ⟨i, j, rfl⟩ : ∃ (i : Fin 256) (j : Fin 4096), y = ix2 i j := ⟨y 0, y 1, by blk_ext []⟩
  by_cases h : t.val % 16 = 0
  · rw [outsAt0_A m c t h]; frame_out
    exact (pay6 m c t i j).trans (congrArg _ (emb9 t i j).symm)
  · rw [outsAt0_B m c t h]; frame_out
    exact (pay6 m c t i j).trans (congrArg _ (emb9 t i j).symm)

theorem final10 (c : Dev nD) : (dats m 0 c).arrAt 10 (cfgs 0).N
    = val_main_v82 (F := Ideal) (A0 m c) (A2 m c) (A3 m c) (A4 m c) (A5 m c) := by
  refine (dats m 0 c).arrAt_eq_of_covers 10 _ (by decide +kernel) fun t _ y => ?_
  blk_simp
  rw [after0_10]
  obtain ⟨i, j, rfl⟩ : ∃ (i : Fin 256) (j : Fin 4096), y = ix2 i j := ⟨y 0, y 1, by blk_ext []⟩
  by_cases h : t.val % 16 = 0
  · rw [outsAt0_A m c t h]; frame_out
    exact (pay7 m c t i j).trans (congrArg _ (emb10 t i j).symm)
  · rw [outsAt0_B m c t h]; frame_out
    exact (pay7 m c t i j).trans (congrArg _ (emb10 t i j).symm)

theorem final11 (c : Dev nD) : (dats m 0 c).arrAt 11 (cfgs 0).N
    = val_main_v86 (F := Ideal) (A2 m c) (A3 m c) := by
  refine (dats m 0 c).arrAt_eq_of_covers 11 _ (by decide +kernel) fun t _ y => ?_
  blk_simp
  rw [after0_11]
  by_cases h : t.val % 16 = 0
  · rw [outsAt0_A m c t h]; frame_out
    exact pay11 m c t y
  · rw [outsAt0_B m c t h]; frame_out
    exact pay11 m c t y

/-- What grid point `t` adds to the gradient of the norm's weight at column `j`. -/
def part (c : Dev nD) (t : Fin 16) (j : Fin 1024) : EReal :=
  ∑ i : Fin 256, val_main_v46 (F := Ideal) (A0 m c) (A2 m c) (A3 m c) (A4 m c) (A5 m c) (ix2 ⟨256 * t.val + i.val, by omega⟩ j)

theorem pay14 (c : Dev nD) (t : Fin cfg0.N) (acc : FVec Ideal S1x1024 .f32) (j : Fin 1024) :
    k0_pay14 (k0_pay8 (iblk m c 0 t) (iblk m c 1 t) (iblk m c 5 t) (iblk m c 4 t)) (iblk m c 2 t) acc (ix2 0 j)
      = acc (ix2 0 j) + part m c t j := by
  unfold part
  pointwise [k0_pay14, k0_pay13, k0_pay12, val_main_v46, val_main_v26, val_main_v25, val_main_v21, val_main_v20, val_main_v19, val_main_cst_4, val_main_v18, val_main_v17, val_main_cst_3, val_main_v16, val_main_v15, val_main_cst_2, val_main_v14]
  simp only [blk2, pay8]
  refine congrArg (acc (ix2 0 j) + ·) (Fin.sum_fin_congr fun x => ?_)
  exact mul_comm _ _

theorem pay3 (i : S1x1024.Idx) : k0_pay3 (F := Ideal) i = 0 := by
  pointwise [k0_pay3]

theorem emb14 (t : Fin cfg0.N) (i : S1x1024.Idx) : (win0_14.blk t).view.emb i = i := by
  blk_ext [idx t]

/-- The reference's gradient of the norm's weight: the sum over all rows, the blocks of rows one after another. -/
theorem v81 (c : Dev nD) (j : Fin 1024) :
    val_main_v81 (F := Ideal) (A0 m c) (A2 m c) (A3 m c) (A4 m c) (A5 m c) (ix2 0 j) = ∑ t : Fin 16, part m c t j := by
  unfold part
  pointwise [val_main_v81, val_main_v51, val_main_cst_11, val_main_v48, val_main_v47, val_main_cst_10]
  refine (Fin.sum_univ_one _).trans (Fin.sum_mul_add_congr (S := 16) (n := 256) fun t i hl => ?_).symm
  exact congrArg (fun r => val_main_v46 (F := Ideal) (A0 m c) (A2 m c) (A3 m c) (A4 m c) (A5 m c) (ix2 r j))
    (Fin.ext (show 256 * t.val + i.val = t.val * 256 + i.val by omega))

theorem final14 (c : Dev nD) : (dats m 0 c).arrAt 14 (cfgs 0).N
    = val_main_v81 (F := Ideal) (A0 m c) (A2 m c) (A3 m c) (A4 m c) (A5 m c) := by
  refine (dats m 0 c).arrAt_eq_of_covers 14 _ (by decide +kernel) fun t hf y => ?_
  have h15 : t.val % 16 = 15 := (flush0_14 t).mp hf
  have hN : t.val < 16 := lt_of_lt_of_eq t.isLt N_0
  blk_simp
  rw [after0_14]
  obtain ⟨i, j, rfl⟩ : ∃ (i : Fin 1) (j : Fin 1024), y = ix2 i j := ⟨y 0, y 1, by blk_ext []⟩
  obtain rfl : i = 0 := Fin.fin_one_eq_zero i
  refine (Pipeline.eq_sum_fin_of_reset_step_apply_last (fun n h (j : Fin 1024) => (outsAt0 m c n h).2.2.2.2.2.2.2 (ix2 0 j)) 16
    (fun _ => 0) (fun t j => part m c (Fin.cast N_0 t) j)
    (fun t h j => by
      beta_reduce
      rw [outsAt0_A m c t h]; frame_out
      exact (pay14 m c t _ j).trans (congrArg (· + _) (pay3 _)))
    (fun t h j => by
      beta_reduce
      rw [outsAt0_B m c t h]; frame_out
      exact pay14 m c t _ j) (le_of_eq N_0) t (by have h : cfg0.N = 16 := N_0; omega) j).trans ?_
  rw [zero_add, emb14]
  exact (v81 m c j).symm

end Cert.Kernel3Ideal.Value

set_option maxHeartbeats 2000000 in
theorem Cert.algebraic3 : Cert.algebraic_Kernel3Ideal_Reference3Ideal
    (hKernel3Ideal := Cert.Kernel3Ideal.Gen.facts) (hReference3Ideal := Cert.Reference3Ideal.Gen.facts) := by
  pair_intro
  · run_from Cert.Kernel3Ideal.Gen.run_main m g
  · hlo_run
    · exact (Cert.Kernel3Ideal.Value.final7 m c).symm
    · exact (Cert.Kernel3Ideal.Value.final8 m c).symm
    · exact (Cert.Kernel3Ideal.Value.final14 m c).symm
    · exact (Cert.Kernel3Ideal.Value.final10 m c).symm
    · exact (Cert.Kernel3Ideal.Value.final9 m c).symm
    · exact (Cert.Kernel3Ideal.Value.final11 m c).symm

end
-- ==== Proof.InProj.lean ====
module

public import proofs.«01_k».proof.Proof.Gen.Kernel8Ideal.Value
public import proofs.«01_k».proof.Proof.Gen.Reference8Ideal.Read
public import Idealize.ShloMosaic.Lib.Pipeline.ValueKit
public import Idealize.ShloMosaic.Lib.Claim
public import proofs.«01_k».proof.Defs
public import proofs.«01_k».proof.Proof.RmsRow

@[expose] public section

set_option maxRecDepth 16384

/-! # The backward pass of the projections into the mixer -/

noncomputable section

open Idealize.ShloMosaic Idealize.ShloMosaic.TcCoe Idealize.SL.Sem
open Idealize.ShloMosaic.Pipeline (Dat)

namespace Cert.Kernel8Ideal.Value

open Cert.Kernel8Ideal Cert.Kernel8Ideal.Gen Cert.Reference8Ideal.Read

variable (m : (ℓ : Loc nD τ sig) → Buf (Elt Ideal) ℓ)

abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)
abbrev A8 (c : Dev nD) := m ((c : Thread nD τ).loc main_arg8)
abbrev A9 (c : Dev nD) := m ((c : Thread nD τ).loc main_arg9)
abbrev A10 (c : Dev nD) := m ((c : Thread nD τ).loc main_arg10)

/-- The array's row of row `i` of grid point `t`'s block. -/
abbrev row (t : Fin cfg0.N) (i : Fin 256) : Fin 4096 := ⟨256 * t.val + i.val, by have := t.isLt; have : cfg0.N = 16 := rfl; omega⟩

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0, 0, 0] ∧ win0_10.index t = ![0, 0]
    ∧ win0_11.index t = ![t.val, 0] ∧ win0_12.index t = ![t.val, 0] ∧ win0_13.index t = ![0, 0] :=
  (by decide +kernel : ∀ t : Fin grid0.N, _)

theorem blk0 (c : Dev nD) (t : Fin cfg0.N) (i : Fin 256) (j : Fin 512) : iblk m c 0 t (ix2 i j) = A0 m c (ix2 (row t i) j) := by
  blk_point [iblk, V, idx t]

theorem blk1 (c : Dev nD) (t : Fin cfg0.N) (i : Fin 256) (j : Fin 512) : iblk m c 1 t (ix2 i j) = A1 m c (ix2 (row t i) j) := by
  blk_point [iblk, V, idx t]

theorem blk2 (c : Dev nD) (t : Fin cfg0.N) (i : Fin 256) (j : Fin 512) : iblk m c 2 t (ix2 i j) = A2 m c (ix2 (row t i) j) := by
  blk_point [iblk, V, idx t]

theorem blk3 (c : Dev nD) (t : Fin cfg0.N) (i : Fin 256) (j : Fin 256) : iblk m c 3 t (ix2 i j) = A3 m c (ix2 (row t i) j) := by
  blk_point [iblk, V, idx t]

theorem blk4 (c : Dev nD) (t : Fin cfg0.N) (i : Fin 256) (j : Fin 256) : iblk m c 4 t (ix2 i j) = A4 m c (ix2 (row t i) j) := by
  blk_point [iblk, V, idx t]

theorem blk5 (c : Dev nD) (t : Fin cfg0.N) (i : Fin 256) (j : Fin 256) : iblk m c 5 t (ix2 i j) = A5 m c (ix2 (row t i) j) := by
  blk_point [iblk, V, idx t]

theorem blk6 (c : Dev nD) (t : Fin cfg0.N) (i : Fin 256) (j : Fin 256) : iblk m c 6 t (ix2 i j) = A6 m c (ix2 (row t i) j) := by
  blk_point [iblk, V, idx t]

theorem blk7 (c : Dev nD) (t : Fin cfg0.N) (i : Fin 256) (j : Fin 1024) : iblk m c 7 t (ix2 i j) = A7 m c (ix2 (row t i) j) := by
  blk_point [iblk, V, idx t]

theorem blk8 (c : Dev nD) (t : Fin cfg0.N) (i : Fin 256) (j : Fin 1024) : iblk m c 8 t (ix2 i j) = A8 m c (ix2 (row t i) j) := by
  blk_point [iblk, V, idx t]

theorem blk9 (c : Dev nD) (t : Fin cfg0.N) (j : Fin 1024) : iblk m c 9 t (ix3 0 0 j) = A9 m c (ix1 j) := by
  blk_point [iblk, V, idx t]

theorem blk10 (c : Dev nD) (t : Fin cfg0.N) (i : Fin 2560) (j : Fin 1024) : iblk m c 10 t (ix2 i j) = A10 m c (ix2 j i) := by
  blk_point [iblk, V, idx t]

theorem emb11 (t : Fin cfg0.N) (i : Fin 256) (j : Fin 1024) : ((cfg0.win 11).blk t).view.emb (ix2 i j) = ix2 (row t i) j := by
  blk_ext [idx t]

theorem emb12 (t : Fin cfg0.N) (i : Fin 256) (j : Fin 2560) : ((cfg0.win 12).blk t).view.emb (ix2 i j) = ix2 (row t i) j := by
  blk_ext [idx t]

/-- The seven column blocks as the kernel stores them, the last first. -/
abbrev cols (c : Dev nD) (t : Fin cfg0.N) : List (View.Piece (Elt Ideal) S256x2560 .bf16) :=
    [(⟨Rect.unit ![0, 2304] ![256, 256] inb_S256x2560_S256x256_0_2304, iblk m c 6 t⟩ : View.Piece (Elt Ideal) S256x2560 .bf16),
      ⟨Rect.unit ![0, 2048] ![256, 256] inb_S256x2560_S256x256_0_2048, iblk m c 5 t⟩,
      ⟨Rect.unit ![0, 1792] ![256, 256] inb_S256x2560_S256x256_0_1792, iblk m c 4 t⟩,
      ⟨Rect.unit ![0, 1536] ![256, 256] inb_S256x2560_S256x256_0_1536, iblk m c 3 t⟩,
      ⟨Rect.unit ![0, 1024] ![256, 512] inb_S256x2560_S256x512_0_1024, iblk m c 2 t⟩,
      ⟨Rect.unit ![0, 512] ![256, 512] inb_S256x2560_S256x512_0_512, iblk m c 1 t⟩,
      ⟨Rect.unit ![0, 0] ![256, 512] inb_S256x2560_S256x512_0_0, iblk m c 0 t⟩]

/-- The seven parts of the gradient, as the reference joins them. -/
abbrev parts (c : Dev nD) : List ((s : Shape) × (s.Idx → EReal)) :=
  [⟨S4096x512, A0 m c⟩, ⟨S4096x512, A1 m c⟩, ⟨S4096x512, A2 m c⟩, ⟨S4096x256, A3 m c⟩, ⟨S4096x256, A4 m c⟩,
    ⟨S4096x256, A5 m c⟩, ⟨S4096x256, A6 m c⟩]

/-- The joined gradient at a column of its `k`-th part, which begins at column `pre`. -/
theorem piece (c : Dev nD) {k w pre : ℕ} (hk : k < 7) (v : Shape.Idx ⟨2, ![4096, w]⟩ → EReal)
    (hv : (parts m c)[k] = ⟨⟨2, ![4096, w]⟩, v⟩)
    (hpre : ([512, 512, 512, 256, 256, 256, 256].take k).sum = pre) (r : Fin 4096) (q : Fin w) (j : Fin 2560) (hj : pre + q.val = j.val) :
    v (ix2 r q) = val_main_v0 (F := Ideal) (A0 m c) (A1 m c) (A2 m c) (A3 m c) (A4 m c) (A5 m c) (A6 m c) (ix2 r j) := by
  subst hpre
  refine (concatenate_apply_piece (t := S4096x2560) 1 (parts m c) _ (ix2 r j) k hk _ v hv rfl _ ?_ (ix2 r q) (fun b hb => ?_) hj).symm
  · rw [List.map_take, List.map_take]; rfl
  · match b, hb with
    | ⟨0, _⟩, _ => rfl
    | ⟨1, _⟩, hb => exact absurd rfl hb

/-- The column blocks, one after another: the rows of the joined gradient. -/
theorem joined (c : Dev nD) (t : Fin cfg0.N) (i : Fin 256) (j : Fin 2560) : View.canon (cols m c t) (ix2 i j)
    = val_main_v0 (F := Ideal) (A0 m c) (A1 m c) (A2 m c) (A3 m c) (A4 m c) (A5 m c) (A6 m c) (ix2 (row t i) j) := by
  have hcover : ∃ p ∈ cols m c t, ix2 i j ∈ p.fst.set := by
    have hi := i.isLt
    have hj := j.isLt
    simp only [cols, List.exists_mem_cons_iff, List.not_mem_nil, false_and, exists_false, or_false, Rect.mem_set_unit]
    by_cases h : 1536 ≤ j.val
    · have : 2304 ≤ j.val ∨ 2048 ≤ j.val ∧ j.val < 2304 ∨ 1792 ≤ j.val ∧ j.val < 2048 ∨ 1536 ≤ j.val ∧ j.val < 1792 := by omega
      rcases this with h | h | h | h
      · exact .inl (Fin.forall_fin_two.mpr ⟨⟨Nat.zero_le _, by show i.val < 0 + 256; omega⟩, h, hj⟩)
      · exact .inr (.inl (Fin.forall_fin_two.mpr ⟨⟨Nat.zero_le _, by show i.val < 0 + 256; omega⟩, h⟩))
      · exact .inr (.inr (.inl (Fin.forall_fin_two.mpr ⟨⟨Nat.zero_le _, by show i.val < 0 + 256; omega⟩, h⟩)))
      · exact .inr (.inr (.inr (.inl (Fin.forall_fin_two.mpr ⟨⟨Nat.zero_le _, by show i.val < 0 + 256; omega⟩, h⟩))))
    · have : 1024 ≤ j.val ∧ j.val < 1536 ∨ 512 ≤ j.val ∧ j.val < 1024 ∨ 0 ≤ j.val ∧ j.val < 512 := by omega
      refine .inr (.inr (.inr (.inr ?_)))
      rcases this with h | h | h
      · exact .inl (Fin.forall_fin_two.mpr ⟨⟨Nat.zero_le _, by show i.val < 0 + 256; omega⟩, h⟩)
      · exact .inr (.inl (Fin.forall_fin_two.mpr ⟨⟨Nat.zero_le _, by show i.val < 0 + 256; omega⟩, h⟩))
      · exact .inr (.inr (Fin.forall_fin_two.mpr ⟨⟨Nat.zero_le _, by show i.val < 0 + 256; omega⟩, h⟩))
  canon_tiles x h using hcover
  · obtain ⟨p, q, rfl⟩ : ∃ (p : Fin 256) (q : Fin 256), x = ix2 p q := ⟨x 0, x 1, by blk_ext []⟩
    obtain rfl : i = p := Fin.ext h0
    rw [blk6]
    exact piece m c (k := 6) (by decide) (A6 m c) rfl (pre := 2304) rfl (row t i) q j (h1.symm)
  · obtain ⟨p, q, rfl⟩ : ∃ (p : Fin 256) (q : Fin 256), x = ix2 p q := ⟨x 0, x 1, by blk_ext []⟩
    obtain rfl : i = p := Fin.ext h0
    rw [blk5]
    exact piece m c (k := 5) (by decide) (A5 m c) rfl (pre := 2048) rfl (row t i) q j (h1.symm)
  · obtain ⟨p, q, rfl⟩ : ∃ (p : Fin 256) (q : Fin 256), x = ix2 p q := ⟨x 0, x 1, by blk_ext []⟩
    obtain rfl : i = p := Fin.ext h0
    rw [blk4]
    exact piece m c (k := 4) (by decide) (A4 m c) rfl (pre := 1792) rfl (row t i) q j (h1.symm)
  · obtain ⟨p, q, rfl⟩ : ∃ (p : Fin 256) (q : Fin 256), x = ix2 p q := ⟨x 0, x 1, by blk_ext []⟩
    obtain rfl : i = p := Fin.ext h0
    rw [blk3]
    exact piece m c (k := 3) (by decide) (A3 m c) rfl (pre := 1536) rfl (row t i) q j (h1.symm)
  · obtain ⟨p, q, rfl⟩ : ∃ (p : Fin 256) (q : Fin 512), x = ix2 p q := ⟨x 0, x 1, by blk_ext []⟩
    obtain rfl : i = p := Fin.ext h0
    rw [blk2]
    exact piece m c (k := 2) (by decide) (A2 m c) rfl (pre := 1024) rfl (row t i) q j (h1.symm)
  · obtain ⟨p, q, rfl⟩ : ∃ (p : Fin 256) (q : Fin 512), x = ix2 p q := ⟨x 0, x 1, by blk_ext []⟩
    obtain rfl : i = p := Fin.ext h0
    rw [blk1]
    exact piece m c (k := 1) (by decide) (A1 m c) rfl (pre := 512) rfl (row t i) q j (h1.symm)
  · obtain ⟨p, q, rfl⟩ : ∃ (p : Fin 256) (q : Fin 512), x = ix2 p q := ⟨x 0, x 1, by blk_ext []⟩
    obtain rfl : i = p := Fin.ext h0
    rw [blk0]
    exact piece m c (k := 0) (by decide) (A0 m c) rfl (pre := 0) rfl (row t i) q j ((Nat.zero_add _).trans h1.symm)

/-- … and read back. -/
theorem reread (c : Dev nD) (t : Fin cfg0.N) (inb) : (ms0_12 t).view.readCov (cols m c t) (Rect.unit ![0, 0] ![256, 2560] inb).toLoadRect
    = View.canon (cols m c t) := by
  rw [View.readCov_eq_canon']
  funext y
  refine congrArg (View.canon (cols m c t)) (funext fun a => Fin.ext ?_)
  rw [Rect.idx_unit_val]
  match a with
  | ⟨0, _⟩ => exact Nat.zero_add _
  | ⟨1, _⟩ => exact Nat.zero_add _

/-- The gradient of the normed input. -/
theorem pay3 (c : Dev nD) (t : Fin cfg0.N) (i : Fin 256) (j : Fin 1024) : k0_pay3 (k0_pay2 (View.canon (cols m c t))) (iblk m c 10 t) (ix2 i j)
    = val_main_v19 (F := Ideal) (A0 m c) (A1 m c) (A2 m c) (A3 m c) (A4 m c) (A5 m c) (A6 m c) (A10 m c) (ix2 (row t i) j) := by
  pointwise [k0_pay3, k0_pay2, val_main_v19, val_main_v18]
  refine Fin.sum_fin_congr fun k => ?_
  rw [joined, blk10]

theorem ofBits_eps : Ideal.ofBits FTy.f32 897988541#32 = ((8796093 / 8796093022208 : ℝ) : EReal) := by
  simp [Ideal.ofBits, Ideal.ieee, -EReal.coe_mul]; norm_num

theorem ofBits_n : Ideal.ofBits FTy.f32 1149239296#32 = ((1024 : ℝ) : EReal) := by
  simp [Ideal.ofBits, Ideal.ieee, -EReal.coe_mul]; norm_num

theorem ofBits_mhalf : Ideal.ofBits FTy.f32 3204448256#32 = ((-1 / 2 : ℝ) : EReal) := by
  simp [Ideal.ofBits, Ideal.ieee, -EReal.coe_mul, -EReal.coe_neg]; norm_num

/-- The gradient of the input: the incoming one plus the norm's. -/
theorem pay7 (c : Dev nD) (t : Fin cfg0.N) (i : Fin 256) (j : Fin 1024) :
    k0_pay7 (k0_pay2 (View.canon (cols m c t))) (iblk m c 10 t) (iblk m c 7 t) (iblk m c 9 t) (iblk m c 8 t) (ix2 i j)
    = val_main_v40 (F := Ideal) (A0 m c) (A1 m c) (A2 m c) (A3 m c) (A4 m c) (A5 m c) (A6 m c) (A7 m c) (A8 m c) (A9 m c) (A10 m c) (ix2 (row t i) j) := by
  pointwise [k0_pay7, k0_pay5, k0_pay4, val_main_v40, val_main_v39, val_main_v38, val_main_v37, val_main_v36, val_main_v35, val_main_v34, val_main_cst_7, val_main_v33, val_main_v32, val_main_cst_6, val_main_v31, val_main_v30, val_main_v29, val_main_v28, val_main_v27, val_main_cst_5, val_main_v26, val_main_v24, val_main_v23, val_main_v14, val_main_v11, val_main_v10, val_main_cst_2, val_main_v9, val_main_v8, val_main_v7, val_main_v6, val_main_cst_1, val_main_v5, val_main_v4, val_main_cst_0, val_main_v3, val_main_v2, val_main_cst, val_main_v1]
  simp only [blk7, blk8, blk9, pay3, ofBits_eps, ofBits_n, ofBits_mhalf, Finset.univ_unique, Finset.sum_singleton]
  refine Eq.trans (Cert.Rms.row _ (fun k => A7 m c (ix2 (row t i) k)) (fun k => val_main_v19 (F := Ideal) (A0 m c) (A1 m c) (A2 m c) (A3 m c) (A4 m c) (A5 m c) (A6 m c) (A10 m c) (ix2 (row t i) k) * A9 m c (ix1 k)) j
      (N := 1024) (e := 8796093 / 8796093022208) (by norm_num) (by norm_num) _ _ rfl rfl) ?_
  exact (add_assoc _ _ _).trans ((add_assoc _ _ _).trans (congrArg _ (add_assoc _ _ _).symm))

theorem final12 (c : Dev nD) : (dats m 0 c).arrAt 12 (cfgs 0).N
    = val_main_v0 (F := Ideal) (A0 m c) (A1 m c) (A2 m c) (A3 m c) (A4 m c) (A5 m c) (A6 m c) := by
  refine (dats m 0 c).arrAt_eq_of_covers 12 _ (by decide +kernel) fun t _ y => ?_
  blk_simp
  rw [after0_12]
  obtain ⟨i, j, rfl⟩ : ∃ (i : Fin 256) (j : Fin 2560), y = ix2 i j := ⟨y 0, y 1, by blk_ext []⟩
  by_cases h : t.val % 16 = 0
  · rw [outsAt0_A m c t h]; frame_out
    exact (joined m c t i j).trans (congrArg _ (emb12 t i j).symm)
  · rw [outsAt0_B m c t h]; frame_out
    exact (joined m c t i j).trans (congrArg _ (emb12 t i j).symm)

theorem final11 (c : Dev nD) : (dats m 0 c).arrAt 11 (cfgs 0).N
    = val_main_v40 (F := Ideal) (A0 m c) (A1 m c) (A2 m c) (A3 m c) (A4 m c) (A5 m c) (A6 m c) (A7 m c) (A8 m c) (A9 m c) (A10 m c) := by
  refine (dats m 0 c).arrAt_eq_of_covers 11 _ (by decide +kernel) fun t _ y => ?_
  blk_simp
  rw [after0_11]
  obtain ⟨i, j, rfl⟩ : ∃ (i : Fin 256) (j : Fin 1024), y = ix2 i j := ⟨y 0, y 1, by blk_ext []⟩
  by_cases h : t.val % 16 = 0
  · rw [outsAt0_A m c t h]; frame_out
    rw [reread]
    exact (pay7 m c t i j).trans (congrArg _ (emb11 t i j).symm)
  · rw [outsAt0_B m c t h]; frame_out
    rw [reread]
    exact (pay7 m c t i j).trans (congrArg _ (emb11 t i j).symm)

/-- One block of rows' part of the gradient of the norm's weight. -/
def part (c : Dev nD) (t : Fin 16) (j : Fin 1024) : EReal :=
  ∑ i : Fin 256, val_main_v20 (F := Ideal) (A0 m c) (A1 m c) (A2 m c) (A3 m c) (A4 m c) (A5 m c) (A6 m c) (A7 m c) (A10 m c) (ix2 ⟨256 * t.val + i.val, by omega⟩ j)

theorem pay6 (c : Dev nD) (t : Fin cfg0.N) (acc : FVec Ideal S1x1024 .f32) (j : Fin 1024) :
    k0_pay6 (k0_pay2 (View.canon (cols m c t))) (iblk m c 10 t) (iblk m c 7 t) acc (ix2 0 j)
      = acc (ix2 0 j) + part m c t j := by
  unfold part
  pointwise [k0_pay6, k0_pay5, k0_pay4, val_main_v20, val_main_v13, val_main_v12, val_main_v8, val_main_v7, val_main_v6, val_main_cst_1, val_main_v5, val_main_v4, val_main_cst_0, val_main_v3, val_main_v2, val_main_cst, val_main_v1]
  simp only [blk7, pay3]
  refine congrArg (acc (ix2 0 j) + ·) (Fin.sum_fin_congr fun x => ?_)
  exact mul_comm _ _

theorem pay1 (i : S1x1024.Idx) : k0_pay1 (F := Ideal) i = 0 := by
  pointwise [k0_pay1]

theorem emb13 (t : Fin cfg0.N) (i : S1x1024.Idx) : (win0_13.blk t).view.emb i = i := by
  blk_ext [idx t]

/-- The reference's gradient of the norm's weight: the sum over all rows, the blocks of rows one after another. -/
theorem v41 (c : Dev nD) (j : Fin 1024) :
    val_main_v41 (F := Ideal) (A0 m c) (A1 m c) (A2 m c) (A3 m c) (A4 m c) (A5 m c) (A6 m c) (A7 m c) (A10 m c) (ix2 0 j) = ∑ t : Fin 16, part m c t j := by
  unfold part
  pointwise [val_main_v41, val_main_v25, val_main_cst_4, val_main_v22, val_main_v21, val_main_cst_3]
  refine (Fin.sum_univ_one _).trans (Fin.sum_mul_add_congr (S := 16) (n := 256) fun t i hl => ?_).symm
  exact congrArg (fun r => val_main_v20 (F := Ideal) (A0 m c) (A1 m c) (A2 m c) (A3 m c) (A4 m c) (A5 m c) (A6 m c) (A7 m c) (A10 m c) (ix2 r j))
    (Fin.ext (show 256 * t.val + i.val = t.val * 256 + i.val by omega))

theorem final13 (c : Dev nD) : (dats m 0 c).arrAt 13 (cfgs 0).N
    = val_main_v41 (F := Ideal) (A0 m c) (A1 m c) (A2 m c) (A3 m c) (A4 m c) (A5 m c) (A6 m c) (A7 m c) (A10 m c) := by
  refine (dats m 0 c).arrAt_eq_of_covers 13 _ (by decide +kernel) fun t hf y => ?_
  have h15 : t.val % 16 = 15 := (flush0_13 t).mp hf
  have hN : t.val < 16 := lt_of_lt_of_eq t.isLt N_0
  blk_simp
  rw [after0_13]
  obtain ⟨i, j, rfl⟩ : ∃ (i : Fin 1) (j : Fin 1024), y = ix2 i j := ⟨y 0, y 1, by blk_ext []⟩
  obtain rfl : i = 0 := Fin.fin_one_eq_zero i
  refine (Pipeline.eq_sum_fin_of_reset_step_apply_last (fun n h (j : Fin 1024) => (outsAt0 m c n h).2.2 (ix2 0 j)) 16
    (fun _ => 0) (fun t j => part m c (Fin.cast N_0 t) j)
    (fun t h j => by
      beta_reduce
      rw [outsAt0_A m c t h]; frame_out
      rw [reread]
      exact (pay6 m c t _ j).trans (congrArg (· + _) (pay1 _)))
    (fun t h j => by
      beta_reduce
      rw [outsAt0_B m c t h]; frame_out
      rw [reread]
      exact pay6 m c t _ j) (le_of_eq N_0) t (by have h : cfg0.N = 16 := N_0; omega) j).trans ?_
  rw [zero_add, emb13]
  exact (v41 m c j).symm

end Cert.Kernel8Ideal.Value

set_option maxHeartbeats 2000000 in
theorem Cert.algebraic8 : Cert.algebraic_Kernel8Ideal_Reference8Ideal
    (hKernel8Ideal := Cert.Kernel8Ideal.Gen.facts) (hReference8Ideal := Cert.Reference8Ideal.Gen.facts) := by
  pair_intro
  · run_from Cert.Kernel8Ideal.Gen.run_main m g
  · run_from Cert.Reference8Ideal.Value.run m' g'
    · refine (Cert.Reference8Ideal.Read.val_main_v40_eq m' c).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
      exact (Cert.Kernel8Ideal.Value.final11 m c).symm
    · refine (Cert.Reference8Ideal.Read.val_main_v0_eq _ _ _ _ _ _ _).trans ?_
      rw [(hagree c).2.2.2.2.1, (hagree c).2.2.2.2.2.1, (hagree c).2.2.2.2.2.2.1]
      exact (Cert.Kernel8Ideal.Value.final12 m c).symm
    · refine (Cert.Reference8Ideal.Read.val_main_v41_eq _ _ _ _ _ _ _ _ _).trans ?_
      rw [(hagree c).2.2.2.2.1, (hagree c).2.2.2.2.2.1, (hagree c).2.2.2.2.2.2.1]
      exact (Cert.Kernel8Ideal.Value.final13 m c).symm

end
-- ==== Proof.FeedForward.lean ====
module

public import proofs.«01_k».proof.Proof.Gen.Kernel9Ideal.Value
public import proofs.«01_k».proof.Proof.Gen.Reference9Ideal.Read
public import Idealize.ShloMosaic.Lib.Pipeline.ValueKit
public import Idealize.ShloMosaic.Lib.Claim
public import proofs.«01_k».proof.Defs

@[expose] public section

set_option maxRecDepth 16384

/-! # The feed-forward of one layer -/

noncomputable section

open Idealize.ShloMosaic Idealize.ShloMosaic.TcCoe Idealize.SL.Sem
open Idealize.ShloMosaic.Pipeline (Dat)

namespace Cert.Kernel9Ideal.Value

open Cert.Kernel9Ideal Cert.Kernel9Ideal.Gen Cert.Reference9Ideal.Read

variable (m : (ℓ : Loc nD τ sig) → Buf (Elt Ideal) ℓ)

abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)

/-- The array's row of row `i` of grid point `t`'s block. -/
abbrev row (t : Fin cfg0.N) (i : Fin 256) : Fin 4096 := ⟨256 * t.val + i.val, by have := t.isLt; have : cfg0.N = 16 := rfl; omega⟩

theorem idx : ∀ t : Fin cfg0.N, win0_0.index t = ![t.val, 0] ∧ win0_1.index t = ![t.val, 0] ∧ win0_2.index t = ![0, 0]
    ∧ win0_3.index t = ![0, 0, 0] ∧ win0_4.index t = ![0, 0] ∧ win0_5.index t = ![0, 0]
    ∧ win0_6.index t = ![t.val, 0] ∧ win0_7.index t = ![t.val, 0] ∧ win0_8.index t = ![t.val, 0] :=
  (by decide +kernel : ∀ t : Fin grid0.N, _)

theorem blk0 (c : Dev nD) (t : Fin cfg0.N) (i : Fin 256) (j : Fin 1024) : iblk m c 0 t (ix2 i j) = A0 m c (ix2 (row t i) j) := by
  blk_point [iblk, V, idx t]

theorem blk1 (c : Dev nD) (t : Fin cfg0.N) (i : Fin 256) (j : Fin 1024) : iblk m c 1 t (ix2 i j) = A1 m c (ix2 (row t i) j) := by
  blk_point [iblk, V, idx t]

theorem blk2 (c : Dev nD) (t : Fin cfg0.N) (i : Fin 1024) (j : Fin 1024) : iblk m c 2 t (ix2 i j) = A2 m c (ix2 i j) := by
  blk_point [iblk, V, idx t]

theorem blk3 (c : Dev nD) (t : Fin cfg0.N) (j : Fin 1024) : iblk m c 3 t (ix3 0 0 j) = A3 m c (ix1 j) := by
  blk_point [iblk, V, idx t]

theorem blk4 (c : Dev nD) (t : Fin cfg0.N) (i : Fin 4096) (j : Fin 1024) : iblk m c 4 t (ix2 i j) = A4 m c (ix2 j i) := by
  blk_point [iblk, V, idx t]

theorem blk5 (c : Dev nD) (t : Fin cfg0.N) (i : Fin 4096) (j : Fin 1024) : iblk m c 5 t (ix2 i j) = A5 m c (ix2 i j) := by
  blk_point [iblk, V, idx t]

theorem emb6 (t : Fin cfg0.N) (i : Fin 256) (j : Fin 1024) : ((cfg0.win 6).blk t).view.emb (ix2 i j) = ix2 (row t i) j := by
  blk_ext [idx t]

theorem emb7 (t : Fin cfg0.N) (i : Fin 256) (j : Fin 4096) : ((cfg0.win 7).blk t).view.emb (ix2 i j) = ix2 (row t i) j := by
  blk_ext [idx t]

theorem emb8 (t : Fin cfg0.N) (i : Fin 256) (j : Fin 1024) : ((cfg0.win 8).blk t).view.emb (ix2 i j) = ix2 (row t i) j := by
  blk_ext [idx t]

/-- The residual stream after the mixer. -/
theorem pay2 (c : Dev nD) (t : Fin cfg0.N) (i : Fin 256) (j : Fin 1024) : k0_pay2 (iblk m c 0 t) (iblk m c 1 t) (iblk m c 2 t) (ix2 i j)
    = val_main_v2 (F := Ideal) (A0 m c) (A1 m c) (A2 m c) (ix2 (row t i) j) := by
  pointwise [k0_pay2, val_main_v2, val_main_v1, val_main_v0]
  simp only [blk0, blk1, blk2]

/-- The product before the activation. -/
theorem pay3 (c : Dev nD) (t : Fin cfg0.N) (i : Fin 256) (j : Fin 4096) : k0_pay3 (iblk m c 0 t) (iblk m c 1 t) (iblk m c 2 t) (iblk m c 3 t) (iblk m c 4 t) (ix2 i j)
    = val_main_v16 (F := Ideal) (A0 m c) (A1 m c) (A2 m c) (A3 m c) (A4 m c) (ix2 (row t i) j) := by
  pointwise [k0_pay3, val_main_v16, val_main_v15, val_main_v14, val_main_v13, val_main_v12, val_main_v11, val_main_v10, val_main_v9, val_main_v8, val_main_v7, val_main_v6, val_main_v5, val_main_v4, val_main_v3, val_main_cst_1, val_main_cst_0, val_main_cst]
  simp only [pay2, blk3, blk4]

theorem pay4 (c : Dev nD) (t : Fin cfg0.N) (i : Fin 256) (j : Fin 4096) : k0_pay4 (iblk m c 0 t) (iblk m c 1 t) (iblk m c 2 t) (iblk m c 3 t) (iblk m c 4 t) (ix2 i j)
    = val_main_v17 (F := Ideal) (A0 m c) (A1 m c) (A2 m c) (A3 m c) (A4 m c) (ix2 (row t i) j) := by
  pointwise [k0_pay4, val_main_v17]
  rw [pay3]

/-- The squared activation. -/
theorem pay5 (c : Dev nD) (t : Fin cfg0.N) (i : Fin 256) (j : Fin 4096) : k0_pay5 (iblk m c 0 t) (iblk m c 1 t) (iblk m c 2 t) (iblk m c 3 t) (iblk m c 4 t) (ix2 i j)
    = val_main_v19 (F := Ideal) (A0 m c) (A1 m c) (A2 m c) (A3 m c) (A4 m c) (ix2 (row t i) j) := by
  pointwise [k0_pay5, val_main_v19, val_main_v18, val_main_call0_v0, val_main_call0_cst]
  rw [pay3]

/-- The layer's output. -/
theorem pay1 (c : Dev nD) (t : Fin cfg0.N) (i : Fin 256) (j : Fin 1024) :
    k0_pay1 (k0_pay2 (iblk m c 0 t) (iblk m c 1 t) (iblk m c 2 t)) (k0_pay5 (iblk m c 0 t) (iblk m c 1 t) (iblk m c 2 t) (iblk m c 3 t) (iblk m c 4 t)) (k0_pay6 (iblk m c 5 t)) (constant S256x1024 .f32 0x00000000#32) (ix2 i j)
    = val_main_v21 (F := Ideal) (A0 m c) (A1 m c) (A2 m c) (A3 m c) (A4 m c) (A5 m c) (ix2 (row t i) j) := by
  pointwise [k0_pay1, k0_pay6, val_main_v21, val_main_v20]
  simp only [pay2, pay5, blk5]

theorem final6 (c : Dev nD) : (dats m 0 c).arrAt 6 (cfgs 0).N
    = val_main_v2 (F := Ideal) (A0 m c) (A1 m c) (A2 m c) := by
  refine (dats m 0 c).arrAt_eq_of_covers 6 _ (by decide +kernel) fun t _ y => ?_
  blk_simp
  rw [after0_6]
  frame_out
  obtain ⟨i, j, rfl⟩ : ∃ (i : Fin 256) (j : Fin 1024), y = ix2 i j := ⟨y 0, y 1, by blk_ext []⟩
  exact (pay2 m c t i j).trans (congrArg _ (emb6 t i j).symm)

theorem final7 (c : Dev nD) : (dats m 0 c).arrAt 7 (cfgs 0).N
    = val_main_v17 (F := Ideal) (A0 m c) (A1 m c) (A2 m c) (A3 m c) (A4 m c) := by
  refine (dats m 0 c).arrAt_eq_of_covers 7 _ (by decide +kernel) fun t _ y => ?_
  blk_simp
  rw [after0_7]
  frame_out
  obtain ⟨i, j, rfl⟩ : ∃ (i : Fin 256) (j : Fin 4096), y = ix2 i j := ⟨y 0, y 1, by blk_ext []⟩
  exact (pay4 m c t i j).trans (congrArg _ (emb7 t i j).symm)

theorem final8 (c : Dev nD) : (dats m 0 c).arrAt 8 (cfgs 0).N
    = val_main_v21 (F := Ideal) (A0 m c) (A1 m c) (A2 m c) (A3 m c) (A4 m c) (A5 m c) := by
  refine (dats m 0 c).arrAt_eq_of_covers 8 _ (by decide +kernel) fun t _ y => ?_
  blk_simp
  rw [after0_8]
  frame_out
  obtain ⟨i, j, rfl⟩ : ∃ (i : Fin 256) (j : Fin 1024), y = ix2 i j := ⟨y 0, y 1, by blk_ext []⟩
  exact (pay1 m c t i j).trans (congrArg _ (emb8 t i j).symm)

end Cert.Kernel9Ideal.Value

theorem Cert.algebraic9 : Cert.algebraic_Kernel9Ideal_Reference9Ideal
    (hKernel9Ideal := Cert.Kernel9Ideal.Gen.facts) (hReference9Ideal := Cert.Reference9Ideal.Gen.facts) := by
  pair_intro
  · run_from Cert.Kernel9Ideal.Gen.run_main m g
  · hlo_run
    · exact (Cert.Kernel9Ideal.Value.final6 m c).symm
    · exact (Cert.Kernel9Ideal.Value.final7 m c).symm
    · exact (Cert.Kernel9Ideal.Value.final8 m c).symm

end
-- ==== Proof.LossLayer.lean ====
module

public import proofs.«01_k».proof.Proof.Gen.Kernel10Ideal.Value
public import proofs.«01_k».proof.Proof.Gen.Reference10Ideal.Read
public import Idealize.ShloMosaic.Lib.Pipeline.ValueKit
public import Idealize.ShloMosaic.Lib.Claim
public import proofs.«01_k».proof.Defs
public import proofs.«01_k».proof.Proof.RmsRow

@[expose] public section

set_option maxRecDepth 16384

/-! # The feed-forward of the last layer and the loss -/

noncomputable section

open Idealize.ShloMosaic Idealize.ShloMosaic.TcCoe Idealize.SL.Sem
open Idealize.ShloMosaic.Pipeline (Dat)

namespace Cert.Kernel10Ideal.Value

open Cert.Kernel10Ideal Cert.Kernel10Ideal.Gen Cert.Reference10Ideal.Read

variable (m : (ℓ : Loc nD τ sig) → Buf (Elt Ideal) ℓ)

abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)

/-- The array's row of row `i` of grid point `t`'s block. -/
abbrev row (t : Fin cfg0.N) (i : Fin 256) : Fin 4096 := ⟨256 * t.val + i.val, by have := t.isLt; have : cfg0.N = 16 := rfl; omega⟩

theorem idx : ∀ t : Fin cfg0.N, win0_0.index t = ![t.val, 0] ∧ win0_1.index t = ![t.val, 0] ∧ win0_2.index t = ![0, 0]
    ∧ win0_3.index t = ![0, 0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![0, 0] :=
  (by decide +kernel : ∀ t : Fin grid0.N, _)

theorem blk0 (c : Dev nD) (t : Fin cfg0.N) (i : Fin 256) (j : Fin 1024) : iblk m c 0 t (ix2 i j) = A0 m c (ix2 (row t i) j) := by
  blk_point [iblk, V, idx t]

theorem blk1 (c : Dev nD) (t : Fin cfg0.N) (i : Fin 256) (j : Fin 1024) : iblk m c 1 t (ix2 i j) = A1 m c (ix2 (row t i) j) := by
  blk_point [iblk, V, idx t]

theorem blk2 (c : Dev nD) (t : Fin cfg0.N) (i : Fin 1024) (j : Fin 1024) : iblk m c 2 t (ix2 i j) = A2 m c (ix2 i j) := by
  blk_point [iblk, V, idx t]

theorem blk3 (c : Dev nD) (t : Fin cfg0.N) (j : Fin 1024) : iblk m c 3 t (ix3 0 0 j) = A3 m c (ix1 j) := by
  blk_point [iblk, V, idx t]

theorem blk4 (c : Dev nD) (t : Fin cfg0.N) (i : Fin 4096) (j : Fin 1024) : iblk m c 4 t (ix2 i j) = A4 m c (ix2 j i) := by
  blk_point [iblk, V, idx t]

theorem blk5 (c : Dev nD) (t : Fin cfg0.N) (i : Fin 4096) (j : Fin 1024) : iblk m c 5 t (ix2 i j) = A5 m c (ix2 i j) := by
  blk_point [iblk, V, idx t]

theorem blk6 (c : Dev nD) (t : Fin cfg0.N) (i : Fin 256) (j : Fin 1024) : iblk m c 6 t (ix2 i j) = A6 m c (ix2 (row t i) j) := by
  blk_point [iblk, V, idx t]

theorem emb7 (t : Fin cfg0.N) (i : Fin 256) (j : Fin 1024) : ((cfg0.win 7).blk t).view.emb (ix2 i j) = ix2 (row t i) j := by
  blk_ext [idx t]

theorem emb8 (t : Fin cfg0.N) (i : Fin 256) (j : Fin 4096) : ((cfg0.win 8).blk t).view.emb (ix2 i j) = ix2 (row t i) j := by
  blk_ext [idx t]

theorem emb9 (t : Fin cfg0.N) (i : Fin 256) (j : Fin 1024) : ((cfg0.win 9).blk t).view.emb (ix2 i j) = ix2 (row t i) j := by
  blk_ext [idx t]

/-- The residual stream after the mixer. -/
theorem pay5 (c : Dev nD) (t : Fin cfg0.N) (i : Fin 256) (j : Fin 1024) : k0_pay5 (iblk m c 0 t) (iblk m c 1 t) (iblk m c 2 t) (ix2 i j)
    = val_main_v2 (F := Ideal) (A0 m c) (A1 m c) (A2 m c) (ix2 (row t i) j) := by
  pointwise [k0_pay5, val_main_v2, val_main_v1, val_main_v0]
  simp only [blk0, blk1, blk2]

/-- The product before the activation. -/
theorem pay6 (c : Dev nD) (t : Fin cfg0.N) (i : Fin 256) (j : Fin 4096) : k0_pay6 (iblk m c 0 t) (iblk m c 1 t) (iblk m c 2 t) (iblk m c 3 t) (iblk m c 4 t) (ix2 i j)
    = val_main_v16 (F := Ideal) (A0 m c) (A1 m c) (A2 m c) (A3 m c) (A4 m c) (ix2 (row t i) j) := by
  pointwise [k0_pay6, val_main_v16, val_main_v15, val_main_v14, val_main_v13, val_main_v12, val_main_v11, val_main_v10, val_main_v9, val_main_v8, val_main_v7, val_main_v6, val_main_v5, val_main_v4, val_main_v3, val_main_cst_1, val_main_cst_0, val_main_cst]
  simp only [pay5, blk3, blk4]

theorem pay7 (c : Dev nD) (t : Fin cfg0.N) (i : Fin 256) (j : Fin 4096) : k0_pay7 (iblk m c 0 t) (iblk m c 1 t) (iblk m c 2 t) (iblk m c 3 t) (iblk m c 4 t) (ix2 i j)
    = val_main_v17 (F := Ideal) (A0 m c) (A1 m c) (A2 m c) (A3 m c) (A4 m c) (ix2 (row t i) j) := by
  pointwise [k0_pay7, val_main_v17]
  rw [pay6]

/-- The squared activation. -/
theorem pay8 (c : Dev nD) (t : Fin cfg0.N) (i : Fin 256) (j : Fin 4096) : k0_pay8 (iblk m c 0 t) (iblk m c 1 t) (iblk m c 2 t) (iblk m c 3 t) (iblk m c 4 t) (ix2 i j)
    = val_main_v19 (F := Ideal) (A0 m c) (A1 m c) (A2 m c) (A3 m c) (A4 m c) (ix2 (row t i) j) := by
  pointwise [k0_pay8, val_main_v19, val_main_v18, val_main_call0_v0, val_main_call0_cst]
  rw [pay6]

/-- The output minus the target. -/
theorem pay2 (c : Dev nD) (t : Fin cfg0.N) (i : Fin 256) (j : Fin 1024) :
    k0_pay2 (k0_pay5 (iblk m c 0 t) (iblk m c 1 t) (iblk m c 2 t)) (k0_pay8 (iblk m c 0 t) (iblk m c 1 t) (iblk m c 2 t) (iblk m c 3 t) (iblk m c 4 t)) (k0_pay9 (iblk m c 5 t)) (constant S256x1024 .f32 0x00000000#32) (iblk m c 6 t) (ix2 i j)
    = val_main_v22 (F := Ideal) (A0 m c) (A1 m c) (A2 m c) (A3 m c) (A4 m c) (A5 m c) (A6 m c) (ix2 (row t i) j) := by
  pointwise [k0_pay2, k0_pay9, val_main_v22, val_main_v21, val_main_v20]
  simp only [pay5, pay8, blk5, blk6]

theorem ofBits_n : Ideal.ofBits FTy.f32 1149239296#32 = ((1024 : ℝ) : EReal) := by
  simp [Ideal.ofBits, Ideal.ieee, -EReal.coe_mul]; norm_num

theorem ofBits_invn : Ideal.ofBits FTy.f32 981467136#32 = ((1 / 1024 : ℝ) : EReal) := by
  simp [Ideal.ofBits, Ideal.ieee, -EReal.coe_mul]; norm_num

theorem ofBits_half : Ideal.ofBits FTy.f32 1056964608#32 = ((1 / 2 : ℝ) : EReal) := by
  simp [Ideal.ofBits, Ideal.ieee, -EReal.coe_mul]; norm_num

theorem ofBits_one : Ideal.ofBits FTy.f32 1065353216#32 = ((1 : ℝ) : EReal) := by
  simp [Ideal.ofBits, Ideal.ieee, -EReal.coe_mul]; norm_num

theorem ofBits_two : Ideal.ofBits FTy.f32 1073741824#32 = ((2 : ℝ) : EReal) := by
  simp [Ideal.ofBits, Ideal.ieee, -EReal.coe_mul]; norm_num

theorem ofBits_2n : Ideal.ofBits FTy.f32 1157627904#32 = ((2048 : ℝ) : EReal) := by
  simp [Ideal.ofBits, Ideal.ieee, -EReal.coe_mul]; norm_num

/-- The chain rule's constants: a half of the mean of squares gives twice the difference over twice the width. -/
theorem chain (e : EReal) : e * ((1 / 1024 : ℝ) : EReal)
    = Ideal.div ((1 / 2 : ℝ) : EReal) ((1024 : ℝ) : EReal) * (((2 : ℝ) : EReal) * e) := by
  rw [Ideal.div_coe (by norm_num : (1024 : ℝ) ≠ 0), ← mul_assoc, ← EReal.coe_mul, ← EReal.coe_mul, mul_comm]
  norm_num

/-- The gradient of the output. -/
theorem pay3 (c : Dev nD) (t : Fin cfg0.N) (i : Fin 256) (j : Fin 1024) :
    k0_pay3 (k0_pay5 (iblk m c 0 t) (iblk m c 1 t) (iblk m c 2 t)) (k0_pay8 (iblk m c 0 t) (iblk m c 1 t) (iblk m c 2 t) (iblk m c 3 t) (iblk m c 4 t)) (k0_pay9 (iblk m c 5 t)) (constant S256x1024 .f32 0x00000000#32) (iblk m c 6 t) (ix2 i j)
    = val_main_v36 (F := Ideal) (A0 m c) (A1 m c) (A2 m c) (A3 m c) (A4 m c) (A5 m c) (A6 m c) (ix2 (row t i) j) := by
  pointwise [k0_pay3, val_main_v36, val_main_v35, val_main_v34, val_main_v33, val_main_v32, val_main_v31, val_main_v25, val_main_v24, val_main_cst_2, val_main_cst_7, val_main_cst_8, val_main_cst_9]
  simp only [pay2, ofBits_n, ofBits_invn, ofBits_half, ofBits_one, ofBits_two]
  exact chain _

theorem final7 (c : Dev nD) : (dats m 0 c).arrAt 7 (cfgs 0).N
    = val_main_v2 (F := Ideal) (A0 m c) (A1 m c) (A2 m c) := by
  refine (dats m 0 c).arrAt_eq_of_covers 7 _ (by decide +kernel) fun t _ y => ?_
  blk_simp
  rw [after0_7]
  obtain ⟨i, j, rfl⟩ : ∃ (i : Fin 256) (j : Fin 1024), y = ix2 i j := ⟨y 0, y 1, by blk_ext []⟩
  by_cases h : t.val % 16 = 0
  · rw [outsAt0_A m c t h]; frame_out
    exact (pay5 m c t i j).trans (congrArg _ (emb7 t i j).symm)
  · rw [outsAt0_B m c t h]; frame_out
    exact (pay5 m c t i j).trans (congrArg _ (emb7 t i j).symm)

theorem final8 (c : Dev nD) : (dats m 0 c).arrAt 8 (cfgs 0).N
    = val_main_v17 (F := Ideal) (A0 m c) (A1 m c) (A2 m c) (A3 m c) (A4 m c) := by
  refine (dats m 0 c).arrAt_eq_of_covers 8 _ (by decide +kernel) fun t _ y => ?_
  blk_simp
  rw [after0_8]
  obtain ⟨i, j, rfl⟩ : ∃ (i : Fin 256) (j : Fin 4096), y = ix2 i j := ⟨y 0, y 1, by blk_ext []⟩
  by_cases h : t.val % 16 = 0
  · rw [outsAt0_A m c t h]; frame_out
    exact (pay7 m c t i j).trans (congrArg _ (emb8 t i j).symm)
  · rw [outsAt0_B m c t h]; frame_out
    exact (pay7 m c t i j).trans (congrArg _ (emb8 t i j).symm)

theorem final9 (c : Dev nD) : (dats m 0 c).arrAt 9 (cfgs 0).N
    = val_main_v36 (F := Ideal) (A0 m c) (A1 m c) (A2 m c) (A3 m c) (A4 m c) (A5 m c) (A6 m c) := by
  refine (dats m 0 c).arrAt_eq_of_covers 9 _ (by decide +kernel) fun t _ y => ?_
  blk_simp
  rw [after0_9]
  obtain ⟨i, j, rfl⟩ : ∃ (i : Fin 256) (j : Fin 1024), y = ix2 i j := ⟨y 0, y 1, by blk_ext []⟩
  by_cases h : t.val % 16 = 0
  · rw [outsAt0_A m c t h]; frame_out
    exact (pay3 m c t i j).trans (congrArg _ (emb9 t i j).symm)
  · rw [outsAt0_B m c t h]; frame_out
    exact (pay3 m c t i j).trans (congrArg _ (emb9 t i j).symm)

/-- The squares one row adds to the loss. -/
def sq (c : Dev nD) (r : Fin 4096) : EReal :=
  ∑ j : Fin 1024, val_main_v23 (F := Ideal) (A0 m c) (A1 m c) (A2 m c) (A3 m c) (A4 m c) (A5 m c) (A6 m c) (ix2 r j)

/-- What grid point `t` adds to the sum of squares. -/
def part (c : Dev nD) (t : Fin 16) : EReal := ∑ i : Fin 256, sq m c ⟨256 * t.val + i.val, by omega⟩

theorem pay4 (c : Dev nD) (t : Fin cfg0.N) (acc : FVec Ideal S8x128 .f32) (y : S8x128.Idx) :
    k0_pay4 (k0_pay5 (iblk m c 0 t) (iblk m c 1 t) (iblk m c 2 t)) (k0_pay8 (iblk m c 0 t) (iblk m c 1 t) (iblk m c 2 t) (iblk m c 3 t) (iblk m c 4 t)) (k0_pay9 (iblk m c 5 t)) (constant S256x1024 .f32 0x00000000#32) (iblk m c 6 t) acc y = acc y + part m c t := by
  unfold part sq
  pointwise [k0_pay4, val_main_v23]
  simp only [pay2]

theorem pay1 (y : S8x128.Idx) : k0_pay1 (F := Ideal) y = 0 := by
  pointwise [k0_pay1]

theorem emb10 (t : Fin cfg0.N) (y : S8x128.Idx) : (win0_10.blk t).view.emb y = y := by
  blk_ext [idx t]

theorem scale (f : Fin 4096 → EReal) : ((2048 : ℝ) : EReal) * (((1 / 2 : ℝ) : EReal) * ∑ r, Ideal.div (f r) ((1024 : ℝ) : EReal)) = ∑ r, f r := by
  simp only [Ideal.div_coe (by norm_num : (1024 : ℝ) ≠ 0)]
  rw [Cert.Rms.sum_mul_real _ _ _ (by norm_num), mul_comm _ (((1 / 1024 : ℝ)) : EReal), ← mul_assoc, ← mul_assoc, ← EReal.coe_mul, ← EReal.coe_mul]
  norm_num

/-- The reference's sum: all rows, the blocks of rows one after another. -/
theorem v38 (c : Dev nD) (y : S8x128.Idx) :
    val_main_v38 (F := Ideal) (A0 m c) (A1 m c) (A2 m c) (A3 m c) (A4 m c) (A5 m c) (A6 m c) y = ∑ t : Fin 16, part m c t := by
  pointwise [val_main_v38, val_main_v37, val_main_v30, val_main_v29, val_main_v28, val_main_v27, val_main_v26, val_main_cst_3, val_main_cst_4, val_main_cst_5, val_main_cst_6, val_main_cst_10]
  simp only [ofBits_n, ofBits_half, ofBits_2n]
  refine (scale _).trans ?_
  unfold part
  refine (Fin.sum_mul_add_congr (S := 16) (n := 256) fun t i hl => ?_).symm
  exact congrArg (fun r => sq m c r) (Fin.ext (show 256 * t.val + i.val = t.val * 256 + i.val by omega))

theorem final10 (c : Dev nD) : (dats m 0 c).arrAt 10 (cfgs 0).N
    = val_main_v38 (F := Ideal) (A0 m c) (A1 m c) (A2 m c) (A3 m c) (A4 m c) (A5 m c) (A6 m c) := by
  refine (dats m 0 c).arrAt_eq_of_covers 10 _ (by decide +kernel) fun t hf y => ?_
  have h15 : t.val % 16 = 15 := (flush0_10 t).mp hf
  have hN : t.val < 16 := lt_of_lt_of_eq t.isLt N_0
  blk_simp
  rw [after0_10]
  refine (Pipeline.eq_sum_fin_of_reset_step_apply_last (fun n h (y : S8x128.Idx) => (outsAt0 m c n h).2.2.2 y) 16
    (fun _ => 0) (fun t _ => part m c (Fin.cast N_0 t))
    (fun t h y => by
      beta_reduce
      rw [outsAt0_A m c t h]; frame_out
      exact (pay4 m c t _ y).trans (congrArg (· + _) (pay1 _)))
    (fun t h y => by
      beta_reduce
      rw [outsAt0_B m c t h]; frame_out
      exact pay4 m c t _ y) (le_of_eq N_0) t (by have h : cfg0.N = 16 := N_0; omega) y).trans ?_
  rw [zero_add, emb10]
  exact (v38 m c y).symm

end Cert.Kernel10Ideal.Value

set_option maxHeartbeats 2000000 in
theorem Cert.algebraic10 : Cert.algebraic_Kernel10Ideal_Reference10Ideal
    (hKernel10Ideal := Cert.Kernel10Ideal.Gen.facts) (hReference10Ideal := Cert.Reference10Ideal.Gen.facts) := by
  pair_intro
  · run_from Cert.Kernel10Ideal.Gen.run_main m g
  · hlo_run
    · exact (Cert.Kernel10Ideal.Value.final7 m c).symm
    · exact (Cert.Kernel10Ideal.Value.final8 m c).symm
    · exact (Cert.Kernel10Ideal.Value.final9 m c).symm
    · exact (Cert.Kernel10Ideal.Value.final10 m c).symm

end
-- ==== Proof.AdamW.lean ====
module

public import proofs.«01_k».proof.Proof.Gen.Kernel11Ideal.Value
public import proofs.«01_k».proof.Proof.Gen.Reference11Ideal.Read
public import proofs.«01_k».proof.Proof.Gen.Kernel12Ideal.Value
public import proofs.«01_k».proof.Proof.Gen.Reference12Ideal.Read
public import proofs.«01_k».proof.Proof.Gen.Kernel13Ideal.Value
public import proofs.«01_k».proof.Proof.Gen.Reference13Ideal.Read
public import proofs.«01_k».proof.Proof.Gen.Kernel14Ideal.Value
public import proofs.«01_k».proof.Proof.Gen.Reference14Ideal.Read
public import Idealize.ShloMosaic.Lib.Pipeline.ValueKit
public import Idealize.ShloMosaic.Lib.Claim
public import proofs.«01_k».proof.Defs

@[expose] public section

set_option maxRecDepth 16384

/-! # The optimiser's step on the four matrices -/

noncomputable section

open Idealize.ShloMosaic Idealize.ShloMosaic.TcCoe Idealize.SL.Sem
open Idealize.ShloMosaic.Pipeline (Dat)

namespace Cert.Kernel11Ideal.Value

/-! ## The projections into the mixer -/

open Cert.Kernel11Ideal Cert.Kernel11Ideal.Gen Cert.Reference11Ideal.Read

variable (m : (ℓ : Loc nD τ sig) → Buf (Elt Ideal) ℓ)

abbrev W (c : Dev nD) := m ((c : Thread nD τ).loc main_arg0)
abbrev G (c : Dev nD) := m ((c : Thread nD τ).loc main_arg1)
abbrev M (c : Dev nD) := m ((c : Thread nD τ).loc main_arg2)
abbrev U (c : Dev nD) := m ((c : Thread nD τ).loc main_arg3)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The array's row of row `i` of grid point `t`'s block. -/
abbrev row (t : Fin cfg0.N) (i : Fin 512) : Fin 4096 := ⟨512 * t.val + i.val, by have := t.isLt; have : cfg0.N = 8 := rfl; omega⟩

theorem blk0 (c : Dev nD) (t : Fin cfg0.N) (i : Fin 512) (j : Fin 320) : iblk m c 0 t (ix2 i j)
    = W m c (ix3 ⟨(row t i).val / 1024, by omega⟩ ⟨(row t i).val % 1024, by omega⟩ j) := by
  blk_point [iblk, V, idx t]

theorem blk1 (c : Dev nD) (t : Fin cfg0.N) (i : Fin 512) (j : Fin 320) : iblk m c 1 t (ix2 i j)
    = G m c (ix3 ⟨(row t i).val / 1024, by omega⟩ ⟨(row t i).val % 1024, by omega⟩ j) := by
  blk_point [iblk, V, idx t]

theorem blk2 (c : Dev nD) (t : Fin cfg0.N) (i : Fin 512) (j : Fin 320) : iblk m c 2 t (ix2 i j)
    = M m c (ix3 ⟨(row t i).val / 1024, by omega⟩ ⟨(row t i).val % 1024, by omega⟩ j) := by
  blk_point [iblk, V, idx t]

theorem blk3 (c : Dev nD) (t : Fin cfg0.N) (i : Fin 512) (j : Fin 320) : iblk m c 3 t (ix2 i j)
    = U m c (ix3 ⟨(row t i).val / 1024, by omega⟩ ⟨(row t i).val % 1024, by omega⟩ j) := by
  blk_point [iblk, V, idx t]

theorem emb4 (t : Fin cfg0.N) (i : Fin 512) (j : Fin 320) : ((cfg0.win 4).blk t).view.emb (ix2 i j) = ix2 (row t i) j := by
  blk_ext [idx t]

theorem emb5 (t : Fin cfg0.N) (i : Fin 512) (j : Fin 320) : ((cfg0.win 5).blk t).view.emb (ix2 i j) = ix2 (row t i) j := by
  blk_ext [idx t]

theorem emb6 (t : Fin cfg0.N) (i : Fin 512) (j : Fin 320) : ((cfg0.win 6).blk t).view.emb (ix2 i j) = ix2 (row t i) j := by
  blk_ext [idx t]

theorem final5 (c : Dev nD) : (dats m 0 c).arrAt 5 (cfgs 0).N = val_main_v25 (F := Ideal) (G m c) (M m c) := by
  refine (dats m 0 c).arrAt_eq_of_covers 5 _ (by decide +kernel) fun t _ y => ?_
  blk_simp
  rw [after0_5]
  frame_out
  obtain ⟨i, j, rfl⟩ : ∃ (i : Fin 512) (j : Fin 320), y = ix2 i j := ⟨y 0, y 1, by blk_ext []⟩
  rw [emb5]
  pointwise [k0_pay2, k0_pay1, val_main_v25, val_main_v4, val_main_v3, val_main_v2, val_main_v1, val_main_v0, val_main_cst_0, val_main_cst]
  simp only [blk1, blk2]

theorem final6 (c : Dev nD) : (dats m 0 c).arrAt 6 (cfgs 0).N = val_main_v26 (F := Ideal) (G m c) (U m c) := by
  refine (dats m 0 c).arrAt_eq_of_covers 6 _ (by decide +kernel) fun t _ y => ?_
  blk_simp
  rw [after0_6]
  frame_out
  obtain ⟨i, j, rfl⟩ : ∃ (i : Fin 512) (j : Fin 320), y = ix2 i j := ⟨y 0, y 1, by blk_ext []⟩
  rw [emb6]
  pointwise [k0_pay3, k0_pay1, val_main_v26, val_main_v10, val_main_v9, val_main_v8, val_main_v7, val_main_v6, val_main_v5, val_main_cst_2, val_main_cst_1]
  simp only [blk1, blk3]

theorem final4 (c : Dev nD) : (dats m 0 c).arrAt 4 (cfgs 0).N = val_main_v24 (F := Ideal) (W m c) (G m c) (M m c) (U m c) := by
  refine (dats m 0 c).arrAt_eq_of_covers 4 _ (by decide +kernel) fun t _ y => ?_
  blk_simp
  rw [after0_4]
  frame_out
  obtain ⟨i, j, rfl⟩ : ∃ (i : Fin 512) (j : Fin 320), y = ix2 i j := ⟨y 0, y 1, by blk_ext []⟩
  rw [emb4]
  pointwise [k0_pay4, k0_pay3, k0_pay2, k0_pay1, val_main_v24, val_main_v23, val_main_v22, val_main_v21, val_main_v20, val_main_v19, val_main_v18, val_main_v17, val_main_v16, val_main_v15, val_main_v14, val_main_v13, val_main_v12, val_main_v11, val_main_cst_7, val_main_cst_6, val_main_cst_5, val_main_cst_4, val_main_cst_3, val_main_v4, val_main_v3, val_main_v2, val_main_v1, val_main_v0, val_main_cst_0, val_main_cst, val_main_v10, val_main_v9, val_main_v8, val_main_v7, val_main_v6, val_main_v5, val_main_cst_2, val_main_cst_1]
  simp only [blk0, blk1, blk2, blk3]

end Cert.Kernel11Ideal.Value

theorem Cert.algebraic11 : Cert.algebraic_Kernel11Ideal_Reference11Ideal
    (hKernel11Ideal := Cert.Kernel11Ideal.Gen.facts) (hReference11Ideal := Cert.Reference11Ideal.Gen.facts) := by
  pair_intro
  · run_from Cert.Kernel11Ideal.Gen.run_main m g
  · hlo_run
    · exact (Cert.Kernel11Ideal.Value.final4 m c).symm
    · exact (Cert.Kernel11Ideal.Value.final5 m c).symm
    · exact (Cert.Kernel11Ideal.Value.final6 m c).symm

namespace Cert.Kernel12Ideal.Value

/-! ## The mixer's output projection -/

open Cert.Kernel12Ideal Cert.Kernel12Ideal.Gen Cert.Reference12Ideal.Read

variable (m : (ℓ : Loc nD τ sig) → Buf (Elt Ideal) ℓ)

abbrev W (c : Dev nD) := m ((c : Thread nD τ).loc main_arg0)
abbrev G (c : Dev nD) := m ((c : Thread nD τ).loc main_arg1)
abbrev M (c : Dev nD) := m ((c : Thread nD τ).loc main_arg2)
abbrev U (c : Dev nD) := m ((c : Thread nD τ).loc main_arg3)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The array's row of row `i` of grid point `t`'s block. -/
abbrev row (t : Fin cfg0.N) (i : Fin 512) : Fin 512 := i

theorem blk0 (c : Dev nD) (t : Fin cfg0.N) (i : Fin 512) (j : Fin 1024) : iblk m c 0 t (ix2 i j)
    = W m c (ix3 ⟨(row t i).val / 128, by omega⟩ ⟨(row t i).val % 128, by omega⟩ j) := by
  blk_point [iblk, V, idx t]

theorem blk1 (c : Dev nD) (t : Fin cfg0.N) (i : Fin 512) (j : Fin 1024) : iblk m c 1 t (ix2 i j)
    = G m c (ix3 ⟨(row t i).val / 128, by omega⟩ ⟨(row t i).val % 128, by omega⟩ j) := by
  blk_point [iblk, V, idx t]

theorem blk2 (c : Dev nD) (t : Fin cfg0.N) (i : Fin 512) (j : Fin 1024) : iblk m c 2 t (ix2 i j)
    = M m c (ix3 ⟨(row t i).val / 128, by omega⟩ ⟨(row t i).val % 128, by omega⟩ j) := by
  blk_point [iblk, V, idx t]

theorem blk3 (c : Dev nD) (t : Fin cfg0.N) (i : Fin 512) (j : Fin 1024) : iblk m c 3 t (ix2 i j)
    = U m c (ix3 ⟨(row t i).val / 128, by omega⟩ ⟨(row t i).val % 128, by omega⟩ j) := by
  blk_point [iblk, V, idx t]

theorem emb4 (t : Fin cfg0.N) (i : Fin 512) (j : Fin 1024) : ((cfg0.win 4).blk t).view.emb (ix2 i j) = ix2 (row t i) j := by
  blk_ext [idx t]

theorem emb5 (t : Fin cfg0.N) (i : Fin 512) (j : Fin 1024) : ((cfg0.win 5).blk t).view.emb (ix2 i j) = ix2 (row t i) j := by
  blk_ext [idx t]

theorem emb6 (t : Fin cfg0.N) (i : Fin 512) (j : Fin 1024) : ((cfg0.win 6).blk t).view.emb (ix2 i j) = ix2 (row t i) j := by
  blk_ext [idx t]

theorem final5 (c : Dev nD) : (dats m 0 c).arrAt 5 (cfgs 0).N = val_main_v25 (F := Ideal) (G m c) (M m c) := by
  refine (dats m 0 c).arrAt_eq_of_covers 5 _ (by decide +kernel) fun t _ y => ?_
  blk_simp
  rw [after0_5]
  frame_out
  obtain ⟨i, j, rfl⟩ : ∃ (i : Fin 512) (j : Fin 1024), y = ix2 i j := ⟨y 0, y 1, by blk_ext []⟩
  rw [emb5]
  pointwise [k0_pay2, k0_pay1, val_main_v25, val_main_v4, val_main_v3, val_main_v2, val_main_v1, val_main_v0, val_main_cst_0, val_main_cst]
  simp only [blk1, blk2]

theorem final6 (c : Dev nD) : (dats m 0 c).arrAt 6 (cfgs 0).N = val_main_v26 (F := Ideal) (G m c) (U m c) := by
  refine (dats m 0 c).arrAt_eq_of_covers 6 _ (by decide +kernel) fun t _ y => ?_
  blk_simp
  rw [after0_6]
  frame_out
  obtain ⟨i, j, rfl⟩ : ∃ (i : Fin 512) (j : Fin 1024), y = ix2 i j := ⟨y 0, y 1, by blk_ext []⟩
  rw [emb6]
  pointwise [k0_pay3, k0_pay1, val_main_v26, val_main_v10, val_main_v9, val_main_v8, val_main_v7, val_main_v6, val_main_v5, val_main_cst_2, val_main_cst_1]
  simp only [blk1, blk3]

theorem final4 (c : Dev nD) : (dats m 0 c).arrAt 4 (cfgs 0).N = val_main_v24 (F := Ideal) (W m c) (G m c) (M m c) (U m c) := by
  refine (dats m 0 c).arrAt_eq_of_covers 4 _ (by decide +kernel) fun t _ y => ?_
  blk_simp
  rw [after0_4]
  frame_out
  obtain ⟨i, j, rfl⟩ : ∃ (i : Fin 512) (j : Fin 1024), y = ix2 i j := ⟨y 0, y 1, by blk_ext []⟩
  rw [emb4]
  pointwise [k0_pay4, k0_pay3, k0_pay2, k0_pay1, val_main_v24, val_main_v23, val_main_v22, val_main_v21, val_main_v20, val_main_v19, val_main_v18, val_main_v17, val_main_v16, val_main_v15, val_main_v14, val_main_v13, val_main_v12, val_main_v11, val_main_cst_7, val_main_cst_6, val_main_cst_5, val_main_cst_4, val_main_cst_3, val_main_v4, val_main_v3, val_main_v2, val_main_v1, val_main_v0, val_main_cst_0, val_main_cst, val_main_v10, val_main_v9, val_main_v8, val_main_v7, val_main_v6, val_main_v5, val_main_cst_2, val_main_cst_1]
  simp only [blk0, blk1, blk2, blk3]

end Cert.Kernel12Ideal.Value

theorem Cert.algebraic12 : Cert.algebraic_Kernel12Ideal_Reference12Ideal
    (hKernel12Ideal := Cert.Kernel12Ideal.Gen.facts) (hReference12Ideal := Cert.Reference12Ideal.Gen.facts) := by
  pair_intro
  · run_from Cert.Kernel12Ideal.Gen.run_main m g
  · hlo_run
    · exact (Cert.Kernel12Ideal.Value.final4 m c).symm
    · exact (Cert.Kernel12Ideal.Value.final5 m c).symm
    · exact (Cert.Kernel12Ideal.Value.final6 m c).symm

namespace Cert.Kernel13Ideal.Value

/-! ## The feed-forward's first matrix -/

open Cert.Kernel13Ideal Cert.Kernel13Ideal.Gen Cert.Reference13Ideal.Read

variable (m : (ℓ : Loc nD τ sig) → Buf (Elt Ideal) ℓ)

abbrev W (c : Dev nD) := m ((c : Thread nD τ).loc main_arg0)
abbrev G (c : Dev nD) := m ((c : Thread nD τ).loc main_arg1)
abbrev M (c : Dev nD) := m ((c : Thread nD τ).loc main_arg2)
abbrev U (c : Dev nD) := m ((c : Thread nD τ).loc main_arg3)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The array's row of row `i` of grid point `t`'s block. -/
abbrev row (t : Fin cfg0.N) (i : Fin 512) : Fin 4096 := ⟨512 * t.val + i.val, by have := t.isLt; have : cfg0.N = 8 := rfl; omega⟩

theorem blk0 (c : Dev nD) (t : Fin cfg0.N) (i : Fin 512) (j : Fin 512) : iblk m c 0 t (ix2 i j)
    = W m c (ix3 ⟨(row t i).val / 1024, by omega⟩ ⟨(row t i).val % 1024, by omega⟩ j) := by
  blk_point [iblk, V, idx t]

theorem blk1 (c : Dev nD) (t : Fin cfg0.N) (i : Fin 512) (j : Fin 512) : iblk m c 1 t (ix2 i j)
    = G m c (ix3 ⟨(row t i).val / 1024, by omega⟩ ⟨(row t i).val % 1024, by omega⟩ j) := by
  blk_point [iblk, V, idx t]

theorem blk2 (c : Dev nD) (t : Fin cfg0.N) (i : Fin 512) (j : Fin 512) : iblk m c 2 t (ix2 i j)
    = M m c (ix3 ⟨(row t i).val / 1024, by omega⟩ ⟨(row t i).val % 1024, by omega⟩ j) := by
  blk_point [iblk, V, idx t]

theorem blk3 (c : Dev nD) (t : Fin cfg0.N) (i : Fin 512) (j : Fin 512) : iblk m c 3 t (ix2 i j)
    = U m c (ix3 ⟨(row t i).val / 1024, by omega⟩ ⟨(row t i).val % 1024, by omega⟩ j) := by
  blk_point [iblk, V, idx t]

theorem emb4 (t : Fin cfg0.N) (i : Fin 512) (j : Fin 512) : ((cfg0.win 4).blk t).view.emb (ix2 i j) = ix2 (row t i) j := by
  blk_ext [idx t]

theorem emb5 (t : Fin cfg0.N) (i : Fin 512) (j : Fin 512) : ((cfg0.win 5).blk t).view.emb (ix2 i j) = ix2 (row t i) j := by
  blk_ext [idx t]

theorem emb6 (t : Fin cfg0.N) (i : Fin 512) (j : Fin 512) : ((cfg0.win 6).blk t).view.emb (ix2 i j) = ix2 (row t i) j := by
  blk_ext [idx t]

theorem final5 (c : Dev nD) : (dats m 0 c).arrAt 5 (cfgs 0).N = val_main_v25 (F := Ideal) (G m c) (M m c) := by
  refine (dats m 0 c).arrAt_eq_of_covers 5 _ (by decide +kernel) fun t _ y => ?_
  blk_simp
  rw [after0_5]
  frame_out
  obtain ⟨i, j, rfl⟩ : ∃ (i : Fin 512) (j : Fin 512), y = ix2 i j := ⟨y 0, y 1, by blk_ext []⟩
  rw [emb5]
  pointwise [k0_pay2, k0_pay1, val_main_v25, val_main_v4, val_main_v3, val_main_v2, val_main_v1, val_main_v0, val_main_cst_0, val_main_cst]
  simp only [blk1, blk2]

theorem final6 (c : Dev nD) : (dats m 0 c).arrAt 6 (cfgs 0).N = val_main_v26 (F := Ideal) (G m c) (U m c) := by
  refine (dats m 0 c).arrAt_eq_of_covers 6 _ (by decide +kernel) fun t _ y => ?_
  blk_simp
  rw [after0_6]
  frame_out
  obtain ⟨i, j, rfl⟩ : ∃ (i : Fin 512) (j : Fin 512), y = ix2 i j := ⟨y 0, y 1, by blk_ext []⟩
  rw [emb6]
  pointwise [k0_pay3, k0_pay1, val_main_v26, val_main_v10, val_main_v9, val_main_v8, val_main_v7, val_main_v6, val_main_v5, val_main_cst_2, val_main_cst_1]
  simp only [blk1, blk3]

theorem final4 (c : Dev nD) : (dats m 0 c).arrAt 4 (cfgs 0).N = val_main_v24 (F := Ideal) (W m c) (G m c) (M m c) (U m c) := by
  refine (dats m 0 c).arrAt_eq_of_covers 4 _ (by decide +kernel) fun t _ y => ?_
  blk_simp
  rw [after0_4]
  frame_out
  obtain ⟨i, j, rfl⟩ : ∃ (i : Fin 512) (j : Fin 512), y = ix2 i j := ⟨y 0, y 1, by blk_ext []⟩
  rw [emb4]
  pointwise [k0_pay4, k0_pay3, k0_pay2, k0_pay1, val_main_v24, val_main_v23, val_main_v22, val_main_v21, val_main_v20, val_main_v19, val_main_v18, val_main_v17, val_main_v16, val_main_v15, val_main_v14, val_main_v13, val_main_v12, val_main_v11, val_main_cst_7, val_main_cst_6, val_main_cst_5, val_main_cst_4, val_main_cst_3, val_main_v4, val_main_v3, val_main_v2, val_main_v1, val_main_v0, val_main_cst_0, val_main_cst, val_main_v10, val_main_v9, val_main_v8, val_main_v7, val_main_v6, val_main_v5, val_main_cst_2, val_main_cst_1]
  simp only [blk0, blk1, blk2, blk3]

end Cert.Kernel13Ideal.Value

theorem Cert.algebraic13 : Cert.algebraic_Kernel13Ideal_Reference13Ideal
    (hKernel13Ideal := Cert.Kernel13Ideal.Gen.facts) (hReference13Ideal := Cert.Reference13Ideal.Gen.facts) := by
  pair_intro
  · run_from Cert.Kernel13Ideal.Gen.run_main m g
  · hlo_run
    · exact (Cert.Kernel13Ideal.Value.final4 m c).symm
    · exact (Cert.Kernel13Ideal.Value.final5 m c).symm
    · exact (Cert.Kernel13Ideal.Value.final6 m c).symm

namespace Cert.Kernel14Ideal.Value

/-! ## The feed-forward's second matrix -/

open Cert.Kernel14Ideal Cert.Kernel14Ideal.Gen Cert.Reference14Ideal.Read

variable (m : (ℓ : Loc nD τ sig) → Buf (Elt Ideal) ℓ)

abbrev W (c : Dev nD) := m ((c : Thread nD τ).loc main_arg0)
abbrev G (c : Dev nD) := m ((c : Thread nD τ).loc main_arg1)
abbrev M (c : Dev nD) := m ((c : Thread nD τ).loc main_arg2)
abbrev U (c : Dev nD) := m ((c : Thread nD τ).loc main_arg3)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The array's row of row `i` of grid point `t`'s block. -/
abbrev row (t : Fin cfg0.N) (i : Fin 512) : Fin 2048 := ⟨512 * t.val + i.val, by have := t.isLt; have : cfg0.N = 4 := rfl; omega⟩

theorem blk0 (c : Dev nD) (t : Fin cfg0.N) (i : Fin 512) (j : Fin 1024) : iblk m c 0 t (ix2 i j)
    = W m c (ix3 ⟨(row t i).val / 512, by omega⟩ ⟨(row t i).val % 512, by omega⟩ j) := by
  blk_point [iblk, V, idx t]

theorem blk1 (c : Dev nD) (t : Fin cfg0.N) (i : Fin 512) (j : Fin 1024) : iblk m c 1 t (ix2 i j)
    = G m c (ix3 ⟨(row t i).val / 512, by omega⟩ ⟨(row t i).val % 512, by omega⟩ j) := by
  blk_point [iblk, V, idx t]

theorem blk2 (c : Dev nD) (t : Fin cfg0.N) (i : Fin 512) (j : Fin 1024) : iblk m c 2 t (ix2 i j)
    = M m c (ix3 ⟨(row t i).val / 512, by omega⟩ ⟨(row t i).val % 512, by omega⟩ j) := by
  blk_point [iblk, V, idx t]

theorem blk3 (c : Dev nD) (t : Fin cfg0.N) (i : Fin 512) (j : Fin 1024) : iblk m c 3 t (ix2 i j)
    = U m c (ix3 ⟨(row t i).val / 512, by omega⟩ ⟨(row t i).val % 512, by omega⟩ j) := by
  blk_point [iblk, V, idx t]

theorem emb4 (t : Fin cfg0.N) (i : Fin 512) (j : Fin 1024) : ((cfg0.win 4).blk t).view.emb (ix2 i j) = ix2 (row t i) j := by
  blk_ext [idx t]

theorem emb5 (t : Fin cfg0.N) (i : Fin 512) (j : Fin 1024) : ((cfg0.win 5).blk t).view.emb (ix2 i j) = ix2 (row t i) j := by
  blk_ext [idx t]

theorem emb6 (t : Fin cfg0.N) (i : Fin 512) (j : Fin 1024) : ((cfg0.win 6).blk t).view.emb (ix2 i j) = ix2 (row t i) j := by
  blk_ext [idx t]

theorem final5 (c : Dev nD) : (dats m 0 c).arrAt 5 (cfgs 0).N = val_main_v25 (F := Ideal) (G m c) (M m c) := by
  refine (dats m 0 c).arrAt_eq_of_covers 5 _ (by decide +kernel) fun t _ y => ?_
  blk_simp
  rw [after0_5]
  frame_out
  obtain ⟨i, j, rfl⟩ : ∃ (i : Fin 512) (j : Fin 1024), y = ix2 i j := ⟨y 0, y 1, by blk_ext []⟩
  rw [emb5]
  pointwise [k0_pay2, k0_pay1, val_main_v25, val_main_v4, val_main_v3, val_main_v2, val_main_v1, val_main_v0, val_main_cst_0, val_main_cst]
  simp only [blk1, blk2]

theorem final6 (c : Dev nD) : (dats m 0 c).arrAt 6 (cfgs 0).N = val_main_v26 (F := Ideal) (G m c) (U m c) := by
  refine (dats m 0 c).arrAt_eq_of_covers 6 _ (by decide +kernel) fun t _ y => ?_
  blk_simp
  rw [after0_6]
  frame_out
  obtain ⟨i, j, rfl⟩ : ∃ (i : Fin 512) (j : Fin 1024), y = ix2 i j := ⟨y 0, y 1, by blk_ext []⟩
  rw [emb6]
  pointwise [k0_pay3, k0_pay1, val_main_v26, val_main_v10, val_main_v9, val_main_v8, val_main_v7, val_main_v6, val_main_v5, val_main_cst_2, val_main_cst_1]
  simp only [blk1, blk3]

theorem final4 (c : Dev nD) : (dats m 0 c).arrAt 4 (cfgs 0).N = val_main_v24 (F := Ideal) (W m c) (G m c) (M m c) (U m c) := by
  refine (dats m 0 c).arrAt_eq_of_covers 4 _ (by decide +kernel) fun t _ y => ?_
  blk_simp
  rw [after0_4]
  frame_out
  obtain ⟨i, j, rfl⟩ : ∃ (i : Fin 512) (j : Fin 1024), y = ix2 i j := ⟨y 0, y 1, by blk_ext []⟩
  rw [emb4]
  pointwise [k0_pay4, k0_pay3, k0_pay2, k0_pay1, val_main_v24, val_main_v23, val_main_v22, val_main_v21, val_main_v20, val_main_v19, val_main_v18, val_main_v17, val_main_v16, val_main_v15, val_main_v14, val_main_v13, val_main_v12, val_main_v11, val_main_cst_7, val_main_cst_6, val_main_cst_5, val_main_cst_4, val_main_cst_3, val_main_v4, val_main_v3, val_main_v2, val_main_v1, val_main_v0, val_main_cst_0, val_main_cst, val_main_v10, val_main_v9, val_main_v8, val_main_v7, val_main_v6, val_main_v5, val_main_cst_2, val_main_cst_1]
  simp only [blk0, blk1, blk2, blk3]

end Cert.Kernel14Ideal.Value

theorem Cert.algebraic14 : Cert.algebraic_Kernel14Ideal_Reference14Ideal
    (hKernel14Ideal := Cert.Kernel14Ideal.Gen.facts) (hReference14Ideal := Cert.Reference14Ideal.Gen.facts) := by
  pair_intro
  · run_from Cert.Kernel14Ideal.Gen.run_main m g
  · hlo_run
    · exact (Cert.Kernel14Ideal.Value.final4 m c).symm
    · exact (Cert.Kernel14Ideal.Value.final5 m c).symm
    · exact (Cert.Kernel14Ideal.Value.final6 m c).symm

end
-- ==== Proof.AttnOff.lean ====
module

public import proofs.«01_k».proof.Proof.Gen.Kernel2Ideal.Skeleton
public import proofs.«01_k».proof.Proof.Gen.Kernel2Ideal.Frame

@[expose] public section

/-! # The key tiles a query tile meets

The query tile `i` meets the key tiles `i - 2`, `i - 1`, `i` (the first three at the left edge): the
accumulators' slots, in closed form. -/

namespace Cert.Kernel2Ideal.Attn

open Idealize.ShloMosaic Idealize.ShloMosaic.Tactic

theorem off2_eq_0 : ∀ i : grid0.Coords, k0_off2 i 0#32 = ![(i 1).val - 2, 0, 0] := by decide +kernel
theorem off2_eq_1 : ∀ i : grid0.Coords, k0_off2 i 1#32 = ![(i 1).val - 2 + 1, 0, 0] := by decide +kernel
theorem off2_eq_2 : ∀ i : grid0.Coords, k0_off2 i 2#32 = ![(i 1).val - 2 + 2, 0, 0] := by decide +kernel

instance (i : grid0.Coords) : ClosedOff (k0_off2 i 0#32) := ⟨_, off2_eq_0 i⟩
instance (i : grid0.Coords) : ClosedOff (k0_off2 i 1#32) := ⟨_, off2_eq_1 i⟩
instance (i : grid0.Coords) : ClosedOff (k0_off2 i 2#32) := ⟨_, off2_eq_2 i⟩

/-- The first query tile, one of the first three, and the last. -/
abbrev cond0 (i : grid0.Coords) : Prop := k0_cond1 i = 1#1
abbrev cond1 (i : grid0.Coords) : Prop := (Scalar.cmpi .ne (Scalar.extui (Scalar.cmpi .slt (BitVec.ofNat 32 (i 1).val) 3#32)) 0#32) = 1#1
abbrev cond2 (i : grid0.Coords) : Prop := k0_cond3 i = 1#1

end Cert.Kernel2Ideal.Attn
-- ==== Proof.AttnRunA.lean ====
module

public import proofs.«01_k».proof.Proof.Gen.Kernel2Ideal.Skeleton
public import proofs.«01_k».proof.Proof.AttnOff

@[expose] public section

set_option maxRecDepth 16384

noncomputable section

namespace Cert.Kernel2Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

set_option maxHeartbeats 2000000 in
theorem runA (c : Dev nD) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .f32) (harg5 : arg5.IsWhole) (arg6 : Memref sig .tc .vmem S4096x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x2x256x768 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .bf16) (harg13 : arg13.IsWhole) (arg14 : Memref sig .tc .vmem S4096x128 .bf16) (harg14 : arg14.IsWhole) (arg15 : Memref sig .tc .vmem S4096x128 .bf16) (harg15 : arg15.IsWhole) (arg16 : Memref sig .tc .vmem S1x2x256x768 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S16x128x256 .f32) (harg19 : arg19.IsWhole) (arg20 : Memref sig .tc .vmem S16x128x256 .f32) (harg20 : arg20.IsWhole) (arg21 : Memref sig .tc .vmem S2x256x768 .f32) (harg21 : arg21.IsWhole) (arg22 : Memref sig .tc .vmem S2x256x768 .f32) (harg22 : arg22.IsWhole) (arg23 : Memref sig .tc .vmem S2x256x768 .bf16) (harg23 : arg23.IsWhole) (arg24 : Memref sig .tc .vmem S2x256x768 .bf16) (harg24 : arg24.IsWhole) (arg25 : Memref sig .tc .vmem S256x128 .f32) (harg25 : arg25.IsWhole) (arg26 : Memref sig .tc .vmem S256x128 .f32) (harg26 : arg26.IsWhole) (hc0 : cond0 i) (hc1 : cond1 i) (hc2 : ¬cond2 i)
    (x0 : Vec F S256x128 .bf16) (x1 : Vec F S4096x128 .bf16) (x2 : Vec F S4096x128 .bf16) (x3 : Vec F S256x128 .f32) (x4 : Vec F S4096x128 .f32) (x5 : Vec F S1x1x128 .f32) (x6 : Vec F S1x1x128 .f32) (x7 : Vec F S1x1x2x256x768 .f32) (x8 : Vec F S256x128 .f32) (x9 : Vec F S256x128 .f32) (x10 : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
    simp only [cc0_attn_bwd_eq_skeleton]; unfold cc0_attn_bwd_skel
    simp only [k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    iexists _, _; isplitr; swap; · iexact H24
    ipureintro; rfl

end Cert.Kernel2Ideal.Attn

end
-- ==== Proof.AttnRunB.lean ====
module

public import proofs.«01_k».proof.Proof.Gen.Kernel2Ideal.Skeleton
public import proofs.«01_k».proof.Proof.AttnOff

@[expose] public section

set_option maxRecDepth 16384

noncomputable section

namespace Cert.Kernel2Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

set_option maxHeartbeats 2000000 in
theorem runB (c : Dev nD) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .f32) (harg5 : arg5.IsWhole) (arg6 : Memref sig .tc .vmem S4096x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x2x256x768 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .bf16) (harg13 : arg13.IsWhole) (arg14 : Memref sig .tc .vmem S4096x128 .bf16) (harg14 : arg14.IsWhole) (arg15 : Memref sig .tc .vmem S4096x128 .bf16) (harg15 : arg15.IsWhole) (arg16 : Memref sig .tc .vmem S1x2x256x768 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S16x128x256 .f32) (harg19 : arg19.IsWhole) (arg20 : Memref sig .tc .vmem S16x128x256 .f32) (harg20 : arg20.IsWhole) (arg21 : Memref sig .tc .vmem S2x256x768 .f32) (harg21 : arg21.IsWhole) (arg22 : Memref sig .tc .vmem S2x256x768 .f32) (harg22 : arg22.IsWhole) (arg23 : Memref sig .tc .vmem S2x256x768 .bf16) (harg23 : arg23.IsWhole) (arg24 : Memref sig .tc .vmem S2x256x768 .bf16) (harg24 : arg24.IsWhole) (arg25 : Memref sig .tc .vmem S256x128 .f32) (harg25 : arg25.IsWhole) (arg26 : Memref sig .tc .vmem S256x128 .f32) (harg26 : arg26.IsWhole) (hc0 : ¬cond0 i) (hc1 : cond1 i) (hc2 : ¬cond2 i)
    (x0 : Vec F S256x128 .bf16) (x1 : Vec F S4096x128 .bf16) (x2 : Vec F S4096x128 .bf16) (x3 : Vec F S256x128 .f32) (x4 : Vec F S4096x128 .f32) (x5 : Vec F S1x1x128 .f32) (x6 : Vec F S1x1x128 .f32) (x7 : Vec F S1x1x2x256x768 .f32) (x8 : Vec F S256x128 .f32) (x9 : Vec F S256x128 .f32) (x10 : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
    simp only [cc0_attn_bwd_eq_skeleton]; unfold cc0_attn_bwd_skel
    simp only [k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    iexists _, _; isplitr; swap; · iexact H24
    ipureintro; rfl

end Cert.Kernel2Ideal.Attn

end
-- ==== Proof.AttnRunC.lean ====
module

public import proofs.«01_k».proof.Proof.Gen.Kernel2Ideal.Skeleton
public import proofs.«01_k».proof.Proof.AttnOff

@[expose] public section

set_option maxRecDepth 16384

noncomputable section

namespace Cert.Kernel2Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

set_option maxHeartbeats 2000000 in
theorem runC (c : Dev nD) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .f32) (harg5 : arg5.IsWhole) (arg6 : Memref sig .tc .vmem S4096x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x2x256x768 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .bf16) (harg13 : arg13.IsWhole) (arg14 : Memref sig .tc .vmem S4096x128 .bf16) (harg14 : arg14.IsWhole) (arg15 : Memref sig .tc .vmem S4096x128 .bf16) (harg15 : arg15.IsWhole) (arg16 : Memref sig .tc .vmem S1x2x256x768 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S16x128x256 .f32) (harg19 : arg19.IsWhole) (arg20 : Memref sig .tc .vmem S16x128x256 .f32) (harg20 : arg20.IsWhole) (arg21 : Memref sig .tc .vmem S2x256x768 .f32) (harg21 : arg21.IsWhole) (arg22 : Memref sig .tc .vmem S2x256x768 .f32) (harg22 : arg22.IsWhole) (arg23 : Memref sig .tc .vmem S2x256x768 .bf16) (harg23 : arg23.IsWhole) (arg24 : Memref sig .tc .vmem S2x256x768 .bf16) (harg24 : arg24.IsWhole) (arg25 : Memref sig .tc .vmem S256x128 .f32) (harg25 : arg25.IsWhole) (arg26 : Memref sig .tc .vmem S256x128 .f32) (harg26 : arg26.IsWhole) (hc0 : ¬cond0 i) (hc1 : ¬cond1 i) (hc2 : ¬cond2 i)
    (x0 : Vec F S256x128 .bf16) (x1 : Vec F S4096x128 .bf16) (x2 : Vec F S4096x128 .bf16) (x3 : Vec F S256x128 .f32) (x4 : Vec F S4096x128 .f32) (x5 : Vec F S1x1x128 .f32) (x6 : Vec F S1x1x128 .f32) (x7 : Vec F S1x1x2x256x768 .f32) (x8 : Vec F S256x128 .f32) (x9 : Vec F S256x128 .f32) (x10 : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
    simp only [cc0_attn_bwd_eq_skeleton]; unfold cc0_attn_bwd_skel
    simp only [k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    iexists _, _; isplitr; swap; · iexact H24
    ipureintro; rfl

end Cert.Kernel2Ideal.Attn

end
-- ==== Proof.AttnRunD.lean ====
module

public import proofs.«01_k».proof.Proof.Gen.Kernel2Ideal.Skeleton
public import proofs.«01_k».proof.Proof.AttnOff

@[expose] public section

set_option maxRecDepth 16384

noncomputable section

namespace Cert.Kernel2Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

set_option maxHeartbeats 2000000 in
theorem runD (c : Dev nD) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .f32) (harg5 : arg5.IsWhole) (arg6 : Memref sig .tc .vmem S4096x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x2x256x768 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .bf16) (harg13 : arg13.IsWhole) (arg14 : Memref sig .tc .vmem S4096x128 .bf16) (harg14 : arg14.IsWhole) (arg15 : Memref sig .tc .vmem S4096x128 .bf16) (harg15 : arg15.IsWhole) (arg16 : Memref sig .tc .vmem S1x2x256x768 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S16x128x256 .f32) (harg19 : arg19.IsWhole) (arg20 : Memref sig .tc .vmem S16x128x256 .f32) (harg20 : arg20.IsWhole) (arg21 : Memref sig .tc .vmem S2x256x768 .f32) (harg21 : arg21.IsWhole) (arg22 : Memref sig .tc .vmem S2x256x768 .f32) (harg22 : arg22.IsWhole) (arg23 : Memref sig .tc .vmem S2x256x768 .bf16) (harg23 : arg23.IsWhole) (arg24 : Memref sig .tc .vmem S2x256x768 .bf16) (harg24 : arg24.IsWhole) (arg25 : Memref sig .tc .vmem S256x128 .f32) (harg25 : arg25.IsWhole) (arg26 : Memref sig .tc .vmem S256x128 .f32) (harg26 : arg26.IsWhole) (hc0 : ¬cond0 i) (hc1 : ¬cond1 i) (hc2 : cond2 i)
    (x0 : Vec F S256x128 .bf16) (x1 : Vec F S4096x128 .bf16) (x2 : Vec F S4096x128 .bf16) (x3 : Vec F S256x128 .f32) (x4 : Vec F S4096x128 .f32) (x5 : Vec F S1x1x128 .f32) (x6 : Vec F S1x1x128 .f32) (x7 : Vec F S1x1x2x256x768 .f32) (x8 : Vec F S256x128 .f32) (x9 : Vec F S256x128 .f32) (x10 : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
    simp only [cc0_attn_bwd_eq_skeleton]; unfold cc0_attn_bwd_skel
    simp only [k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    iexists _, _; isplitr; swap; · iexact H24
    ipureintro; rfl

end Cert.Kernel2Ideal.Attn

end
-- ==== Proof.AttnFrame.lean ====
module

public import proofs.«01_k».proof.Proof.AttnRunA
public import proofs.«01_k».proof.Proof.AttnRunB
public import proofs.«01_k».proof.Proof.AttnRunC
public import proofs.«01_k».proof.Proof.AttnRunD
public import proofs.«01_k».proof.Proof.Gen.Kernel2Ideal.Frame
public import Idealize.ShloMosaic.Lib.Claim

@[expose] public section

set_option maxRecDepth 16384

/-! # The frame of the attention's backward call

The body runs from any contents of its outputs and accumulators (`run`, the four combinations of its branches), so that
the outputs are named nowhere: the arguments end as they began. -/

noncomputable section

namespace Cert.Kernel2Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

theorem hcond0 : ∀ t : Fin cfg0.N, cond0 (grid0.coords t) ↔ t.val % 16 = 0 :=
  (by decide +kernel : ∀ t : Fin grid0.N, cond0 (grid0.coords t) ↔ t.val % 16 = 0)
theorem hcond1 : ∀ t : Fin cfg0.N, cond1 (grid0.coords t) ↔ t.val % 16 < 3 :=
  (by decide +kernel : ∀ t : Fin grid0.N, cond1 (grid0.coords t) ↔ t.val % 16 < 3)
theorem hcond2 : ∀ t : Fin cfg0.N, cond2 (grid0.coords t) ↔ t.val % 16 = 15 :=
  (by decide +kernel : ∀ t : Fin grid0.N, cond2 (grid0.coords t) ↔ t.val % 16 = 15)

/-- The body at any point of the grid: the first query tile, the two after it, those in the middle, the last. -/
theorem run (t : Fin cfg0.N) (c : Dev nD) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .f32) (harg5 : arg5.IsWhole) (arg6 : Memref sig .tc .vmem S4096x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x2x256x768 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .bf16) (harg13 : arg13.IsWhole) (arg14 : Memref sig .tc .vmem S4096x128 .bf16) (harg14 : arg14.IsWhole) (arg15 : Memref sig .tc .vmem S4096x128 .bf16) (harg15 : arg15.IsWhole) (arg16 : Memref sig .tc .vmem S1x2x256x768 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S16x128x256 .f32) (harg19 : arg19.IsWhole) (arg20 : Memref sig .tc .vmem S16x128x256 .f32) (harg20 : arg20.IsWhole) (arg21 : Memref sig .tc .vmem S2x256x768 .f32) (harg21 : arg21.IsWhole) (arg22 : Memref sig .tc .vmem S2x256x768 .f32) (harg22 : arg22.IsWhole) (arg23 : Memref sig .tc .vmem S2x256x768 .bf16) (harg23 : arg23.IsWhole) (arg24 : Memref sig .tc .vmem S2x256x768 .bf16) (harg24 : arg24.IsWhole) (arg25 : Memref sig .tc .vmem S256x128 .f32) (harg25 : arg25.IsWhole) (arg26 : Memref sig .tc .vmem S256x128 .f32) (harg26 : arg26.IsWhole)
    (x0 : Vec F S256x128 .bf16) (x1 : Vec F S4096x128 .bf16) (x2 : Vec F S4096x128 .bf16) (x3 : Vec F S256x128 .f32) (x4 : Vec F S4096x128 .f32) (x5 : Vec F S1x1x128 .f32) (x6 : Vec F S1x1x128 .f32) (x7 : Vec F S1x1x2x256x768 .f32) (x8 : Vec F S256x128 .f32) (x9 : Vec F S256x128 .f32) (x10 : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
      ⊢ wp frame (wpE (defs₀ (F := F)) Variants.none c none) E (cc0_attn_bwd (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  by_cases h0 : t.val % 16 = 0
  · exact runA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ((hcond0 t).mpr h0) ((hcond1 t).mpr (by omega)) (fun h => absurd ((hcond2 t).mp h) (by omega)) x0 x1 x2 x3 x4 x5 x6 x7 x8 x9 x10 E K
  · by_cases h1 : t.val % 16 < 3
    · exact runB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (fun h => h0 ((hcond0 t).mp h)) ((hcond1 t).mpr h1) (fun h => absurd ((hcond2 t).mp h) (by omega)) x0 x1 x2 x3 x4 x5 x6 x7 x8 x9 x10 E K
    · by_cases h2 : t.val % 16 = 15
      · exact runD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (fun h => h0 ((hcond0 t).mp h)) (fun h => h1 ((hcond1 t).mp h)) ((hcond2 t).mpr h2) x0 x1 x2 x3 x4 x5 x6 x7 x8 x9 x10 E K
      · exact runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (fun h => h0 ((hcond0 t).mp h)) (fun h => h1 ((hcond1 t).mp h)) (fun h => h2 ((hcond2 t).mp h)) x0 x1 x2 x3 x4 x5 x6 x7 x8 x9 x10 E K

variable (m : (ℓ : Loc nD τ sig) → Buf (Elt F) ℓ) (ρ : Dev nD → PrngReg)

/-- The outputs, whose contents the frame does not name. -/
def forgets : Fin 17 → Bool := fun w => 11 ≤ w.val

/-- The pipeline's proof data: each input's buffer holds its block at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (Nat.not_lt.mpr (Nat.le_add_left 17 _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

theorem leaves_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (st0_7 t) fullShare (iblk m c 7 t) := by
  unfold Dat.leavesExact; rw [show cfg0.idle 7 (grid0.coords t) = false from rfl, after_7]
theorem leaves_8 (c : Dev nD) (t : Fin cfg0.N) : (dats m 0 c).leavesExact 8 t = owns (c : Thread nD τ) (st0_8 t) fullShare (iblk m c 8 t) := by
  unfold Dat.leavesExact; rw [show cfg0.idle 8 (grid0.coords t) = false from rfl, after_8]
theorem leaves_9 (c : Dev nD) (t : Fin cfg0.N) : (dats m 0 c).leavesExact 9 t = owns (c : Thread nD τ) (st0_9 t) fullShare (iblk m c 9 t) := by
  unfold Dat.leavesExact; rw [show cfg0.idle 9 (grid0.coords t) = false from rfl, after_9]
theorem leaves_10 (c : Dev nD) (t : Fin cfg0.N) : (dats m 0 c).leavesExact 10 t = owns (c : Thread nD τ) (st0_10 t) fullShare (iblk m c 10 t) := by
  unfold Dat.leavesExact; rw [show cfg0.idle 10 (grid0.coords t) = false from rfl, after_10]

/-- The region's invariant: the accumulators, at some contents. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d)
    ∗ (∃ d, owns (c : Thread nD τ) (st0_16 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d)
    ∗ (∃ d, owns (c : Thread nD τ) (st0_16 t) fullShare d))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, leaves_0, leaves_1, leaves_2, leaves_3, leaves_4, leaves_5, leaves_6, leaves_7, leaves_8, leaves_9, leaves_10]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA_eq]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (run t c _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, H13, H14, H15, H16, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

/-- The frame over any float values: the arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(Pipeline.RDat.FramePost.arr_in h.1 c 2 rfl).trans ((A_eq m c 2).trans (V_main_arg0 m c)),
      (Pipeline.RDat.FramePost.arr_in h.1 c 4 rfl).trans ((A_eq m c 4).trans (V_main_arg1 m c)),
      (Pipeline.RDat.FramePost.arr_in h.1 c 8 rfl).trans ((A_eq m c 8).trans (V_main_arg2 m c)),
      (Pipeline.RDat.FramePost.arr_in h.1 c 9 rfl).trans ((A_eq m c 9).trans (V_main_arg3 m c)),
      (Pipeline.RDat.FramePost.arr_in h.1 c 10 rfl).trans ((A_eq m c 10).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c)),
      (Pipeline.RDat.FramePost.arr_in h.1 c 7 rfl).trans ((A_eq m c 7).trans (V_main_arg7 m c))⟩, h.2⟩) (run_main_quiescent m ρ)

end Cert.Kernel2Ideal.Attn

end
-- ==== Proof.SmallFrame.lean ====
module

public import proofs.«01_k».proof.Proof.Gen.Kernel15Ideal.Launch
public import proofs.«01_k».proof.Proof.Gen.Kernel15Ideal.Skeleton
public import proofs.«01_k».proof.Proof.Gen.Kernel15Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

/-! # The frame of the optimiser's call on the small parameters

Windows 0 to 7 are the eight weights, 8 to 15 their gradients, 16 to 23 and 24 to 31 the two moments; the outputs are the
steps (32 to 39) and the new moments (40 to 47, 48 to 55), each stored whole and once. -/

noncomputable section

namespace Cert.Kernel15Ideal.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel15Ideal.Gen

variable {F : FTy → Type} [FloatOps F]

local notation "𝕄" => MT nD τ sig Unit (Elt F) ℕ (UR sig nD τ) ℕ

/-! ## What the body stores -/

abbrev r0 : Rect S4x1024 := Rect.unit (s := S4x1024) ![0, 0] S4x1024.size inb_S4x1024_S4x1024_0_0
abbrev r1 : Rect S4x64 := Rect.unit (s := S4x64) ![0, 0] S4x64.size inb_S4x64_S4x64_0_0
abbrev r2 : Rect S4x8x257 := Rect.unit (s := S4x8x257) ![0, 0, 0] S4x8x257.size inb_S4x8x257_S4x8x257_0_0_0
abbrev r3 : Rect S4x3x32 := Rect.unit (s := S4x3x32) ![0, 0, 0] S4x3x32.size inb_S4x3x32_S4x3x32_0_0_0
abbrev r4 : Rect S4x4x64x64 := Rect.unit (s := S4x4x64x64) ![0, 0, 0, 0] S4x4x64x64.size inb_S4x4x64x64_S4x4x64x64_0_0_0_0
abbrev r5 : Rect S4x256 := Rect.unit (s := S4x256) ![0, 0] S4x256.size inb_S4x256_S4x256_0_0

theorem cover0 (p : Vec F S4x1024 .f32) (y : S4x1024.Idx) : ∃ pc ∈ ([⟨r0, p⟩] : List (View.Piece (Elt F) S4x1024 .f32)), y ∈ pc.1.set :=
  View.cover_of_tiled [⟨r0, p⟩] S4x1024.size (by rfl) y
theorem cover1 (p : Vec F S4x64 .f32) (y : S4x64.Idx) : ∃ pc ∈ ([⟨r1, p⟩] : List (View.Piece (Elt F) S4x64 .f32)), y ∈ pc.1.set :=
  View.cover_of_tiled [⟨r1, p⟩] S4x64.size (by rfl) y
theorem cover2 (p : Vec F S4x8x257 .f32) (y : S4x8x257.Idx) : ∃ pc ∈ ([⟨r2, p⟩] : List (View.Piece (Elt F) S4x8x257 .f32)), y ∈ pc.1.set :=
  View.cover_of_tiled [⟨r2, p⟩] S4x8x257.size (by rfl) y
theorem cover3 (p : Vec F S4x3x32 .f32) (y : S4x3x32.Idx) : ∃ pc ∈ ([⟨r3, p⟩] : List (View.Piece (Elt F) S4x3x32 .f32)), y ∈ pc.1.set :=
  View.cover_of_tiled [⟨r3, p⟩] S4x3x32.size (by rfl) y
theorem cover4 (p : Vec F S4x4x64x64 .f32) (y : S4x4x64x64.Idx) : ∃ pc ∈ ([⟨r4, p⟩] : List (View.Piece (Elt F) S4x4x64x64 .f32)), y ∈ pc.1.set :=
  View.cover_of_tiled [⟨r4, p⟩] S4x4x64x64.size (by rfl) y
theorem cover5 (p : Vec F S4x256 .f32) (y : S4x256.Idx) : ∃ pc ∈ ([⟨r5, p⟩] : List (View.Piece (Elt F) S4x256 .f32)), y ∈ pc.1.set :=
  View.cover_of_tiled [⟨r5, p⟩] S4x256.size (by rfl) y

def out32 (x0 : Vec F S4x1024 .f32) (x8 : Vec F S4x1024 .f32) (x16 : Vec F S4x1024 .f32) (x24 : Vec F S4x1024 .f32) : Vec F S4x1024 .f32 :=
  View.canon [⟨r0, k0_pay3 (View.ld x8 r0) (View.ld x16 r0) (View.ld x24 r0) (View.ld x0 r0)⟩]
def out33 (x1 : Vec F S4x64 .f32) (x9 : Vec F S4x64 .f32) (x17 : Vec F S4x64 .f32) (x25 : Vec F S4x64 .f32) : Vec F S4x64 .f32 :=
  View.canon [⟨r1, k0_pay6 (View.ld x9 r1) (View.ld x17 r1) (View.ld x25 r1) (View.ld x1 r1)⟩]
def out34 (x2 : Vec F S4x64 .f32) (x10 : Vec F S4x64 .f32) (x18 : Vec F S4x64 .f32) (x26 : Vec F S4x64 .f32) : Vec F S4x64 .f32 :=
  View.canon [⟨r1, k0_pay9 (View.ld x10 r1) (View.ld x18 r1) (View.ld x26 r1) (View.ld x2 r1)⟩]
def out35 (x3 : Vec F S4x8x257 .f32) (x11 : Vec F S4x8x257 .f32) (x19 : Vec F S4x8x257 .f32) (x27 : Vec F S4x8x257 .f32) : Vec F S4x8x257 .f32 :=
  View.canon [⟨r2, k0_pay12 (View.ld x11 r2) (View.ld x19 r2) (Scalar.ofBits .f32 0x3F666666#32) (View.ld x27 r2) (View.ld x3 r2)⟩]
def out36 (x4 : Vec F S4x3x32 .f32) (x12 : Vec F S4x3x32 .f32) (x20 : Vec F S4x3x32 .f32) (x28 : Vec F S4x3x32 .f32) : Vec F S4x3x32 .f32 :=
  View.canon [⟨r3, k0_pay15 (View.ld x12 r3) (View.ld x20 r3) (View.ld x28 r3) (View.ld x4 r3)⟩]
def out37 (x5 : Vec F S4x4x64x64 .f32) (x13 : Vec F S4x4x64x64 .f32) (x21 : Vec F S4x4x64x64 .f32) (x29 : Vec F S4x4x64x64 .f32) : Vec F S4x4x64x64 .f32 :=
  View.canon [⟨r4, k0_pay20 (k0_pay18 (View.ld x13 r4) (View.ld x21 r4) (View.ld x29 r4)) (k0_pay19 (View.ld x5 r4))⟩]
def out38 (x6 : Vec F S4x256 .f32) (x14 : Vec F S4x256 .f32) (x22 : Vec F S4x256 .f32) (x30 : Vec F S4x256 .f32) : Vec F S4x256 .f32 :=
  View.canon [⟨r5, k0_pay24 (k0_pay23 (View.ld x14 r5) (View.ld x22 r5) (View.ld x30 r5) (View.ld x6 r5))⟩]
def out39 (x7 : Vec F S4x1024 .f32) (x15 : Vec F S4x1024 .f32) (x23 : Vec F S4x1024 .f32) (x31 : Vec F S4x1024 .f32) : Vec F S4x1024 .f32 :=
  View.canon [⟨r0, k0_pay27 (View.ld x15 r0) (View.ld x23 r0) (View.ld x31 r0) (View.ld x7 r0)⟩]
def out40 (x8 : Vec F S4x1024 .f32) (x16 : Vec F S4x1024 .f32) : Vec F S4x1024 .f32 :=
  View.canon [⟨r0, k0_pay1 (View.ld x8 r0) (View.ld x16 r0)⟩]
def out41 (x9 : Vec F S4x64 .f32) (x17 : Vec F S4x64 .f32) : Vec F S4x64 .f32 :=
  View.canon [⟨r1, k0_pay4 (View.ld x9 r1) (View.ld x17 r1)⟩]
def out42 (x10 : Vec F S4x64 .f32) (x18 : Vec F S4x64 .f32) : Vec F S4x64 .f32 :=
  View.canon [⟨r1, k0_pay7 (View.ld x10 r1) (View.ld x18 r1)⟩]
def out43 (x11 : Vec F S4x8x257 .f32) (x19 : Vec F S4x8x257 .f32) : Vec F S4x8x257 .f32 :=
  View.canon [⟨r2, k0_pay10 (View.ld x11 r2) (View.ld x19 r2) (Scalar.ofBits .f32 0x3F666666#32)⟩]
def out44 (x12 : Vec F S4x3x32 .f32) (x20 : Vec F S4x3x32 .f32) : Vec F S4x3x32 .f32 :=
  View.canon [⟨r3, k0_pay13 (View.ld x12 r3) (View.ld x20 r3)⟩]
def out45 (x13 : Vec F S4x4x64x64 .f32) (x21 : Vec F S4x4x64x64 .f32) : Vec F S4x4x64x64 .f32 :=
  View.canon [⟨r4, k0_pay16 (View.ld x13 r4) (View.ld x21 r4)⟩]
def out46 (x14 : Vec F S4x256 .f32) (x22 : Vec F S4x256 .f32) : Vec F S4x256 .f32 :=
  View.canon [⟨r5, k0_pay21 (View.ld x14 r5) (View.ld x22 r5)⟩]
def out47 (x15 : Vec F S4x1024 .f32) (x23 : Vec F S4x1024 .f32) : Vec F S4x1024 .f32 :=
  View.canon [⟨r0, k0_pay25 (View.ld x15 r0) (View.ld x23 r0)⟩]
def out48 (x8 : Vec F S4x1024 .f32) (x24 : Vec F S4x1024 .f32) : Vec F S4x1024 .f32 :=
  View.canon [⟨r0, k0_pay2 (View.ld x8 r0) (View.ld x24 r0)⟩]
def out49 (x9 : Vec F S4x64 .f32) (x25 : Vec F S4x64 .f32) : Vec F S4x64 .f32 :=
  View.canon [⟨r1, k0_pay5 (View.ld x9 r1) (View.ld x25 r1)⟩]
def out50 (x10 : Vec F S4x64 .f32) (x26 : Vec F S4x64 .f32) : Vec F S4x64 .f32 :=
  View.canon [⟨r1, k0_pay8 (View.ld x10 r1) (View.ld x26 r1)⟩]
def out51 (x11 : Vec F S4x8x257 .f32) (x27 : Vec F S4x8x257 .f32) : Vec F S4x8x257 .f32 :=
  View.canon [⟨r2, k0_pay11 (View.ld x11 r2) (View.ld x27 r2)⟩]
def out52 (x12 : Vec F S4x3x32 .f32) (x28 : Vec F S4x3x32 .f32) : Vec F S4x3x32 .f32 :=
  View.canon [⟨r3, k0_pay14 (View.ld x12 r3) (View.ld x28 r3)⟩]
def out53 (x13 : Vec F S4x4x64x64 .f32) (x29 : Vec F S4x4x64x64 .f32) : Vec F S4x4x64x64 .f32 :=
  View.canon [⟨r4, k0_pay17 (View.ld x13 r4) (View.ld x29 r4)⟩]
def out54 (x14 : Vec F S4x256 .f32) (x30 : Vec F S4x256 .f32) : Vec F S4x256 .f32 :=
  View.canon [⟨r5, k0_pay22 (View.ld x14 r5) (View.ld x30 r5)⟩]
def out55 (x15 : Vec F S4x1024 .f32) (x31 : Vec F S4x1024 .f32) : Vec F S4x1024 .f32 :=
  View.canon [⟨r0, k0_pay26 (View.ld x15 r0) (View.ld x31 r0)⟩]

set_option maxHeartbeats 2000000 in
/-- The body, from the inputs' contents and any contents of the outputs. -/
theorem run (c : Dev nD) (E : Set ℕ) (arg0 : Memref sig .tc .vmem S4x1024 .f32) (harg0 : arg0.IsWhole) (arg1 : Memref sig .tc .vmem S4x64 .f32) (harg1 : arg1.IsWhole) (arg2 : Memref sig .tc .vmem S4x64 .f32) (harg2 : arg2.IsWhole) (arg3 : Memref sig .tc .vmem S4x8x257 .f32) (harg3 : arg3.IsWhole) (arg4 : Memref sig .tc .vmem S4x3x32 .f32) (harg4 : arg4.IsWhole) (arg5 : Memref sig .tc .vmem S4x4x64x64 .f32) (harg5 : arg5.IsWhole) (arg6 : Memref sig .tc .vmem S4x256 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S4x64 .f32) (harg9 : arg9.IsWhole) (arg10 : Memref sig .tc .vmem S4x64 .f32) (harg10 : arg10.IsWhole) (arg11 : Memref sig .tc .vmem S4x8x257 .f32) (harg11 : arg11.IsWhole) (arg12 : Memref sig .tc .vmem S4x3x32 .f32) (harg12 : arg12.IsWhole) (arg13 : Memref sig .tc .vmem S4x4x64x64 .f32) (harg13 : arg13.IsWhole) (arg14 : Memref sig .tc .vmem S4x256 .f32) (harg14 : arg14.IsWhole) (arg15 : Memref sig .tc .vmem S4x1024 .f32) (harg15 : arg15.IsWhole) (arg16 : Memref sig .tc .vmem S4x1024 .f32) (harg16 : arg16.IsWhole) (arg17 : Memref sig .tc .vmem S4x64 .f32) (harg17 : arg17.IsWhole) (arg18 : Memref sig .tc .vmem S4x64 .f32) (harg18 : arg18.IsWhole) (arg19 : Memref sig .tc .vmem S4x8x257 .f32) (harg19 : arg19.IsWhole) (arg20 : Memref sig .tc .vmem S4x3x32 .f32) (harg20 : arg20.IsWhole) (arg21 : Memref sig .tc .vmem S4x4x64x64 .f32) (harg21 : arg21.IsWhole) (arg22 : Memref sig .tc .vmem S4x256 .f32) (harg22 : arg22.IsWhole) (arg23 : Memref sig .tc .vmem S4x1024 .f32) (harg23 : arg23.IsWhole) (arg24 : Memref sig .tc .vmem S4x1024 .f32) (harg24 : arg24.IsWhole) (arg25 : Memref sig .tc .vmem S4x64 .f32) (harg25 : arg25.IsWhole) (arg26 : Memref sig .tc .vmem S4x64 .f32) (harg26 : arg26.IsWhole) (arg27 : Memref sig .tc .vmem S4x8x257 .f32) (harg27 : arg27.IsWhole) (arg28 : Memref sig .tc .vmem S4x3x32 .f32) (harg28 : arg28.IsWhole) (arg29 : Memref sig .tc .vmem S4x4x64x64 .f32) (harg29 : arg29.IsWhole) (arg30 : Memref sig .tc .vmem S4x256 .f32) (harg30 : arg30.IsWhole) (arg31 : Memref sig .tc .vmem S4x1024 .f32) (harg31 : arg31.IsWhole) (arg32 : Memref sig .tc .vmem S4x1024 .f32) (harg32 : arg32.IsWhole) (arg33 : Memref sig .tc .vmem S4x64 .f32) (harg33 : arg33.IsWhole) (arg34 : Memref sig .tc .vmem S4x64 .f32) (harg34 : arg34.IsWhole) (arg35 : Memref sig .tc .vmem S4x8x257 .f32) (harg35 : arg35.IsWhole) (arg36 : Memref sig .tc .vmem S4x3x32 .f32) (harg36 : arg36.IsWhole) (arg37 : Memref sig .tc .vmem S4x4x64x64 .f32) (harg37 : arg37.IsWhole) (arg38 : Memref sig .tc .vmem S4x256 .f32) (harg38 : arg38.IsWhole) (arg39 : Memref sig .tc .vmem S4x1024 .f32) (harg39 : arg39.IsWhole) (arg40 : Memref sig .tc .vmem S4x1024 .f32) (harg40 : arg40.IsWhole) (arg41 : Memref sig .tc .vmem S4x64 .f32) (harg41 : arg41.IsWhole) (arg42 : Memref sig .tc .vmem S4x64 .f32) (harg42 : arg42.IsWhole) (arg43 : Memref sig .tc .vmem S4x8x257 .f32) (harg43 : arg43.IsWhole) (arg44 : Memref sig .tc .vmem S4x3x32 .f32) (harg44 : arg44.IsWhole) (arg45 : Memref sig .tc .vmem S4x4x64x64 .f32) (harg45 : arg45.IsWhole) (arg46 : Memref sig .tc .vmem S4x256 .f32) (harg46 : arg46.IsWhole) (arg47 : Memref sig .tc .vmem S4x1024 .f32) (harg47 : arg47.IsWhole) (arg48 : Memref sig .tc .vmem S4x1024 .f32) (harg48 : arg48.IsWhole) (arg49 : Memref sig .tc .vmem S4x64 .f32) (harg49 : arg49.IsWhole) (arg50 : Memref sig .tc .vmem S4x64 .f32) (harg50 : arg50.IsWhole) (arg51 : Memref sig .tc .vmem S4x8x257 .f32) (harg51 : arg51.IsWhole) (arg52 : Memref sig .tc .vmem S4x3x32 .f32) (harg52 : arg52.IsWhole) (arg53 : Memref sig .tc .vmem S4x4x64x64 .f32) (harg53 : arg53.IsWhole) (arg54 : Memref sig .tc .vmem S4x256 .f32) (harg54 : arg54.IsWhole) (arg55 : Memref sig .tc .vmem S4x1024 .f32) (harg55 : arg55.IsWhole)
    (x0 : Vec F S4x1024 .f32) (x1 : Vec F S4x64 .f32) (x2 : Vec F S4x64 .f32) (x3 : Vec F S4x8x257 .f32) (x4 : Vec F S4x3x32 .f32) (x5 : Vec F S4x4x64x64 .f32) (x6 : Vec F S4x256 .f32) (x7 : Vec F S4x1024 .f32) (x8 : Vec F S4x1024 .f32) (x9 : Vec F S4x64 .f32) (x10 : Vec F S4x64 .f32) (x11 : Vec F S4x8x257 .f32) (x12 : Vec F S4x3x32 .f32) (x13 : Vec F S4x4x64x64 .f32) (x14 : Vec F S4x256 .f32) (x15 : Vec F S4x1024 .f32) (x16 : Vec F S4x1024 .f32) (x17 : Vec F S4x64 .f32) (x18 : Vec F S4x64 .f32) (x19 : Vec F S4x8x257 .f32) (x20 : Vec F S4x3x32 .f32) (x21 : Vec F S4x4x64x64 .f32) (x22 : Vec F S4x256 .f32) (x23 : Vec F S4x1024 .f32) (x24 : Vec F S4x1024 .f32) (x25 : Vec F S4x64 .f32) (x26 : Vec F S4x64 .f32) (x27 : Vec F S4x8x257 .f32) (x28 : Vec F S4x3x32 .f32) (x29 : Vec F S4x4x64x64 .f32) (x30 : Vec F S4x256 .f32) (x31 : Vec F S4x1024 .f32) (Q : Unit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare (out32 x0 x8 x16 x24) ∗ owns (c : Thread nD τ) arg33 fullShare (out33 x1 x9 x17 x25) ∗ owns (c : Thread nD τ) arg34 fullShare (out34 x2 x10 x18 x26) ∗ owns (c : Thread nD τ) arg35 fullShare (out35 x3 x11 x19 x27) ∗ owns (c : Thread nD τ) arg36 fullShare (out36 x4 x12 x20 x28) ∗ owns (c : Thread nD τ) arg37 fullShare (out37 x5 x13 x21 x29) ∗ owns (c : Thread nD τ) arg38 fullShare (out38 x6 x14 x22 x30) ∗ owns (c : Thread nD τ) arg39 fullShare (out39 x7 x15 x23 x31) ∗ owns (c : Thread nD τ) arg40 fullShare (out40 x8 x16) ∗ owns (c : Thread nD τ) arg41 fullShare (out41 x9 x17) ∗ owns (c : Thread nD τ) arg42 fullShare (out42 x10 x18) ∗ owns (c : Thread nD τ) arg43 fullShare (out43 x11 x19) ∗ owns (c : Thread nD τ) arg44 fullShare (out44 x12 x20) ∗ owns (c : Thread nD τ) arg45 fullShare (out45 x13 x21) ∗ owns (c : Thread nD τ) arg46 fullShare (out46 x14 x22) ∗ owns (c : Thread nD τ) arg47 fullShare (out47 x15 x23) ∗ owns (c : Thread nD τ) arg48 fullShare (out48 x8 x24) ∗ owns (c : Thread nD τ) arg49 fullShare (out49 x9 x25) ∗ owns (c : Thread nD τ) arg50 fullShare (out50 x10 x26) ∗ owns (c : Thread nD τ) arg51 fullShare (out51 x11 x27) ∗ owns (c : Thread nD τ) arg52 fullShare (out52 x12 x28) ∗ owns (c : Thread nD τ) arg53 fullShare (out53 x13 x29) ∗ owns (c : Thread nD τ) arg54 fullShare (out54 x14 x30) ∗ owns (c : Thread nD τ) arg55 fullShare (out55 x15 x31)) -∗ Q ()))
      ⊢ wp frame (wpE (defs₀ (F := F)) Variants.none c none) E (cc0_adamw_small arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55) Q := by
  simp only [cc0_adamw_small_eq_skeleton]; unfold cc0_adamw_small_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  isplitl [H10]; · iexists f10; isplitr; · ipureintro; rfl
                   iexact H10
  isplitl [H11]; · iexists f11; isplitr; · ipureintro; rfl
                   iexact H11
  isplitl [H12]; · iexists f12; isplitr; · ipureintro; rfl
                   iexact H12
  isplitl [H13]; · iexists f13; isplitr; · ipureintro; rfl
                   iexact H13
  isplitl [H14]; · iexists f14; isplitr; · ipureintro; rfl
                   iexact H14
  isplitl [H15]; · iexists f15; isplitr; · ipureintro; rfl
                   iexact H15
  isplitl [H16]; · iexists f16; isplitr; · ipureintro; rfl
                   iexact H16
  isplitl [H17]; · iexists f17; isplitr; · ipureintro; rfl
                   iexact H17
  isplitl [H18]; · iexists f18; isplitr; · ipureintro; rfl
                   iexact H18
  isplitl [H19]; · iexists f19; isplitr; · ipureintro; rfl
                   iexact H19
  isplitl [H20]; · iexists f20; isplitr; · ipureintro; rfl
                   iexact H20
  isplitl [H21]; · iexists f21; isplitr; · ipureintro; rfl
                   iexact H21
  isplitl [H22]; · iexists f22; isplitr; · ipureintro; rfl
                   iexact H22
  isplitl [H23]; · iexists f23; isplitr; · ipureintro; rfl
                   iexact H23
  isplitl [H24]; · iexists f24; isplitr; · ipureintro; rfl
                   iexact H24
  isplitl [H25]; · iexists f25; isplitr; · ipureintro; rfl
                   iexact H25
  isplitl [H26]; · iexists f26; isplitr; · ipureintro; rfl
                   iexact H26
  isplitl [H27]; · iexists f27; isplitr; · ipureintro; rfl
                   iexact H27
  isplitl [H28]; · iexists f28; isplitr; · ipureintro; rfl
                   iexact H28
  isplitl [H29]; · iexists f29; isplitr; · ipureintro; rfl
                   iexact H29
  isplitl [H30]; · iexists f30; isplitr; · ipureintro; rfl
                   iexact H30
  isplitl [H31]; · iexists f31; isplitr; · ipureintro; rfl
                   iexact H31
  isplitl [H32]; · iexists _; isplitr; swap; · iexact H32
                   ipureintro; exact View.read_writes_eq_canon _ _ _ (cover0 _)
  isplitl [H33]; · iexists _; isplitr; swap; · iexact H33
                   ipureintro; exact View.read_writes_eq_canon _ _ _ (cover1 _)
  isplitl [H34]; · iexists _; isplitr; swap; · iexact H34
                   ipureintro; exact View.read_writes_eq_canon _ _ _ (cover1 _)
  isplitl [H35]; · iexists _; isplitr; swap; · iexact H35
                   ipureintro; exact View.read_writes_eq_canon _ _ _ (cover2 _)
  isplitl [H36]; · iexists _; isplitr; swap; · iexact H36
                   ipureintro; exact View.read_writes_eq_canon _ _ _ (cover3 _)
  isplitl [H37]; · iexists _; isplitr; swap; · iexact H37
                   ipureintro; exact View.read_writes_eq_canon _ _ _ (cover4 _)
  isplitl [H38]; · iexists _; isplitr; swap; · iexact H38
                   ipureintro; exact View.read_writes_eq_canon _ _ _ (cover5 _)
  isplitl [H39]; · iexists _; isplitr; swap; · iexact H39
                   ipureintro; exact View.read_writes_eq_canon _ _ _ (cover0 _)
  isplitl [H40]; · iexists _; isplitr; swap; · iexact H40
                   ipureintro; exact View.read_writes_eq_canon _ _ _ (cover0 _)
  isplitl [H41]; · iexists _; isplitr; swap; · iexact H41
                   ipureintro; exact View.read_writes_eq_canon _ _ _ (cover1 _)
  isplitl [H42]; · iexists _; isplitr; swap; · iexact H42
                   ipureintro; exact View.read_writes_eq_canon _ _ _ (cover1 _)
  isplitl [H43]; · iexists _; isplitr; swap; · iexact H43
                   ipureintro; exact View.read_writes_eq_canon _ _ _ (cover2 _)
  isplitl [H44]; · iexists _; isplitr; swap; · iexact H44
                   ipureintro; exact View.read_writes_eq_canon _ _ _ (cover3 _)
  isplitl [H45]; · iexists _; isplitr; swap; · iexact H45
                   ipureintro; exact View.read_writes_eq_canon _ _ _ (cover4 _)
  isplitl [H46]; · iexists _; isplitr; swap; · iexact H46
                   ipureintro; exact View.read_writes_eq_canon _ _ _ (cover5 _)
  isplitl [H47]; · iexists _; isplitr; swap; · iexact H47
                   ipureintro; exact View.read_writes_eq_canon _ _ _ (cover0 _)
  isplitl [H48]; · iexists _; isplitr; swap; · iexact H48
                   ipureintro; exact View.read_writes_eq_canon _ _ _ (cover0 _)
  isplitl [H49]; · iexists _; isplitr; swap; · iexact H49
                   ipureintro; exact View.read_writes_eq_canon _ _ _ (cover1 _)
  isplitl [H50]; · iexists _; isplitr; swap; · iexact H50
                   ipureintro; exact View.read_writes_eq_canon _ _ _ (cover1 _)
  isplitl [H51]; · iexists _; isplitr; swap; · iexact H51
                   ipureintro; exact View.read_writes_eq_canon _ _ _ (cover2 _)
  isplitl [H52]; · iexists _; isplitr; swap; · iexact H52
                   ipureintro; exact View.read_writes_eq_canon _ _ _ (cover3 _)
  isplitl [H53]; · iexists _; isplitr; swap; · iexact H53
                   ipureintro; exact View.read_writes_eq_canon _ _ _ (cover4 _)
  isplitl [H54]; · iexists _; isplitr; swap; · iexact H54
                   ipureintro; exact View.read_writes_eq_canon _ _ _ (cover5 _)
  iexists _; isplitr; swap; · iexact H55
  ipureintro; exact View.read_writes_eq_canon _ _ _ (cover0 _)

/-! ## The pipeline -/

variable (m : (ℓ : Loc nD τ sig) → Buf (Elt F) ℓ) (ρ : Dev nD → PrngReg)

/-- The call is the whole of the program: its arrays are as launched. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block, as the call finds its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's buffer holds its block, and each output's what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => out32 (iblk m c 0 t) (iblk m c 8 t) (iblk m c 16 t) (iblk m c 24 t)
    | ⟨33, _⟩ => out33 (iblk m c 1 t) (iblk m c 9 t) (iblk m c 17 t) (iblk m c 25 t)
    | ⟨34, _⟩ => out34 (iblk m c 2 t) (iblk m c 10 t) (iblk m c 18 t) (iblk m c 26 t)
    | ⟨35, _⟩ => out35 (iblk m c 3 t) (iblk m c 11 t) (iblk m c 19 t) (iblk m c 27 t)
    | ⟨36, _⟩ => out36 (iblk m c 4 t) (iblk m c 12 t) (iblk m c 20 t) (iblk m c 28 t)
    | ⟨37, _⟩ => out37 (iblk m c 5 t) (iblk m c 13 t) (iblk m c 21 t) (iblk m c 29 t)
    | ⟨38, _⟩ => out38 (iblk m c 6 t) (iblk m c 14 t) (iblk m c 22 t) (iblk m c 30 t)
    | ⟨39, _⟩ => out39 (iblk m c 7 t) (iblk m c 15 t) (iblk m c 23 t) (iblk m c 31 t)
    | ⟨40, _⟩ => out40 (iblk m c 8 t) (iblk m c 16 t)
    | ⟨41, _⟩ => out41 (iblk m c 9 t) (iblk m c 17 t)
    | ⟨42, _⟩ => out42 (iblk m c 10 t) (iblk m c 18 t)
    | ⟨43, _⟩ => out43 (iblk m c 11 t) (iblk m c 19 t)
    | ⟨44, _⟩ => out44 (iblk m c 12 t) (iblk m c 20 t)
    | ⟨45, _⟩ => out45 (iblk m c 13 t) (iblk m c 21 t)
    | ⟨46, _⟩ => out46 (iblk m c 14 t) (iblk m c 22 t)
    | ⟨47, _⟩ => out47 (iblk m c 15 t) (iblk m c 23 t)
    | ⟨48, _⟩ => out48 (iblk m c 8 t) (iblk m c 24 t)
    | ⟨49, _⟩ => out49 (iblk m c 9 t) (iblk m c 25 t)
    | ⟨50, _⟩ => out50 (iblk m c 10 t) (iblk m c 26 t)
    | ⟨51, _⟩ => out51 (iblk m c 11 t) (iblk m c 27 t)
    | ⟨52, _⟩ => out52 (iblk m c 12 t) (iblk m c 28 t)
    | ⟨53, _⟩ => out53 (iblk m c 13 t) (iblk m c 29 t)
    | ⟨54, _⟩ => out54 (iblk m c 14 t) (iblk m c 30 t)
    | ⟨55, _⟩ => out55 (iblk m c 15 t) (iblk m c 31 t)
    | ⟨_ + 56, h⟩ => absurd h (Nat.not_lt.mpr (Nat.le_add_left 56 _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = iblk m c 24 t := by dsimp only [dats]
theorem after_25 (c : Dev nD) (t : Fin cfg0.N) : (dats m 0 c).after 25 t = iblk m c 25 t := by dsimp only [dats]
theorem after_26 (c : Dev nD) (t : Fin cfg0.N) : (dats m 0 c).after 26 t = iblk m c 26 t := by dsimp only [dats]
theorem after_27 (c : Dev nD) (t : Fin cfg0.N) : (dats m 0 c).after 27 t = iblk m c 27 t := by dsimp only [dats]
theorem after_28 (c : Dev nD) (t : Fin cfg0.N) : (dats m 0 c).after 28 t = iblk m c 28 t := by dsimp only [dats]
theorem after_29 (c : Dev nD) (t : Fin cfg0.N) : (dats m 0 c).after 29 t = iblk m c 29 t := by dsimp only [dats]
theorem after_30 (c : Dev nD) (t : Fin cfg0.N) : (dats m 0 c).after 30 t = iblk m c 30 t := by dsimp only [dats]
theorem after_31 (c : Dev nD) (t : Fin cfg0.N) : (dats m 0 c).after 31 t = iblk m c 31 t := by dsimp only [dats]
theorem after_32 (c : Dev nD) (t : Fin cfg0.N) : (dats m 0 c).after 32 t = out32 (iblk m c 0 t) (iblk m c 8 t) (iblk m c 16 t) (iblk m c 24 t) := by dsimp only [dats]
theorem after_33 (c : Dev nD) (t : Fin cfg0.N) : (dats m 0 c).after 33 t = out33 (iblk m c 1 t) (iblk m c 9 t) (iblk m c 17 t) (iblk m c 25 t) := by dsimp only [dats]
theorem after_34 (c : Dev nD) (t : Fin cfg0.N) : (dats m 0 c).after 34 t = out34 (iblk m c 2 t) (iblk m c 10 t) (iblk m c 18 t) (iblk m c 26 t) := by dsimp only [dats]
theorem after_35 (c : Dev nD) (t : Fin cfg0.N) : (dats m 0 c).after 35 t = out35 (iblk m c 3 t) (iblk m c 11 t) (iblk m c 19 t) (iblk m c 27 t) := by dsimp only [dats]
theorem after_36 (c : Dev nD) (t : Fin cfg0.N) : (dats m 0 c).after 36 t = out36 (iblk m c 4 t) (iblk m c 12 t) (iblk m c 20 t) (iblk m c 28 t) := by dsimp only [dats]
theorem after_37 (c : Dev nD) (t : Fin cfg0.N) : (dats m 0 c).after 37 t = out37 (iblk m c 5 t) (iblk m c 13 t) (iblk m c 21 t) (iblk m c 29 t) := by dsimp only [dats]
theorem after_38 (c : Dev nD) (t : Fin cfg0.N) : (dats m 0 c).after 38 t = out38 (iblk m c 6 t) (iblk m c 14 t) (iblk m c 22 t) (iblk m c 30 t) := by dsimp only [dats]
theorem after_39 (c : Dev nD) (t : Fin cfg0.N) : (dats m 0 c).after 39 t = out39 (iblk m c 7 t) (iblk m c 15 t) (iblk m c 23 t) (iblk m c 31 t) := by dsimp only [dats]
theorem after_40 (c : Dev nD) (t : Fin cfg0.N) : (dats m 0 c).after 40 t = out40 (iblk m c 8 t) (iblk m c 16 t) := by dsimp only [dats]
theorem after_41 (c : Dev nD) (t : Fin cfg0.N) : (dats m 0 c).after 41 t = out41 (iblk m c 9 t) (iblk m c 17 t) := by dsimp only [dats]
theorem after_42 (c : Dev nD) (t : Fin cfg0.N) : (dats m 0 c).after 42 t = out42 (iblk m c 10 t) (iblk m c 18 t) := by dsimp only [dats]
theorem after_43 (c : Dev nD) (t : Fin cfg0.N) : (dats m 0 c).after 43 t = out43 (iblk m c 11 t) (iblk m c 19 t) := by dsimp only [dats]
theorem after_44 (c : Dev nD) (t : Fin cfg0.N) : (dats m 0 c).after 44 t = out44 (iblk m c 12 t) (iblk m c 20 t) := by dsimp only [dats]
theorem after_45 (c : Dev nD) (t : Fin cfg0.N) : (dats m 0 c).after 45 t = out45 (iblk m c 13 t) (iblk m c 21 t) := by dsimp only [dats]
theorem after_46 (c : Dev nD) (t : Fin cfg0.N) : (dats m 0 c).after 46 t = out46 (iblk m c 14 t) (iblk m c 22 t) := by dsimp only [dats]
theorem after_47 (c : Dev nD) (t : Fin cfg0.N) : (dats m 0 c).after 47 t = out47 (iblk m c 15 t) (iblk m c 23 t) := by dsimp only [dats]
theorem after_48 (c : Dev nD) (t : Fin cfg0.N) : (dats m 0 c).after 48 t = out48 (iblk m c 8 t) (iblk m c 24 t) := by dsimp only [dats]
theorem after_49 (c : Dev nD) (t : Fin cfg0.N) : (dats m 0 c).after 49 t = out49 (iblk m c 9 t) (iblk m c 25 t) := by dsimp only [dats]
theorem after_50 (c : Dev nD) (t : Fin cfg0.N) : (dats m 0 c).after 50 t = out50 (iblk m c 10 t) (iblk m c 26 t) := by dsimp only [dats]
theorem after_51 (c : Dev nD) (t : Fin cfg0.N) : (dats m 0 c).after 51 t = out51 (iblk m c 11 t) (iblk m c 27 t) := by dsimp only [dats]
theorem after_52 (c : Dev nD) (t : Fin cfg0.N) : (dats m 0 c).after 52 t = out52 (iblk m c 12 t) (iblk m c 28 t) := by dsimp only [dats]
theorem after_53 (c : Dev nD) (t : Fin cfg0.N) : (dats m 0 c).after 53 t = out53 (iblk m c 13 t) (iblk m c 29 t) := by dsimp only [dats]
theorem after_54 (c : Dev nD) (t : Fin cfg0.N) : (dats m 0 c).after 54 t = out54 (iblk m c 14 t) (iblk m c 30 t) := by dsimp only [dats]
theorem after_55 (c : Dev nD) (t : Fin cfg0.N) : (dats m 0 c).after 55 t = out55 (iblk m c 15 t) (iblk m c 31 t) := by dsimp only [dats]

theorem before_0 (c : Dev nD) (t : Fin cfg0.N) (d) : (dats m 0 c).before 0 t d = iblk m c 0 t :=
  (dats m 0 c).before_in_eq_fetched 0 rfl (fun _ => rfl) (fun _ _ _ => rfl) (fun t => after_0 m c t) t d
theorem before_1 (c : Dev nD) (t : Fin cfg0.N) (d) : (dats m 0 c).before 1 t d = iblk m c 1 t :=
  (dats m 0 c).before_in_eq_fetched 1 rfl (fun _ => rfl) (fun _ _ _ => rfl) (fun t => after_1 m c t) t d
theorem before_2 (c : Dev nD) (t : Fin cfg0.N) (d) : (dats m 0 c).before 2 t d = iblk m c 2 t :=
  (dats m 0 c).before_in_eq_fetched 2 rfl (fun _ => rfl) (fun _ _ _ => rfl) (fun t => after_2 m c t) t d
theorem before_3 (c : Dev nD) (t : Fin cfg0.N) (d) : (dats m 0 c).before 3 t d = iblk m c 3 t :=
  (dats m 0 c).before_in_eq_fetched 3 rfl (fun _ => rfl) (fun _ _ _ => rfl) (fun t => after_3 m c t) t d
theorem before_4 (c : Dev nD) (t : Fin cfg0.N) (d) : (dats m 0 c).before 4 t d = iblk m c 4 t :=
  (dats m 0 c).before_in_eq_fetched 4 rfl (fun _ => rfl) (fun _ _ _ => rfl) (fun t => after_4 m c t) t d
theorem before_5 (c : Dev nD) (t : Fin cfg0.N) (d) : (dats m 0 c).before 5 t d = iblk m c 5 t :=
  (dats m 0 c).before_in_eq_fetched 5 rfl (fun _ => rfl) (fun _ _ _ => rfl) (fun t => after_5 m c t) t d
theorem before_6 (c : Dev nD) (t : Fin cfg0.N) (d) : (dats m 0 c).before 6 t d = iblk m c 6 t :=
  (dats m 0 c).before_in_eq_fetched 6 rfl (fun _ => rfl) (fun _ _ _ => rfl) (fun t => after_6 m c t) t d
theorem before_7 (c : Dev nD) (t : Fin cfg0.N) (d) : (dats m 0 c).before 7 t d = iblk m c 7 t :=
  (dats m 0 c).before_in_eq_fetched 7 rfl (fun _ => rfl) (fun _ _ _ => rfl) (fun t => after_7 m c t) t d
theorem before_8 (c : Dev nD) (t : Fin cfg0.N) (d) : (dats m 0 c).before 8 t d = iblk m c 8 t :=
  (dats m 0 c).before_in_eq_fetched 8 rfl (fun _ => rfl) (fun _ _ _ => rfl) (fun t => after_8 m c t) t d
theorem before_9 (c : Dev nD) (t : Fin cfg0.N) (d) : (dats m 0 c).before 9 t d = iblk m c 9 t :=
  (dats m 0 c).before_in_eq_fetched 9 rfl (fun _ => rfl) (fun _ _ _ => rfl) (fun t => after_9 m c t) t d
theorem before_10 (c : Dev nD) (t : Fin cfg0.N) (d) : (dats m 0 c).before 10 t d = iblk m c 10 t :=
  (dats m 0 c).before_in_eq_fetched 10 rfl (fun _ => rfl) (fun _ _ _ => rfl) (fun t => after_10 m c t) t d
theorem before_11 (c : Dev nD) (t : Fin cfg0.N) (d) : (dats m 0 c).before 11 t d = iblk m c 11 t :=
  (dats m 0 c).before_in_eq_fetched 11 rfl (fun _ => rfl) (fun _ _ _ => rfl) (fun t => after_11 m c t) t d
theorem before_12 (c : Dev nD) (t : Fin cfg0.N) (d) : (dats m 0 c).before 12 t d = iblk m c 12 t :=
  (dats m 0 c).before_in_eq_fetched 12 rfl (fun _ => rfl) (fun _ _ _ => rfl) (fun t => after_12 m c t) t d
theorem before_13 (c : Dev nD) (t : Fin cfg0.N) (d) : (dats m 0 c).before 13 t d = iblk m c 13 t :=
  (dats m 0 c).before_in_eq_fetched 13 rfl (fun _ => rfl) (fun _ _ _ => rfl) (fun t => after_13 m c t) t d
theorem before_14 (c : Dev nD) (t : Fin cfg0.N) (d) : (dats m 0 c).before 14 t d = iblk m c 14 t :=
  (dats m 0 c).before_in_eq_fetched 14 rfl (fun _ => rfl) (fun _ _ _ => rfl) (fun t => after_14 m c t) t d
theorem before_15 (c : Dev nD) (t : Fin cfg0.N) (d) : (dats m 0 c).before 15 t d = iblk m c 15 t :=
  (dats m 0 c).before_in_eq_fetched 15 rfl (fun _ => rfl) (fun _ _ _ => rfl) (fun t => after_15 m c t) t d
theorem before_16 (c : Dev nD) (t : Fin cfg0.N) (d) : (dats m 0 c).before 16 t d = iblk m c 16 t :=
  (dats m 0 c).before_in_eq_fetched 16 rfl (fun _ => rfl) (fun _ _ _ => rfl) (fun t => after_16 m c t) t d
theorem before_17 (c : Dev nD) (t : Fin cfg0.N) (d) : (dats m 0 c).before 17 t d = iblk m c 17 t :=
  (dats m 0 c).before_in_eq_fetched 17 rfl (fun _ => rfl) (fun _ _ _ => rfl) (fun t => after_17 m c t) t d
theorem before_18 (c : Dev nD) (t : Fin cfg0.N) (d) : (dats m 0 c).before 18 t d = iblk m c 18 t :=
  (dats m 0 c).before_in_eq_fetched 18 rfl (fun _ => rfl) (fun _ _ _ => rfl) (fun t => after_18 m c t) t d
theorem before_19 (c : Dev nD) (t : Fin cfg0.N) (d) : (dats m 0 c).before 19 t d = iblk m c 19 t :=
  (dats m 0 c).before_in_eq_fetched 19 rfl (fun _ => rfl) (fun _ _ _ => rfl) (fun t => after_19 m c t) t d
theorem before_20 (c : Dev nD) (t : Fin cfg0.N) (d) : (dats m 0 c).before 20 t d = iblk m c 20 t :=
  (dats m 0 c).before_in_eq_fetched 20 rfl (fun _ => rfl) (fun _ _ _ => rfl) (fun t => after_20 m c t) t d
theorem before_21 (c : Dev nD) (t : Fin cfg0.N) (d) : (dats m 0 c).before 21 t d = iblk m c 21 t :=
  (dats m 0 c).before_in_eq_fetched 21 rfl (fun _ => rfl) (fun _ _ _ => rfl) (fun t => after_21 m c t) t d
theorem before_22 (c : Dev nD) (t : Fin cfg0.N) (d) : (dats m 0 c).before 22 t d = iblk m c 22 t :=
  (dats m 0 c).before_in_eq_fetched 22 rfl (fun _ => rfl) (fun _ _ _ => rfl) (fun t => after_22 m c t) t d
theorem before_23 (c : Dev nD) (t : Fin cfg0.N) (d) : (dats m 0 c).before 23 t d = iblk m c 23 t :=
  (dats m 0 c).before_in_eq_fetched 23 rfl (fun _ => rfl) (fun _ _ _ => rfl) (fun t => after_23 m c t) t d
theorem before_24 (c : Dev nD) (t : Fin cfg0.N) (d) : (dats m 0 c).before 24 t d = iblk m c 24 t :=
  (dats m 0 c).before_in_eq_fetched 24 rfl (fun _ => rfl) (fun _ _ _ => rfl) (fun t => after_24 m c t) t d
theorem before_25 (c : Dev nD) (t : Fin cfg0.N) (d) : (dats m 0 c).before 25 t d = iblk m c 25 t :=
  (dats m 0 c).before_in_eq_fetched 25 rfl (fun _ => rfl) (fun _ _ _ => rfl) (fun t => after_25 m c t) t d
theorem before_26 (c : Dev nD) (t : Fin cfg0.N) (d) : (dats m 0 c).before 26 t d = iblk m c 26 t :=
  (dats m 0 c).before_in_eq_fetched 26 rfl (fun _ => rfl) (fun _ _ _ => rfl) (fun t => after_26 m c t) t d
theorem before_27 (c : Dev nD) (t : Fin cfg0.N) (d) : (dats m 0 c).before 27 t d = iblk m c 27 t :=
  (dats m 0 c).before_in_eq_fetched 27 rfl (fun _ => rfl) (fun _ _ _ => rfl) (fun t => after_27 m c t) t d
theorem before_28 (c : Dev nD) (t : Fin cfg0.N) (d) : (dats m 0 c).before 28 t d = iblk m c 28 t :=
  (dats m 0 c).before_in_eq_fetched 28 rfl (fun _ => rfl) (fun _ _ _ => rfl) (fun t => after_28 m c t) t d
theorem before_29 (c : Dev nD) (t : Fin cfg0.N) (d) : (dats m 0 c).before 29 t d = iblk m c 29 t :=
  (dats m 0 c).before_in_eq_fetched 29 rfl (fun _ => rfl) (fun _ _ _ => rfl) (fun t => after_29 m c t) t d
theorem before_30 (c : Dev nD) (t : Fin cfg0.N) (d) : (dats m 0 c).before 30 t d = iblk m c 30 t :=
  (dats m 0 c).before_in_eq_fetched 30 rfl (fun _ => rfl) (fun _ _ _ => rfl) (fun t => after_30 m c t) t d
theorem before_31 (c : Dev nD) (t : Fin cfg0.N) (d) : (dats m 0 c).before 31 t d = iblk m c 31 t :=
  (dats m 0 c).before_in_eq_fetched 31 rfl (fun _ => rfl) (fun _ _ _ => rfl) (fun t => after_31 m c t) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24, before_25, before_26, before_27, before_28, before_29, before_30, before_31, after_0, after_1, after_2, after_3, after_4, after_5, after_6, after_7, after_8, after_9, after_10, after_11, after_12, after_13, after_14, after_15, after_16, after_17, after_18, after_19, after_20, after_21, after_22, after_23, after_24, after_25, after_26, after_27, after_28, after_29, after_30, after_31, after_32, after_33, after_34, after_35, after_36, after_37, after_38, after_39, after_40, after_41, after_42, after_43, after_44, after_45, after_46, after_47, after_48, after_49, after_50, after_51, after_52, after_53, after_54, after_55]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩⟩
  iapply (run c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  iexact H55

theorem defs₀_row (t : Fin cfg0.N) :
    defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

set_option maxHeartbeats 2000000 in
/-- The frame over any float values: the arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31))
      ∧ r.2.sem = fun _ => 0) :=
  (θ_run defs _ _).mono (fun _ h => ⟨fun c => ⟨((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4)),
      ((h.1 c).1 5).trans (((dats m 0 c).arrAt_in 5 rfl _).trans (A_eq m c 5)),
      ((h.1 c).1 6).trans (((dats m 0 c).arrAt_in 6 rfl _).trans (A_eq m c 6)),
      ((h.1 c).1 7).trans (((dats m 0 c).arrAt_in 7 rfl _).trans (A_eq m c 7)),
      ((h.1 c).1 8).trans (((dats m 0 c).arrAt_in 8 rfl _).trans (A_eq m c 8)),
      ((h.1 c).1 9).trans (((dats m 0 c).arrAt_in 9 rfl _).trans (A_eq m c 9)),
      ((h.1 c).1 10).trans (((dats m 0 c).arrAt_in 10 rfl _).trans (A_eq m c 10)),
      ((h.1 c).1 11).trans (((dats m 0 c).arrAt_in 11 rfl _).trans (A_eq m c 11)),
      ((h.1 c).1 12).trans (((dats m 0 c).arrAt_in 12 rfl _).trans (A_eq m c 12)),
      ((h.1 c).1 13).trans (((dats m 0 c).arrAt_in 13 rfl _).trans (A_eq m c 13)),
      ((h.1 c).1 14).trans (((dats m 0 c).arrAt_in 14 rfl _).trans (A_eq m c 14)),
      ((h.1 c).1 15).trans (((dats m 0 c).arrAt_in 15 rfl _).trans (A_eq m c 15)),
      ((h.1 c).1 16).trans (((dats m 0 c).arrAt_in 16 rfl _).trans (A_eq m c 16)),
      ((h.1 c).1 17).trans (((dats m 0 c).arrAt_in 17 rfl _).trans (A_eq m c 17)),
      ((h.1 c).1 18).trans (((dats m 0 c).arrAt_in 18 rfl _).trans (A_eq m c 18)),
      ((h.1 c).1 19).trans (((dats m 0 c).arrAt_in 19 rfl _).trans (A_eq m c 19)),
      ((h.1 c).1 20).trans (((dats m 0 c).arrAt_in 20 rfl _).trans (A_eq m c 20)),
      ((h.1 c).1 21).trans (((dats m 0 c).arrAt_in 21 rfl _).trans (A_eq m c 21)),
      ((h.1 c).1 22).trans (((dats m 0 c).arrAt_in 22 rfl _).trans (A_eq m c 22)),
      ((h.1 c).1 23).trans (((dats m 0 c).arrAt_in 23 rfl _).trans (A_eq m c 23)),
      ((h.1 c).1 24).trans (((dats m 0 c).arrAt_in 24 rfl _).trans (A_eq m c 24)),
      ((h.1 c).1 25).trans (((dats m 0 c).arrAt_in 25 rfl _).trans (A_eq m c 25)),
      ((h.1 c).1 26).trans (((dats m 0 c).arrAt_in 26 rfl _).trans (A_eq m c 26)),
      ((h.1 c).1 27).trans (((dats m 0 c).arrAt_in 27 rfl _).trans (A_eq m c 27)),
      ((h.1 c).1 28).trans (((dats m 0 c).arrAt_in 28 rfl _).trans (A_eq m c 28)),
      ((h.1 c).1 29).trans (((dats m 0 c).arrAt_in 29 rfl _).trans (A_eq m c 29)),
      ((h.1 c).1 30).trans (((dats m 0 c).arrAt_in 30 rfl _).trans (A_eq m c 30)),
      ((h.1 c).1 31).trans (((dats m 0 c).arrAt_in 31 rfl _).trans (A_eq m c 31))⟩, h.2⟩) (run_main_quiescent m ρ)

end Cert.Kernel15Ideal.Small

end
-- ==== Proof.AdamWSmall.lean ====
module

public import proofs.«01_k».proof.Proof.SmallFrame
public import proofs.«01_k».proof.Proof.Gen.Reference15Ideal.Read
public import proofs.«01_k».proof.Proof.Gen.Reference15Ideal.Run
public import Idealize.ShloMosaic.Lib.Pipeline.ValueKit
public import Idealize.ShloMosaic.Lib.Claim
public import proofs.«01_k».proof.Defs

@[expose] public section

set_option maxRecDepth 16384

/-! # The optimiser's step on the small parameters, all in one call -/

noncomputable section

open Idealize.ShloMosaic Idealize.ShloMosaic.TcCoe Idealize.SL.Sem
open Idealize.ShloMosaic.Pipeline (Dat)

namespace Cert.Kernel15Ideal.Small

open Cert.Kernel15Ideal Cert.Kernel15Ideal.Gen Cert.Reference15Ideal.Read

variable (m : (ℓ : Loc nD τ sig) → Buf (Elt Ideal) ℓ)

/-- Parameter array `i`: the weights are 0 to 7, the gradients 8 to 15, the first moments 16 to 23, the second 24 to 31. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)
abbrev A8 (c : Dev nD) := m ((c : Thread nD τ).loc main_arg8)
abbrev A9 (c : Dev nD) := m ((c : Thread nD τ).loc main_arg9)
abbrev A10 (c : Dev nD) := m ((c : Thread nD τ).loc main_arg10)
abbrev A11 (c : Dev nD) := m ((c : Thread nD τ).loc main_arg11)
abbrev A12 (c : Dev nD) := m ((c : Thread nD τ).loc main_arg12)
abbrev A13 (c : Dev nD) := m ((c : Thread nD τ).loc main_arg13)
abbrev A14 (c : Dev nD) := m ((c : Thread nD τ).loc main_arg14)
abbrev A15 (c : Dev nD) := m ((c : Thread nD τ).loc main_arg15)
abbrev A16 (c : Dev nD) := m ((c : Thread nD τ).loc main_arg16)
abbrev A17 (c : Dev nD) := m ((c : Thread nD τ).loc main_arg17)
abbrev A18 (c : Dev nD) := m ((c : Thread nD τ).loc main_arg18)
abbrev A19 (c : Dev nD) := m ((c : Thread nD τ).loc main_arg19)
abbrev A20 (c : Dev nD) := m ((c : Thread nD τ).loc main_arg20)
abbrev A21 (c : Dev nD) := m ((c : Thread nD τ).loc main_arg21)
abbrev A22 (c : Dev nD) := m ((c : Thread nD τ).loc main_arg22)
abbrev A23 (c : Dev nD) := m ((c : Thread nD τ).loc main_arg23)
abbrev A24 (c : Dev nD) := m ((c : Thread nD τ).loc main_arg24)
abbrev A25 (c : Dev nD) := m ((c : Thread nD τ).loc main_arg25)
abbrev A26 (c : Dev nD) := m ((c : Thread nD τ).loc main_arg26)
abbrev A27 (c : Dev nD) := m ((c : Thread nD τ).loc main_arg27)
abbrev A28 (c : Dev nD) := m ((c : Thread nD τ).loc main_arg28)
abbrev A29 (c : Dev nD) := m ((c : Thread nD τ).loc main_arg29)
abbrev A30 (c : Dev nD) := m ((c : Thread nD τ).loc main_arg30)
abbrev A31 (c : Dev nD) := m ((c : Thread nD τ).loc main_arg31)

theorem idx0 : ∀ t : Fin cfg0.N, win0_0.index t = ![0, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![0, 0] :=
  (by decide +kernel : ∀ t : Fin grid0.N, _)
theorem idx3 : ∀ t : Fin cfg0.N, win0_3.index t = ![0, 0, 0] :=
  (by decide +kernel : ∀ t : Fin grid0.N, _)
theorem idx4 : ∀ t : Fin cfg0.N, win0_4.index t = ![0, 0, 0] :=
  (by decide +kernel : ∀ t : Fin grid0.N, _)
theorem idx5 : ∀ t : Fin cfg0.N, win0_5.index t = ![0, 0, 0, 0] :=
  (by decide +kernel : ∀ t : Fin grid0.N, _)
theorem idx6 : ∀ t : Fin cfg0.N, win0_6.index t = ![0, 0] :=
  (by decide +kernel : ∀ t : Fin grid0.N, _)
theorem idx7 : ∀ t : Fin cfg0.N, win0_7.index t = ![0, 0] :=
  (by decide +kernel : ∀ t : Fin grid0.N, _)
theorem idx8 : ∀ t : Fin cfg0.N, win0_8.index t = ![0, 0] :=
  (by decide +kernel : ∀ t : Fin grid0.N, _)
theorem idx9 : ∀ t : Fin cfg0.N, win0_9.index t = ![0, 0] :=
  (by decide +kernel : ∀ t : Fin grid0.N, _)
theorem idx10 : ∀ t : Fin cfg0.N, win0_10.index t = ![0, 0] :=
  (by decide +kernel : ∀ t : Fin grid0.N, _)
theorem idx11 : ∀ t : Fin cfg0.N, win0_11.index t = ![0, 0, 0] :=
  (by decide +kernel : ∀ t : Fin grid0.N, _)
theorem idx12 : ∀ t : Fin cfg0.N, win0_12.index t = ![0, 0, 0] :=
  (by decide +kernel : ∀ t : Fin grid0.N, _)
theorem idx13 : ∀ t : Fin cfg0.N, win0_13.index t = ![0, 0, 0, 0] :=
  (by decide +kernel : ∀ t : Fin grid0.N, _)
theorem idx14 : ∀ t : Fin cfg0.N, win0_14.index t = ![0, 0] :=
  (by decide +kernel : ∀ t : Fin grid0.N, _)
theorem idx15 : ∀ t : Fin cfg0.N, win0_15.index t = ![0, 0] :=
  (by decide +kernel : ∀ t : Fin grid0.N, _)
theorem idx16 : ∀ t : Fin cfg0.N, win0_16.index t = ![0, 0] :=
  (by decide +kernel : ∀ t : Fin grid0.N, _)
theorem idx17 : ∀ t : Fin cfg0.N, win0_17.index t = ![0, 0] :=
  (by decide +kernel : ∀ t : Fin grid0.N, _)
theorem idx18 : ∀ t : Fin cfg0.N, win0_18.index t = ![0, 0] :=
  (by decide +kernel : ∀ t : Fin grid0.N, _)
theorem idx19 : ∀ t : Fin cfg0.N, win0_19.index t = ![0, 0, 0] :=
  (by decide +kernel : ∀ t : Fin grid0.N, _)
theorem idx20 : ∀ t : Fin cfg0.N, win0_20.index t = ![0, 0, 0] :=
  (by decide +kernel : ∀ t : Fin grid0.N, _)
theorem idx21 : ∀ t : Fin cfg0.N, win0_21.index t = ![0, 0, 0, 0] :=
  (by decide +kernel : ∀ t : Fin grid0.N, _)
theorem idx22 : ∀ t : Fin cfg0.N, win0_22.index t = ![0, 0] :=
  (by decide +kernel : ∀ t : Fin grid0.N, _)
theorem idx23 : ∀ t : Fin cfg0.N, win0_23.index t = ![0, 0] :=
  (by decide +kernel : ∀ t : Fin grid0.N, _)
theorem idx24 : ∀ t : Fin cfg0.N, win0_24.index t = ![0, 0] :=
  (by decide +kernel : ∀ t : Fin grid0.N, _)
theorem idx25 : ∀ t : Fin cfg0.N, win0_25.index t = ![0, 0] :=
  (by decide +kernel : ∀ t : Fin grid0.N, _)
theorem idx26 : ∀ t : Fin cfg0.N, win0_26.index t = ![0, 0] :=
  (by decide +kernel : ∀ t : Fin grid0.N, _)
theorem idx27 : ∀ t : Fin cfg0.N, win0_27.index t = ![0, 0, 0] :=
  (by decide +kernel : ∀ t : Fin grid0.N, _)
theorem idx28 : ∀ t : Fin cfg0.N, win0_28.index t = ![0, 0, 0] :=
  (by decide +kernel : ∀ t : Fin grid0.N, _)
theorem idx29 : ∀ t : Fin cfg0.N, win0_29.index t = ![0, 0, 0, 0] :=
  (by decide +kernel : ∀ t : Fin grid0.N, _)
theorem idx30 : ∀ t : Fin cfg0.N, win0_30.index t = ![0, 0] :=
  (by decide +kernel : ∀ t : Fin grid0.N, _)
theorem idx31 : ∀ t : Fin cfg0.N, win0_31.index t = ![0, 0] :=
  (by decide +kernel : ∀ t : Fin grid0.N, _)
theorem idx32 : ∀ t : Fin cfg0.N, win0_32.index t = ![0, 0] :=
  (by decide +kernel : ∀ t : Fin grid0.N, _)
theorem idx33 : ∀ t : Fin cfg0.N, win0_33.index t = ![0, 0] :=
  (by decide +kernel : ∀ t : Fin grid0.N, _)
theorem idx34 : ∀ t : Fin cfg0.N, win0_34.index t = ![0, 0] :=
  (by decide +kernel : ∀ t : Fin grid0.N, _)
theorem idx35 : ∀ t : Fin cfg0.N, win0_35.index t = ![0, 0, 0] :=
  (by decide +kernel : ∀ t : Fin grid0.N, _)
theorem idx36 : ∀ t : Fin cfg0.N, win0_36.index t = ![0, 0, 0] :=
  (by decide +kernel : ∀ t : Fin grid0.N, _)
theorem idx37 : ∀ t : Fin cfg0.N, win0_37.index t = ![0, 0, 0, 0] :=
  (by decide +kernel : ∀ t : Fin grid0.N, _)
theorem idx38 : ∀ t : Fin cfg0.N, win0_38.index t = ![0, 0] :=
  (by decide +kernel : ∀ t : Fin grid0.N, _)
theorem idx39 : ∀ t : Fin cfg0.N, win0_39.index t = ![0, 0] :=
  (by decide +kernel : ∀ t : Fin grid0.N, _)
theorem idx40 : ∀ t : Fin cfg0.N, win0_40.index t = ![0, 0] :=
  (by decide +kernel : ∀ t : Fin grid0.N, _)
theorem idx41 : ∀ t : Fin cfg0.N, win0_41.index t = ![0, 0] :=
  (by decide +kernel : ∀ t : Fin grid0.N, _)
theorem idx42 : ∀ t : Fin cfg0.N, win0_42.index t = ![0, 0] :=
  (by decide +kernel : ∀ t : Fin grid0.N, _)
theorem idx43 : ∀ t : Fin cfg0.N, win0_43.index t = ![0, 0, 0] :=
  (by decide +kernel : ∀ t : Fin grid0.N, _)
theorem idx44 : ∀ t : Fin cfg0.N, win0_44.index t = ![0, 0, 0] :=
  (by decide +kernel : ∀ t : Fin grid0.N, _)
theorem idx45 : ∀ t : Fin cfg0.N, win0_45.index t = ![0, 0, 0, 0] :=
  (by decide +kernel : ∀ t : Fin grid0.N, _)
theorem idx46 : ∀ t : Fin cfg0.N, win0_46.index t = ![0, 0] :=
  (by decide +kernel : ∀ t : Fin grid0.N, _)
theorem idx47 : ∀ t : Fin cfg0.N, win0_47.index t = ![0, 0] :=
  (by decide +kernel : ∀ t : Fin grid0.N, _)
theorem idx48 : ∀ t : Fin cfg0.N, win0_48.index t = ![0, 0] :=
  (by decide +kernel : ∀ t : Fin grid0.N, _)
theorem idx49 : ∀ t : Fin cfg0.N, win0_49.index t = ![0, 0] :=
  (by decide +kernel : ∀ t : Fin grid0.N, _)
theorem idx50 : ∀ t : Fin cfg0.N, win0_50.index t = ![0, 0] :=
  (by decide +kernel : ∀ t : Fin grid0.N, _)
theorem idx51 : ∀ t : Fin cfg0.N, win0_51.index t = ![0, 0, 0] :=
  (by decide +kernel : ∀ t : Fin grid0.N, _)
theorem idx52 : ∀ t : Fin cfg0.N, win0_52.index t = ![0, 0, 0] :=
  (by decide +kernel : ∀ t : Fin grid0.N, _)
theorem idx53 : ∀ t : Fin cfg0.N, win0_53.index t = ![0, 0, 0, 0] :=
  (by decide +kernel : ∀ t : Fin grid0.N, _)
theorem idx54 : ∀ t : Fin cfg0.N, win0_54.index t = ![0, 0] :=
  (by decide +kernel : ∀ t : Fin grid0.N, _)
theorem idx55 : ∀ t : Fin cfg0.N, win0_55.index t = ![0, 0] :=
  (by decide +kernel : ∀ t : Fin grid0.N, _)

/-! Each block is its whole array. -/

theorem blk0 (c : Dev nD) (t : Fin cfg0.N) (i : Fin 4) (j : Fin 1024) : iblk m c 0 t (ix2 i j) = A0 m c (ix2 i j) := by
  blk_point [iblk, V, idx0 t]
theorem blk1 (c : Dev nD) (t : Fin cfg0.N) (i : Fin 4) (j : Fin 64) : iblk m c 1 t (ix2 i j) = A1 m c (ix2 i j) := by
  blk_point [iblk, V, idx1 t]
theorem blk2 (c : Dev nD) (t : Fin cfg0.N) (i : Fin 4) (j : Fin 64) : iblk m c 2 t (ix2 i j) = A2 m c (ix2 i j) := by
  blk_point [iblk, V, idx2 t]
theorem blk3 (c : Dev nD) (t : Fin cfg0.N) (i : Fin 4) (j : Fin 8) (k : Fin 257) : iblk m c 3 t (ix3 i j k) = A3 m c (ix3 i j k) := by
  blk_point [iblk, V, idx3 t]
theorem blk4 (c : Dev nD) (t : Fin cfg0.N) (i : Fin 4) (j : Fin 3) (k : Fin 32) : iblk m c 4 t (ix3 i j k) = A4 m c (ix3 i j k) := by
  blk_point [iblk, V, idx4 t]
theorem blk5 (c : Dev nD) (t : Fin cfg0.N) (i : Fin 4) (j : Fin 4) (k : Fin 64) (l : Fin 64) : iblk m c 5 t (ix4 i j k l) = A5 m c (ix4 i j k l) := by
  blk_point [iblk, V, idx5 t]
theorem blk6 (c : Dev nD) (t : Fin cfg0.N) (i : Fin 4) (j : Fin 256) : iblk m c 6 t (ix2 i j) = A6 m c (ix2 i j) := by
  blk_point [iblk, V, idx6 t]
theorem blk7 (c : Dev nD) (t : Fin cfg0.N) (i : Fin 4) (j : Fin 1024) : iblk m c 7 t (ix2 i j) = A7 m c (ix2 i j) := by
  blk_point [iblk, V, idx7 t]
theorem blk8 (c : Dev nD) (t : Fin cfg0.N) (i : Fin 4) (j : Fin 1024) : iblk m c 8 t (ix2 i j) = A8 m c (ix2 i j) := by
  blk_point [iblk, V, idx8 t]
theorem blk9 (c : Dev nD) (t : Fin cfg0.N) (i : Fin 4) (j : Fin 64) : iblk m c 9 t (ix2 i j) = A9 m c (ix2 i j) := by
  blk_point [iblk, V, idx9 t]
theorem blk10 (c : Dev nD) (t : Fin cfg0.N) (i : Fin 4) (j : Fin 64) : iblk m c 10 t (ix2 i j) = A10 m c (ix2 i j) := by
  blk_point [iblk, V, idx10 t]
theorem blk11 (c : Dev nD) (t : Fin cfg0.N) (i : Fin 4) (j : Fin 8) (k : Fin 257) : iblk m c 11 t (ix3 i j k) = A11 m c (ix3 i j k) := by
  blk_point [iblk, V, idx11 t]
theorem blk12 (c : Dev nD) (t : Fin cfg0.N) (i : Fin 4) (j : Fin 3) (k : Fin 32) : iblk m c 12 t (ix3 i j k) = A12 m c (ix3 i j k) := by
  blk_point [iblk, V, idx12 t]
theorem blk13 (c : Dev nD) (t : Fin cfg0.N) (i : Fin 4) (j : Fin 4) (k : Fin 64) (l : Fin 64) : iblk m c 13 t (ix4 i j k l) = A13 m c (ix4 i j k l) := by
  blk_point [iblk, V, idx13 t]
theorem blk14 (c : Dev nD) (t : Fin cfg0.N) (i : Fin 4) (j : Fin 256) : iblk m c 14 t (ix2 i j) = A14 m c (ix2 i j) := by
  blk_point [iblk, V, idx14 t]
theorem blk15 (c : Dev nD) (t : Fin cfg0.N) (i : Fin 4) (j : Fin 1024) : iblk m c 15 t (ix2 i j) = A15 m c (ix2 i j) := by
  blk_point [iblk, V, idx15 t]
theorem blk16 (c : Dev nD) (t : Fin cfg0.N) (i : Fin 4) (j : Fin 1024) : iblk m c 16 t (ix2 i j) = A16 m c (ix2 i j) := by
  blk_point [iblk, V, idx16 t]
theorem blk17 (c : Dev nD) (t : Fin cfg0.N) (i : Fin 4) (j : Fin 64) : iblk m c 17 t (ix2 i j) = A17 m c (ix2 i j) := by
  blk_point [iblk, V, idx17 t]
theorem blk18 (c : Dev nD) (t : Fin cfg0.N) (i : Fin 4) (j : Fin 64) : iblk m c 18 t (ix2 i j) = A18 m c (ix2 i j) := by
  blk_point [iblk, V, idx18 t]
theorem blk19 (c : Dev nD) (t : Fin cfg0.N) (i : Fin 4) (j : Fin 8) (k : Fin 257) : iblk m c 19 t (ix3 i j k) = A19 m c (ix3 i j k) := by
  blk_point [iblk, V, idx19 t]
theorem blk20 (c : Dev nD) (t : Fin cfg0.N) (i : Fin 4) (j : Fin 3) (k : Fin 32) : iblk m c 20 t (ix3 i j k) = A20 m c (ix3 i j k) := by
  blk_point [iblk, V, idx20 t]
theorem blk21 (c : Dev nD) (t : Fin cfg0.N) (i : Fin 4) (j : Fin 4) (k : Fin 64) (l : Fin 64) : iblk m c 21 t (ix4 i j k l) = A21 m c (ix4 i j k l) := by
  blk_point [iblk, V, idx21 t]
theorem blk22 (c : Dev nD) (t : Fin cfg0.N) (i : Fin 4) (j : Fin 256) : iblk m c 22 t (ix2 i j) = A22 m c (ix2 i j) := by
  blk_point [iblk, V, idx22 t]
theorem blk23 (c : Dev nD) (t : Fin cfg0.N) (i : Fin 4) (j : Fin 1024) : iblk m c 23 t (ix2 i j) = A23 m c (ix2 i j) := by
  blk_point [iblk, V, idx23 t]
theorem blk24 (c : Dev nD) (t : Fin cfg0.N) (i : Fin 4) (j : Fin 1024) : iblk m c 24 t (ix2 i j) = A24 m c (ix2 i j) := by
  blk_point [iblk, V, idx24 t]
theorem blk25 (c : Dev nD) (t : Fin cfg0.N) (i : Fin 4) (j : Fin 64) : iblk m c 25 t (ix2 i j) = A25 m c (ix2 i j) := by
  blk_point [iblk, V, idx25 t]
theorem blk26 (c : Dev nD) (t : Fin cfg0.N) (i : Fin 4) (j : Fin 64) : iblk m c 26 t (ix2 i j) = A26 m c (ix2 i j) := by
  blk_point [iblk, V, idx26 t]
theorem blk27 (c : Dev nD) (t : Fin cfg0.N) (i : Fin 4) (j : Fin 8) (k : Fin 257) : iblk m c 27 t (ix3 i j k) = A27 m c (ix3 i j k) := by
  blk_point [iblk, V, idx27 t]
theorem blk28 (c : Dev nD) (t : Fin cfg0.N) (i : Fin 4) (j : Fin 3) (k : Fin 32) : iblk m c 28 t (ix3 i j k) = A28 m c (ix3 i j k) := by
  blk_point [iblk, V, idx28 t]
theorem blk29 (c : Dev nD) (t : Fin cfg0.N) (i : Fin 4) (j : Fin 4) (k : Fin 64) (l : Fin 64) : iblk m c 29 t (ix4 i j k l) = A29 m c (ix4 i j k l) := by
  blk_point [iblk, V, idx29 t]
theorem blk30 (c : Dev nD) (t : Fin cfg0.N) (i : Fin 4) (j : Fin 256) : iblk m c 30 t (ix2 i j) = A30 m c (ix2 i j) := by
  blk_point [iblk, V, idx30 t]
theorem blk31 (c : Dev nD) (t : Fin cfg0.N) (i : Fin 4) (j : Fin 1024) : iblk m c 31 t (ix2 i j) = A31 m c (ix2 i j) := by
  blk_point [iblk, V, idx31 t]

theorem final32 (c : Dev nD) : (dats m 0 c).arrAt 32 (cfgs 0).N = val_main_v23 (F := Ideal) (A0 m c) (A8 m c) (A16 m c) (A24 m c) := by
  refine (dats m 0 c).arrAt_eq_of_covers 32 _ (by decide +kernel) fun t _ y => ?_
  obtain ⟨i, j, rfl⟩ : ∃ (i : Fin 4) (j : Fin 1024), y = ix2 i j := ⟨y 0, y 1, by blk_ext []⟩
  blk_simp
  rw [show ((cfg0.win 32).blk t).view.emb (ix2 i j) = ix2 i j from by blk_ext [idx32 t], after_32, out32]
  frame_out
  pointwise [k0_pay3, k0_pay2, k0_pay1, val_main_v23, val_main_v22, val_main_v21, val_main_v20, val_main_v19, val_main_v18, val_main_v17, val_main_v16, val_main_v15, val_main_v14, val_main_v13, val_main_v12, val_main_v11, val_main_cst_7, val_main_cst_6, val_main_cst_5, val_main_cst_4, val_main_cst_3, val_main_v4, val_main_v3, val_main_v2, val_main_v1, val_main_v0, val_main_cst_0, val_main_cst, val_main_v10, val_main_v9, val_main_v8, val_main_v7, val_main_v6, val_main_v5, val_main_cst_2, val_main_cst_1]
  simp only [blk0, blk8, blk16, blk24]

theorem final33 (c : Dev nD) : (dats m 0 c).arrAt 33 (cfgs 0).N = val_main_v47 (F := Ideal) (A1 m c) (A9 m c) (A17 m c) (A25 m c) := by
  refine (dats m 0 c).arrAt_eq_of_covers 33 _ (by decide +kernel) fun t _ y => ?_
  obtain ⟨i, j, rfl⟩ : ∃ (i : Fin 4) (j : Fin 64), y = ix2 i j := ⟨y 0, y 1, by blk_ext []⟩
  blk_simp
  rw [show ((cfg0.win 33).blk t).view.emb (ix2 i j) = ix2 i j from by blk_ext [idx33 t], after_33, out33]
  frame_out
  pointwise [k0_pay6, k0_pay5, k0_pay4, val_main_v47, val_main_v46, val_main_v45, val_main_v44, val_main_v43, val_main_v42, val_main_v41, val_main_v40, val_main_v39, val_main_v38, val_main_v37, val_main_v36, val_main_v35, val_main_cst_16, val_main_cst_15, val_main_cst_14, val_main_cst_13, val_main_cst_12, val_main_v28, val_main_v27, val_main_v26, val_main_v25, val_main_v24, val_main_cst_9, val_main_cst_8, val_main_v34, val_main_v33, val_main_v32, val_main_v31, val_main_v30, val_main_v29, val_main_cst_11, val_main_cst_10]
  simp only [blk1, blk9, blk17, blk25]

theorem final34 (c : Dev nD) : (dats m 0 c).arrAt 34 (cfgs 0).N = val_main_v71 (F := Ideal) (A2 m c) (A10 m c) (A18 m c) (A26 m c) := by
  refine (dats m 0 c).arrAt_eq_of_covers 34 _ (by decide +kernel) fun t _ y => ?_
  obtain ⟨i, j, rfl⟩ : ∃ (i : Fin 4) (j : Fin 64), y = ix2 i j := ⟨y 0, y 1, by blk_ext []⟩
  blk_simp
  rw [show ((cfg0.win 34).blk t).view.emb (ix2 i j) = ix2 i j from by blk_ext [idx34 t], after_34, out34]
  frame_out
  pointwise [k0_pay9, k0_pay8, k0_pay7, val_main_v71, val_main_v70, val_main_v69, val_main_v68, val_main_v67, val_main_v66, val_main_v65, val_main_v64, val_main_v63, val_main_v62, val_main_v61, val_main_v60, val_main_v59, val_main_cst_25, val_main_cst_24, val_main_cst_23, val_main_cst_22, val_main_cst_21, val_main_v52, val_main_v51, val_main_v50, val_main_v49, val_main_v48, val_main_cst_18, val_main_cst_17, val_main_v58, val_main_v57, val_main_v56, val_main_v55, val_main_v54, val_main_v53, val_main_cst_20, val_main_cst_19]
  simp only [blk2, blk10, blk18, blk26]

theorem final35 (c : Dev nD) : (dats m 0 c).arrAt 35 (cfgs 0).N = val_main_v95 (F := Ideal) (A3 m c) (A11 m c) (A19 m c) (A27 m c) := by
  refine (dats m 0 c).arrAt_eq_of_covers 35 _ (by decide +kernel) fun t _ y => ?_
  obtain ⟨i, j, k, rfl⟩ : ∃ (i : Fin 4) (j : Fin 8) (k : Fin 257), y = ix3 i j k := ⟨y 0, y 1, y 2, by blk_ext []⟩
  blk_simp
  rw [show ((cfg0.win 35).blk t).view.emb (ix3 i j k) = ix3 i j k from by blk_ext [idx35 t], after_35, out35]
  frame_out
  pointwise [k0_pay12, k0_pay11, k0_pay10, val_main_v95, val_main_v94, val_main_v93, val_main_v92, val_main_v91, val_main_v90, val_main_v89, val_main_v88, val_main_v87, val_main_v86, val_main_v85, val_main_v84, val_main_v83, val_main_cst_34, val_main_cst_33, val_main_cst_32, val_main_cst_31, val_main_cst_30, val_main_v76, val_main_v75, val_main_v74, val_main_v73, val_main_v72, val_main_cst_27, val_main_cst_26, val_main_v82, val_main_v81, val_main_v80, val_main_v79, val_main_v78, val_main_v77, val_main_cst_29, val_main_cst_28]
  simp only [blk3, blk11, blk19, blk27]

theorem final36 (c : Dev nD) : (dats m 0 c).arrAt 36 (cfgs 0).N = val_main_v119 (F := Ideal) (A4 m c) (A12 m c) (A20 m c) (A28 m c) := by
  refine (dats m 0 c).arrAt_eq_of_covers 36 _ (by decide +kernel) fun t _ y => ?_
  obtain ⟨i, j, k, rfl⟩ : ∃ (i : Fin 4) (j : Fin 3) (k : Fin 32), y = ix3 i j k := ⟨y 0, y 1, y 2, by blk_ext []⟩
  blk_simp
  rw [show ((cfg0.win 36).blk t).view.emb (ix3 i j k) = ix3 i j k from by blk_ext [idx36 t], after_36, out36]
  frame_out
  pointwise [k0_pay15, k0_pay14, k0_pay13, val_main_v119, val_main_v118, val_main_v117, val_main_v116, val_main_v115, val_main_v114, val_main_v113, val_main_v112, val_main_v111, val_main_v110, val_main_v109, val_main_v108, val_main_v107, val_main_cst_43, val_main_cst_42, val_main_cst_41, val_main_cst_40, val_main_cst_39, val_main_v100, val_main_v99, val_main_v98, val_main_v97, val_main_v96, val_main_cst_36, val_main_cst_35, val_main_v106, val_main_v105, val_main_v104, val_main_v103, val_main_v102, val_main_v101, val_main_cst_38, val_main_cst_37]
  simp only [blk4, blk12, blk20, blk28]

theorem final37 (c : Dev nD) : (dats m 0 c).arrAt 37 (cfgs 0).N = val_main_v143 (F := Ideal) (A5 m c) (A13 m c) (A21 m c) (A29 m c) := by
  refine (dats m 0 c).arrAt_eq_of_covers 37 _ (by decide +kernel) fun t _ y => ?_
  obtain ⟨i, j, k, l, rfl⟩ : ∃ (i : Fin 4) (j : Fin 4) (k : Fin 64) (l : Fin 64), y = ix4 i j k l := ⟨y 0, y 1, y 2, y 3, by blk_ext []⟩
  blk_simp
  rw [show ((cfg0.win 37).blk t).view.emb (ix4 i j k l) = ix4 i j k l from by blk_ext [idx37 t], after_37, out37]
  frame_out
  pointwise [k0_pay20, k0_pay19, k0_pay18, k0_pay17, k0_pay16, val_main_v143, val_main_v142, val_main_v141, val_main_v140, val_main_v139, val_main_v138, val_main_v137, val_main_v136, val_main_v135, val_main_v134, val_main_v133, val_main_v132, val_main_v131, val_main_cst_52, val_main_cst_51, val_main_cst_50, val_main_cst_49, val_main_cst_48, val_main_v124, val_main_v123, val_main_v122, val_main_v121, val_main_v120, val_main_cst_45, val_main_cst_44, val_main_v130, val_main_v129, val_main_v128, val_main_v127, val_main_v126, val_main_v125, val_main_cst_47, val_main_cst_46]
  simp only [blk5, blk13, blk21, blk29]

theorem final38 (c : Dev nD) : (dats m 0 c).arrAt 38 (cfgs 0).N = val_main_v167 (F := Ideal) (A6 m c) (A14 m c) (A22 m c) (A30 m c) := by
  refine (dats m 0 c).arrAt_eq_of_covers 38 _ (by decide +kernel) fun t _ y => ?_
  obtain ⟨i, j, rfl⟩ : ∃ (i : Fin 4) (j : Fin 256), y = ix2 i j := ⟨y 0, y 1, by blk_ext []⟩
  blk_simp
  rw [show ((cfg0.win 38).blk t).view.emb (ix2 i j) = ix2 i j from by blk_ext [idx38 t], after_38, out38]
  frame_out
  pointwise [k0_pay24, k0_pay23, k0_pay22, k0_pay21, val_main_v167, val_main_v166, val_main_v165, val_main_v164, val_main_v163, val_main_v162, val_main_v161, val_main_v160, val_main_v159, val_main_v158, val_main_v157, val_main_v156, val_main_v155, val_main_cst_61, val_main_cst_60, val_main_cst_59, val_main_cst_58, val_main_cst_57, val_main_v148, val_main_v147, val_main_v146, val_main_v145, val_main_v144, val_main_cst_54, val_main_cst_53, val_main_v154, val_main_v153, val_main_v152, val_main_v151, val_main_v150, val_main_v149, val_main_cst_56, val_main_cst_55]
  simp only [blk6, blk14, blk22, blk30]

theorem final39 (c : Dev nD) : (dats m 0 c).arrAt 39 (cfgs 0).N = val_main_v191 (F := Ideal) (A7 m c) (A15 m c) (A23 m c) (A31 m c) := by
  refine (dats m 0 c).arrAt_eq_of_covers 39 _ (by decide +kernel) fun t _ y => ?_
  obtain ⟨i, j, rfl⟩ : ∃ (i : Fin 4) (j : Fin 1024), y = ix2 i j := ⟨y 0, y 1, by blk_ext []⟩
  blk_simp
  rw [show ((cfg0.win 39).blk t).view.emb (ix2 i j) = ix2 i j from by blk_ext [idx39 t], after_39, out39]
  frame_out
  pointwise [k0_pay27, k0_pay26, k0_pay25, val_main_v191, val_main_v190, val_main_v189, val_main_v188, val_main_v187, val_main_v186, val_main_v185, val_main_v184, val_main_v183, val_main_v182, val_main_v181, val_main_v180, val_main_v179, val_main_cst_70, val_main_cst_69, val_main_cst_68, val_main_cst_67, val_main_cst_66, val_main_v172, val_main_v171, val_main_v170, val_main_v169, val_main_v168, val_main_cst_63, val_main_cst_62, val_main_v178, val_main_v177, val_main_v176, val_main_v175, val_main_v174, val_main_v173, val_main_cst_65, val_main_cst_64]
  simp only [blk7, blk15, blk23, blk31]

theorem final40 (c : Dev nD) : (dats m 0 c).arrAt 40 (cfgs 0).N = val_main_v4 (F := Ideal) (A8 m c) (A16 m c) := by
  refine (dats m 0 c).arrAt_eq_of_covers 40 _ (by decide +kernel) fun t _ y => ?_
  obtain ⟨i, j, rfl⟩ : ∃ (i : Fin 4) (j : Fin 1024), y = ix2 i j := ⟨y 0, y 1, by blk_ext []⟩
  blk_simp
  rw [show ((cfg0.win 40).blk t).view.emb (ix2 i j) = ix2 i j from by blk_ext [idx40 t], after_40, out40]
  frame_out
  pointwise [k0_pay1, val_main_v4, val_main_v3, val_main_v2, val_main_v1, val_main_v0, val_main_cst_0, val_main_cst]
  simp only [blk8, blk16]

theorem final41 (c : Dev nD) : (dats m 0 c).arrAt 41 (cfgs 0).N = val_main_v28 (F := Ideal) (A9 m c) (A17 m c) := by
  refine (dats m 0 c).arrAt_eq_of_covers 41 _ (by decide +kernel) fun t _ y => ?_
  obtain ⟨i, j, rfl⟩ : ∃ (i : Fin 4) (j : Fin 64), y = ix2 i j := ⟨y 0, y 1, by blk_ext []⟩
  blk_simp
  rw [show ((cfg0.win 41).blk t).view.emb (ix2 i j) = ix2 i j from by blk_ext [idx41 t], after_41, out41]
  frame_out
  pointwise [k0_pay4, val_main_v28, val_main_v27, val_main_v26, val_main_v25, val_main_v24, val_main_cst_9, val_main_cst_8]
  simp only [blk9, blk17]

theorem final42 (c : Dev nD) : (dats m 0 c).arrAt 42 (cfgs 0).N = val_main_v52 (F := Ideal) (A10 m c) (A18 m c) := by
  refine (dats m 0 c).arrAt_eq_of_covers 42 _ (by decide +kernel) fun t _ y => ?_
  obtain ⟨i, j, rfl⟩ : ∃ (i : Fin 4) (j : Fin 64), y = ix2 i j := ⟨y 0, y 1, by blk_ext []⟩
  blk_simp
  rw [show ((cfg0.win 42).blk t).view.emb (ix2 i j) = ix2 i j from by blk_ext [idx42 t], after_42, out42]
  frame_out
  pointwise [k0_pay7, val_main_v52, val_main_v51, val_main_v50, val_main_v49, val_main_v48, val_main_cst_18, val_main_cst_17]
  simp only [blk10, blk18]

theorem final43 (c : Dev nD) : (dats m 0 c).arrAt 43 (cfgs 0).N = val_main_v76 (F := Ideal) (A11 m c) (A19 m c) := by
  refine (dats m 0 c).arrAt_eq_of_covers 43 _ (by decide +kernel) fun t _ y => ?_
  obtain ⟨i, j, k, rfl⟩ : ∃ (i : Fin 4) (j : Fin 8) (k : Fin 257), y = ix3 i j k := ⟨y 0, y 1, y 2, by blk_ext []⟩
  blk_simp
  rw [show ((cfg0.win 43).blk t).view.emb (ix3 i j k) = ix3 i j k from by blk_ext [idx43 t], after_43, out43]
  frame_out
  pointwise [k0_pay10, val_main_v76, val_main_v75, val_main_v74, val_main_v73, val_main_v72, val_main_cst_27, val_main_cst_26]
  simp only [blk11, blk19]

theorem final44 (c : Dev nD) : (dats m 0 c).arrAt 44 (cfgs 0).N = val_main_v100 (F := Ideal) (A12 m c) (A20 m c) := by
  refine (dats m 0 c).arrAt_eq_of_covers 44 _ (by decide +kernel) fun t _ y => ?_
  obtain ⟨i, j, k, rfl⟩ : ∃ (i : Fin 4) (j : Fin 3) (k : Fin 32), y = ix3 i j k := ⟨y 0, y 1, y 2, by blk_ext []⟩
  blk_simp
  rw [show ((cfg0.win 44).blk t).view.emb (ix3 i j k) = ix3 i j k from by blk_ext [idx44 t], after_44, out44]
  frame_out
  pointwise [k0_pay13, val_main_v100, val_main_v99, val_main_v98, val_main_v97, val_main_v96, val_main_cst_36, val_main_cst_35]
  simp only [blk12, blk20]

theorem final45 (c : Dev nD) : (dats m 0 c).arrAt 45 (cfgs 0).N = val_main_v124 (F := Ideal) (A13 m c) (A21 m c) := by
  refine (dats m 0 c).arrAt_eq_of_covers 45 _ (by decide +kernel) fun t _ y => ?_
  obtain ⟨i, j, k, l, rfl⟩ : ∃ (i : Fin 4) (j : Fin 4) (k : Fin 64) (l : Fin 64), y = ix4 i j k l := ⟨y 0, y 1, y 2, y 3, by blk_ext []⟩
  blk_simp
  rw [show ((cfg0.win 45).blk t).view.emb (ix4 i j k l) = ix4 i j k l from by blk_ext [idx45 t], after_45, out45]
  frame_out
  pointwise [k0_pay16, val_main_v124, val_main_v123, val_main_v122, val_main_v121, val_main_v120, val_main_cst_45, val_main_cst_44]
  simp only [blk13, blk21]

theorem final46 (c : Dev nD) : (dats m 0 c).arrAt 46 (cfgs 0).N = val_main_v148 (F := Ideal) (A14 m c) (A22 m c) := by
  refine (dats m 0 c).arrAt_eq_of_covers 46 _ (by decide +kernel) fun t _ y => ?_
  obtain ⟨i, j, rfl⟩ : ∃ (i : Fin 4) (j : Fin 256), y = ix2 i j := ⟨y 0, y 1, by blk_ext []⟩
  blk_simp
  rw [show ((cfg0.win 46).blk t).view.emb (ix2 i j) = ix2 i j from by blk_ext [idx46 t], after_46, out46]
  frame_out
  pointwise [k0_pay21, val_main_v148, val_main_v147, val_main_v146, val_main_v145, val_main_v144, val_main_cst_54, val_main_cst_53]
  simp only [blk14, blk22]

theorem final47 (c : Dev nD) : (dats m 0 c).arrAt 47 (cfgs 0).N = val_main_v172 (F := Ideal) (A15 m c) (A23 m c) := by
  refine (dats m 0 c).arrAt_eq_of_covers 47 _ (by decide +kernel) fun t _ y => ?_
  obtain ⟨i, j, rfl⟩ : ∃ (i : Fin 4) (j : Fin 1024), y = ix2 i j := ⟨y 0, y 1, by blk_ext []⟩
  blk_simp
  rw [show ((cfg0.win 47).blk t).view.emb (ix2 i j) = ix2 i j from by blk_ext [idx47 t], after_47, out47]
  frame_out
  pointwise [k0_pay25, val_main_v172, val_main_v171, val_main_v170, val_main_v169, val_main_v168, val_main_cst_63, val_main_cst_62]
  simp only [blk15, blk23]

theorem final48 (c : Dev nD) : (dats m 0 c).arrAt 48 (cfgs 0).N = val_main_v10 (F := Ideal) (A8 m c) (A24 m c) := by
  refine (dats m 0 c).arrAt_eq_of_covers 48 _ (by decide +kernel) fun t _ y => ?_
  obtain ⟨i, j, rfl⟩ : ∃ (i : Fin 4) (j : Fin 1024), y = ix2 i j := ⟨y 0, y 1, by blk_ext []⟩
  blk_simp
  rw [show ((cfg0.win 48).blk t).view.emb (ix2 i j) = ix2 i j from by blk_ext [idx48 t], after_48, out48]
  frame_out
  pointwise [k0_pay2, val_main_v10, val_main_v9, val_main_v8, val_main_v7, val_main_v6, val_main_v5, val_main_cst_2, val_main_cst_1]
  simp only [blk8, blk24]

theorem final49 (c : Dev nD) : (dats m 0 c).arrAt 49 (cfgs 0).N = val_main_v34 (F := Ideal) (A9 m c) (A25 m c) := by
  refine (dats m 0 c).arrAt_eq_of_covers 49 _ (by decide +kernel) fun t _ y => ?_
  obtain ⟨i, j, rfl⟩ : ∃ (i : Fin 4) (j : Fin 64), y = ix2 i j := ⟨y 0, y 1, by blk_ext []⟩
  blk_simp
  rw [show ((cfg0.win 49).blk t).view.emb (ix2 i j) = ix2 i j from by blk_ext [idx49 t], after_49, out49]
  frame_out
  pointwise [k0_pay5, val_main_v34, val_main_v33, val_main_v32, val_main_v31, val_main_v30, val_main_v29, val_main_cst_11, val_main_cst_10]
  simp only [blk9, blk25]

theorem final50 (c : Dev nD) : (dats m 0 c).arrAt 50 (cfgs 0).N = val_main_v58 (F := Ideal) (A10 m c) (A26 m c) := by
  refine (dats m 0 c).arrAt_eq_of_covers 50 _ (by decide +kernel) fun t _ y => ?_
  obtain ⟨i, j, rfl⟩ : ∃ (i : Fin 4) (j : Fin 64), y = ix2 i j := ⟨y 0, y 1, by blk_ext []⟩
  blk_simp
  rw [show ((cfg0.win 50).blk t).view.emb (ix2 i j) = ix2 i j from by blk_ext [idx50 t], after_50, out50]
  frame_out
  pointwise [k0_pay8, val_main_v58, val_main_v57, val_main_v56, val_main_v55, val_main_v54, val_main_v53, val_main_cst_20, val_main_cst_19]
  simp only [blk10, blk26]

theorem final51 (c : Dev nD) : (dats m 0 c).arrAt 51 (cfgs 0).N = val_main_v82 (F := Ideal) (A11 m c) (A27 m c) := by
  refine (dats m 0 c).arrAt_eq_of_covers 51 _ (by decide +kernel) fun t _ y => ?_
  obtain ⟨i, j, k, rfl⟩ : ∃ (i : Fin 4) (j : Fin 8) (k : Fin 257), y = ix3 i j k := ⟨y 0, y 1, y 2, by blk_ext []⟩
  blk_simp
  rw [show ((cfg0.win 51).blk t).view.emb (ix3 i j k) = ix3 i j k from by blk_ext [idx51 t], after_51, out51]
  frame_out
  pointwise [k0_pay11, val_main_v82, val_main_v81, val_main_v80, val_main_v79, val_main_v78, val_main_v77, val_main_cst_29, val_main_cst_28]
  simp only [blk11, blk27]

theorem final52 (c : Dev nD) : (dats m 0 c).arrAt 52 (cfgs 0).N = val_main_v106 (F := Ideal) (A12 m c) (A28 m c) := by
  refine (dats m 0 c).arrAt_eq_of_covers 52 _ (by decide +kernel) fun t _ y => ?_
  obtain ⟨i, j, k, rfl⟩ : ∃ (i : Fin 4) (j : Fin 3) (k : Fin 32), y = ix3 i j k := ⟨y 0, y 1, y 2, by blk_ext []⟩
  blk_simp
  rw [show ((cfg0.win 52).blk t).view.emb (ix3 i j k) = ix3 i j k from by blk_ext [idx52 t], after_52, out52]
  frame_out
  pointwise [k0_pay14, val_main_v106, val_main_v105, val_main_v104, val_main_v103, val_main_v102, val_main_v101, val_main_cst_38, val_main_cst_37]
  simp only [blk12, blk28]

theorem final53 (c : Dev nD) : (dats m 0 c).arrAt 53 (cfgs 0).N = val_main_v130 (F := Ideal) (A13 m c) (A29 m c) := by
  refine (dats m 0 c).arrAt_eq_of_covers 53 _ (by decide +kernel) fun t _ y => ?_
  obtain ⟨i, j, k, l, rfl⟩ : ∃ (i : Fin 4) (j : Fin 4) (k : Fin 64) (l : Fin 64), y = ix4 i j k l := ⟨y 0, y 1, y 2, y 3, by blk_ext []⟩
  blk_simp
  rw [show ((cfg0.win 53).blk t).view.emb (ix4 i j k l) = ix4 i j k l from by blk_ext [idx53 t], after_53, out53]
  frame_out
  pointwise [k0_pay17, val_main_v130, val_main_v129, val_main_v128, val_main_v127, val_main_v126, val_main_v125, val_main_cst_47, val_main_cst_46]
  simp only [blk13, blk29]

theorem final54 (c : Dev nD) : (dats m 0 c).arrAt 54 (cfgs 0).N = val_main_v154 (F := Ideal) (A14 m c) (A30 m c) := by
  refine (dats m 0 c).arrAt_eq_of_covers 54 _ (by decide +kernel) fun t _ y => ?_
  obtain ⟨i, j, rfl⟩ : ∃ (i : Fin 4) (j : Fin 256), y = ix2 i j := ⟨y 0, y 1, by blk_ext []⟩
  blk_simp
  rw [show ((cfg0.win 54).blk t).view.emb (ix2 i j) = ix2 i j from by blk_ext [idx54 t], after_54, out54]
  frame_out
  pointwise [k0_pay22, val_main_v154, val_main_v153, val_main_v152, val_main_v151, val_main_v150, val_main_v149, val_main_cst_56, val_main_cst_55]
  simp only [blk14, blk30]

theorem final55 (c : Dev nD) : (dats m 0 c).arrAt 55 (cfgs 0).N = val_main_v178 (F := Ideal) (A15 m c) (A31 m c) := by
  refine (dats m 0 c).arrAt_eq_of_covers 55 _ (by decide +kernel) fun t _ y => ?_
  obtain ⟨i, j, rfl⟩ : ∃ (i : Fin 4) (j : Fin 1024), y = ix2 i j := ⟨y 0, y 1, by blk_ext []⟩
  blk_simp
  rw [show ((cfg0.win 55).blk t).view.emb (ix2 i j) = ix2 i j from by blk_ext [idx55 t], after_55, out55]
  frame_out
  pointwise [k0_pay26, val_main_v178, val_main_v177, val_main_v176, val_main_v175, val_main_v174, val_main_v173, val_main_cst_65, val_main_cst_64]
  simp only [blk15, blk31]

set_option maxHeartbeats 2000000 in
/-- The run with each result at the reference's value over the arguments, and the arguments as they began. -/
theorem results (g : Dev nD → PrngReg) : θ_run defs (onTc (τ := τ) (main (F := Ideal))) ⟨m, fun _ => 0, g⟩ (fun r => ∀ c : Dev nD,
      r.2.mem ((c.tc : Thread nD τ).loc main_v0_0) = val_main_v23 (F := Ideal) (A0 m c) (A8 m c) (A16 m c) (A24 m c)
      ∧ r.2.mem ((c.tc : Thread nD τ).loc main_v0_1) = val_main_v47 (F := Ideal) (A1 m c) (A9 m c) (A17 m c) (A25 m c)
      ∧ r.2.mem ((c.tc : Thread nD τ).loc main_v0_2) = val_main_v71 (F := Ideal) (A2 m c) (A10 m c) (A18 m c) (A26 m c)
      ∧ r.2.mem ((c.tc : Thread nD τ).loc main_v0_3) = val_main_v95 (F := Ideal) (A3 m c) (A11 m c) (A19 m c) (A27 m c)
      ∧ r.2.mem ((c.tc : Thread nD τ).loc main_v0_4) = val_main_v119 (F := Ideal) (A4 m c) (A12 m c) (A20 m c) (A28 m c)
      ∧ r.2.mem ((c.tc : Thread nD τ).loc main_v0_5) = val_main_v143 (F := Ideal) (A5 m c) (A13 m c) (A21 m c) (A29 m c)
      ∧ r.2.mem ((c.tc : Thread nD τ).loc main_v0_6) = val_main_v167 (F := Ideal) (A6 m c) (A14 m c) (A22 m c) (A30 m c)
      ∧ r.2.mem ((c.tc : Thread nD τ).loc main_v0_7) = val_main_v191 (F := Ideal) (A7 m c) (A15 m c) (A23 m c) (A31 m c)
      ∧ r.2.mem ((c.tc : Thread nD τ).loc main_v0_8) = val_main_v4 (F := Ideal) (A8 m c) (A16 m c)
      ∧ r.2.mem ((c.tc : Thread nD τ).loc main_v0_9) = val_main_v28 (F := Ideal) (A9 m c) (A17 m c)
      ∧ r.2.mem ((c.tc : Thread nD τ).loc main_v0_10) = val_main_v52 (F := Ideal) (A10 m c) (A18 m c)
      ∧ r.2.mem ((c.tc : Thread nD τ).loc main_v0_11) = val_main_v76 (F := Ideal) (A11 m c) (A19 m c)
      ∧ r.2.mem ((c.tc : Thread nD τ).loc main_v0_12) = val_main_v100 (F := Ideal) (A12 m c) (A20 m c)
      ∧ r.2.mem ((c.tc : Thread nD τ).loc main_v0_13) = val_main_v124 (F := Ideal) (A13 m c) (A21 m c)
      ∧ r.2.mem ((c.tc : Thread nD τ).loc main_v0_14) = val_main_v148 (F := Ideal) (A14 m c) (A22 m c)
      ∧ r.2.mem ((c.tc : Thread nD τ).loc main_v0_15) = val_main_v172 (F := Ideal) (A15 m c) (A23 m c)
      ∧ r.2.mem ((c.tc : Thread nD τ).loc main_v0_16) = val_main_v10 (F := Ideal) (A8 m c) (A24 m c)
      ∧ r.2.mem ((c.tc : Thread nD τ).loc main_v0_17) = val_main_v34 (F := Ideal) (A9 m c) (A25 m c)
      ∧ r.2.mem ((c.tc : Thread nD τ).loc main_v0_18) = val_main_v58 (F := Ideal) (A10 m c) (A26 m c)
      ∧ r.2.mem ((c.tc : Thread nD τ).loc main_v0_19) = val_main_v82 (F := Ideal) (A11 m c) (A27 m c)
      ∧ r.2.mem ((c.tc : Thread nD τ).loc main_v0_20) = val_main_v106 (F := Ideal) (A12 m c) (A28 m c)
      ∧ r.2.mem ((c.tc : Thread nD τ).loc main_v0_21) = val_main_v130 (F := Ideal) (A13 m c) (A29 m c)
      ∧ r.2.mem ((c.tc : Thread nD τ).loc main_v0_22) = val_main_v154 (F := Ideal) (A14 m c) (A30 m c)
      ∧ r.2.mem ((c.tc : Thread nD τ).loc main_v0_23) = val_main_v178 (F := Ideal) (A15 m c) (A31 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs _ _).mono (fun _ h c => ⟨((h c).1 32).trans (final32 m c),
      ((h c).1 33).trans (final33 m c),
      ((h c).1 34).trans (final34 m c),
      ((h c).1 35).trans (final35 m c),
      ((h c).1 36).trans (final36 m c),
      ((h c).1 37).trans (final37 m c),
      ((h c).1 38).trans (final38 m c),
      ((h c).1 39).trans (final39 m c),
      ((h c).1 40).trans (final40 m c),
      ((h c).1 41).trans (final41 m c),
      ((h c).1 42).trans (final42 m c),
      ((h c).1 43).trans (final43 m c),
      ((h c).1 44).trans (final44 m c),
      ((h c).1 45).trans (final45 m c),
      ((h c).1 46).trans (final46 m c),
      ((h c).1 47).trans (final47 m c),
      ((h c).1 48).trans (final48 m c),
      ((h c).1 49).trans (final49 m c),
      ((h c).1 50).trans (final50 m c),
      ((h c).1 51).trans (final51 m c),
      ((h c).1 52).trans (final52 m c),
      ((h c).1 53).trans (final53 m c),
      ((h c).1 54).trans (final54 m c),
      ((h c).1 55).trans (final55 m c),
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2)),
      ((h c).1 3).trans (((dats m 0 c).arrAt_in 3 rfl _).trans (A_eq m c 3)),
      ((h c).1 4).trans (((dats m 0 c).arrAt_in 4 rfl _).trans (A_eq m c 4)),
      ((h c).1 5).trans (((dats m 0 c).arrAt_in 5 rfl _).trans (A_eq m c 5)),
      ((h c).1 6).trans (((dats m 0 c).arrAt_in 6 rfl _).trans (A_eq m c 6)),
      ((h c).1 7).trans (((dats m 0 c).arrAt_in 7 rfl _).trans (A_eq m c 7)),
      ((h c).1 8).trans (((dats m 0 c).arrAt_in 8 rfl _).trans (A_eq m c 8)),
      ((h c).1 9).trans (((dats m 0 c).arrAt_in 9 rfl _).trans (A_eq m c 9)),
      ((h c).1 10).trans (((dats m 0 c).arrAt_in 10 rfl _).trans (A_eq m c 10)),
      ((h c).1 11).trans (((dats m 0 c).arrAt_in 11 rfl _).trans (A_eq m c 11)),
      ((h c).1 12).trans (((dats m 0 c).arrAt_in 12 rfl _).trans (A_eq m c 12)),
      ((h c).1 13).trans (((dats m 0 c).arrAt_in 13 rfl _).trans (A_eq m c 13)),
      ((h c).1 14).trans (((dats m 0 c).arrAt_in 14 rfl _).trans (A_eq m c 14)),
      ((h c).1 15).trans (((dats m 0 c).arrAt_in 15 rfl _).trans (A_eq m c 15)),
      ((h c).1 16).trans (((dats m 0 c).arrAt_in 16 rfl _).trans (A_eq m c 16)),
      ((h c).1 17).trans (((dats m 0 c).arrAt_in 17 rfl _).trans (A_eq m c 17)),
      ((h c).1 18).trans (((dats m 0 c).arrAt_in 18 rfl _).trans (A_eq m c 18)),
      ((h c).1 19).trans (((dats m 0 c).arrAt_in 19 rfl _).trans (A_eq m c 19)),
      ((h c).1 20).trans (((dats m 0 c).arrAt_in 20 rfl _).trans (A_eq m c 20)),
      ((h c).1 21).trans (((dats m 0 c).arrAt_in 21 rfl _).trans (A_eq m c 21)),
      ((h c).1 22).trans (((dats m 0 c).arrAt_in 22 rfl _).trans (A_eq m c 22)),
      ((h c).1 23).trans (((dats m 0 c).arrAt_in 23 rfl _).trans (A_eq m c 23)),
      ((h c).1 24).trans (((dats m 0 c).arrAt_in 24 rfl _).trans (A_eq m c 24)),
      ((h c).1 25).trans (((dats m 0 c).arrAt_in 25 rfl _).trans (A_eq m c 25)),
      ((h c).1 26).trans (((dats m 0 c).arrAt_in 26 rfl _).trans (A_eq m c 26)),
      ((h c).1 27).trans (((dats m 0 c).arrAt_in 27 rfl _).trans (A_eq m c 27)),
      ((h c).1 28).trans (((dats m 0 c).arrAt_in 28 rfl _).trans (A_eq m c 28)),
      ((h c).1 29).trans (((dats m 0 c).arrAt_in 29 rfl _).trans (A_eq m c 29)),
      ((h c).1 30).trans (((dats m 0 c).arrAt_in 30 rfl _).trans (A_eq m c 30)),
      ((h c).1 31).trans (((dats m 0 c).arrAt_in 31 rfl _).trans (A_eq m c 31))⟩) (run_main m g)

end Cert.Kernel15Ideal.Small

set_option maxHeartbeats 2000000 in
theorem Cert.algebraic15 : Cert.algebraic_Kernel15Ideal_Reference15Ideal
    (hKernel15Ideal := Cert.Kernel15Ideal.Gen.facts) (hReference15Ideal := Cert.Reference15Ideal.Gen.facts) := by
  pair_intro
  · exact Cert.Kernel15Ideal.Small.results m g
  · refine (θ_run _ _ _).mono (fun r h c => ?_) (Cert.Reference15Ideal.Value.run m' g')
    obtain ⟨a0, a1, a2, a3, a4, a5, a6, a7, a8, a9, a10, a11, a12, a13, a14, a15, a16, a17, a18, a19, a20, a21, a22, a23, a24, a25, a26, a27, a28, a29, a30, a31⟩ := hagree c
    obtain ⟨r0, r1, r2, r3, r4, r5, r6, r7, r8, r9, r10, r11, r12, r13, r14, r15, r16, r17, r18, r19, r20, r21, r22, r23, u0, u1, u2, u3, u4, u5, u6, u7, u8, u9, u10, u11, u12, u13, u14, u15, u16, u17, u18, u19, u20, u21, u22, u23, u24, u25, u26, u27, u28, u29, u30, u31⟩ := h c
    exact ⟨r0.trans ((Cert.Reference15Ideal.Read.val_main_v23_eq (StableHlo.launchContents m' c)).trans (congr (congr (congr (congrArg (Cert.Reference15Ideal.Read.val_main_v23 (F := Ideal)) a0) a8) a16) a24)),
      r1.trans ((Cert.Reference15Ideal.Read.val_main_v47_eq (StableHlo.launchContents m' c)).trans (congr (congr (congr (congrArg (Cert.Reference15Ideal.Read.val_main_v47 (F := Ideal)) a1) a9) a17) a25)),
      r2.trans ((Cert.Reference15Ideal.Read.val_main_v71_eq (StableHlo.launchContents m' c)).trans (congr (congr (congr (congrArg (Cert.Reference15Ideal.Read.val_main_v71 (F := Ideal)) a2) a10) a18) a26)),
      r3.trans ((Cert.Reference15Ideal.Read.val_main_v95_eq (StableHlo.launchContents m' c)).trans (congr (congr (congr (congrArg (Cert.Reference15Ideal.Read.val_main_v95 (F := Ideal)) a3) a11) a19) a27)),
      r4.trans ((Cert.Reference15Ideal.Read.val_main_v119_eq (StableHlo.launchContents m' c)).trans (congr (congr (congr (congrArg (Cert.Reference15Ideal.Read.val_main_v119 (F := Ideal)) a4) a12) a20) a28)),
      r5.trans ((Cert.Reference15Ideal.Read.val_main_v143_eq (StableHlo.launchContents m' c)).trans (congr (congr (congr (congrArg (Cert.Reference15Ideal.Read.val_main_v143 (F := Ideal)) a5) a13) a21) a29)),
      r6.trans ((Cert.Reference15Ideal.Read.val_main_v167_eq (StableHlo.launchContents m' c)).trans (congr (congr (congr (congrArg (Cert.Reference15Ideal.Read.val_main_v167 (F := Ideal)) a6) a14) a22) a30)),
      r7.trans ((Cert.Reference15Ideal.Read.val_main_v191_eq (StableHlo.launchContents m' c)).trans (congr (congr (congr (congrArg (Cert.Reference15Ideal.Read.val_main_v191 (F := Ideal)) a7) a15) a23) a31)),
      r8.trans ((Cert.Reference15Ideal.Read.val_main_v4_eq (StableHlo.launchContents m' c)).trans (congr (congrArg (Cert.Reference15Ideal.Read.val_main_v4 (F := Ideal)) a8) a16)),
      r9.trans ((Cert.Reference15Ideal.Read.val_main_v28_eq (StableHlo.launchContents m' c)).trans (congr (congrArg (Cert.Reference15Ideal.Read.val_main_v28 (F := Ideal)) a9) a17)),
      r10.trans ((Cert.Reference15Ideal.Read.val_main_v52_eq (StableHlo.launchContents m' c)).trans (congr (congrArg (Cert.Reference15Ideal.Read.val_main_v52 (F := Ideal)) a10) a18)),
      r11.trans ((Cert.Reference15Ideal.Read.val_main_v76_eq (StableHlo.launchContents m' c)).trans (congr (congrArg (Cert.Reference15Ideal.Read.val_main_v76 (F := Ideal)) a11) a19)),
      r12.trans ((Cert.Reference15Ideal.Read.val_main_v100_eq (StableHlo.launchContents m' c)).trans (congr (congrArg (Cert.Reference15Ideal.Read.val_main_v100 (F := Ideal)) a12) a20)),
      r13.trans ((Cert.Reference15Ideal.Read.val_main_v124_eq (StableHlo.launchContents m' c)).trans (congr (congrArg (Cert.Reference15Ideal.Read.val_main_v124 (F := Ideal)) a13) a21)),
      r14.trans ((Cert.Reference15Ideal.Read.val_main_v148_eq (StableHlo.launchContents m' c)).trans (congr (congrArg (Cert.Reference15Ideal.Read.val_main_v148 (F := Ideal)) a14) a22)),
      r15.trans ((Cert.Reference15Ideal.Read.val_main_v172_eq (StableHlo.launchContents m' c)).trans (congr (congrArg (Cert.Reference15Ideal.Read.val_main_v172 (F := Ideal)) a15) a23)),
      r16.trans ((Cert.Reference15Ideal.Read.val_main_v10_eq (StableHlo.launchContents m' c)).trans (congr (congrArg (Cert.Reference15Ideal.Read.val_main_v10 (F := Ideal)) a8) a24)),
      r17.trans ((Cert.Reference15Ideal.Read.val_main_v34_eq (StableHlo.launchContents m' c)).trans (congr (congrArg (Cert.Reference15Ideal.Read.val_main_v34 (F := Ideal)) a9) a25)),
      r18.trans ((Cert.Reference15Ideal.Read.val_main_v58_eq (StableHlo.launchContents m' c)).trans (congr (congrArg (Cert.Reference15Ideal.Read.val_main_v58 (F := Ideal)) a10) a26)),
      r19.trans ((Cert.Reference15Ideal.Read.val_main_v82_eq (StableHlo.launchContents m' c)).trans (congr (congrArg (Cert.Reference15Ideal.Read.val_main_v82 (F := Ideal)) a11) a27)),
      r20.trans ((Cert.Reference15Ideal.Read.val_main_v106_eq (StableHlo.launchContents m' c)).trans (congr (congrArg (Cert.Reference15Ideal.Read.val_main_v106 (F := Ideal)) a12) a28)),
      r21.trans ((Cert.Reference15Ideal.Read.val_main_v130_eq (StableHlo.launchContents m' c)).trans (congr (congrArg (Cert.Reference15Ideal.Read.val_main_v130 (F := Ideal)) a13) a29)),
      r22.trans ((Cert.Reference15Ideal.Read.val_main_v154_eq (StableHlo.launchContents m' c)).trans (congr (congrArg (Cert.Reference15Ideal.Read.val_main_v154 (F := Ideal)) a14) a30)),
      r23.trans ((Cert.Reference15Ideal.Read.val_main_v178_eq (StableHlo.launchContents m' c)).trans (congr (congrArg (Cert.Reference15Ideal.Read.val_main_v178 (F := Ideal)) a15) a31)),
      u0,
      u1,
      u2,
      u3,
      u4,
      u5,
      u6,
      u7,
      u8,
      u9,
      u10,
      u11,
      u12,
      u13,
      u14,
      u15,
      u16,
      u17,
      u18,
      u19,
      u20,
      u21,
      u22,
      u23,
      u24,
      u25,
      u26,
      u27,
      u28,
      u29,
      u30,
      u31⟩

end
-- ==== Proof.SumSlots.lean ====
module

public import proofs.«01_k».proof.Proof.Gen.Kernel16Ideal.Value
public import proofs.«01_k».proof.Proof.Gen.Reference16Ideal.Read
public import proofs.«01_k».proof.Proof.Gen.Kernel17Ideal.Value
public import proofs.«01_k».proof.Proof.Gen.Reference17Ideal.Read
public import proofs.«01_k».proof.Proof.Gen.Kernel18Ideal.Value
public import proofs.«01_k».proof.Proof.Gen.Reference18Ideal.Read
public import Idealize.ShloMosaic.Lib.Pipeline.ValueKit
public import Idealize.ShloMosaic.Lib.Claim
public import proofs.«01_k».proof.Defs

@[expose] public section

set_option maxRecDepth 16384

/-! # The sums of the matrices' gradients over the devices

The kernel sums eight slots from the first to the last, a block of 64 rows of every layer at a grid point, and stores a
layer at a time. The reference sums each layer's slots over their first axis and stacks the layers. -/

noncomputable section

open Idealize.ShloMosaic Idealize.ShloMosaic.TcCoe Idealize.SL.Sem
open Idealize.ShloMosaic.Pipeline (Dat)

/-- Layer `k` of a stack of four, at a row and a column. -/
theorem Cert.layer {R : ℕ} (xs : List ((s : Shape) × (s.Idx → EReal))) (h : Shape.Concatenates (xs.map (·.1)) ⟨3, ![4, R, 1024]⟩ 0) (k : ℕ) (hk : k < xs.length) (l : Fin 4) (hl : k = l.val)
    (x : Shape.Idx ⟨3, ![1, R, 1024]⟩ → EReal) (hx : xs[k] = ⟨⟨3, ![1, R, 1024]⟩, x⟩)
    (hpre : (((xs.take k).map (·.1)).map fun s => if h : s.rank = 3 then s.size ((0 : Fin 3).cast h.symm) else 0).sum = k)
    (r : Fin R) (d : Fin 1024) :
    concatenate ⟨3, ![4, R, 1024]⟩ 0 xs h (ix3 l r d) = x (ix3 0 r d) :=
  concatenate_apply_piece (t := ⟨3, ![4, R, 1024]⟩) 0 xs h (ix3 l r d) k hk _ x hx rfl k hpre (ix3 0 r d)
    (fun b hb => match b, hb with
      | ⟨0, _⟩, hb => absurd rfl hb
      | ⟨1, _⟩, _ => rfl
      | ⟨2, _⟩, _ => rfl) hl

/-! ## `w_in` -/

namespace Cert.Kernel16Ideal.Value

open Cert.Kernel16Ideal Cert.Kernel16Ideal.Gen Cert.Reference16Ideal.Read

variable (m : (ℓ : Loc nD τ sig) → Buf (Elt Ideal) ℓ)

abbrev A0 (c : Dev nD) : S8x320x1024.Idx → EReal := m ((c : Thread nD τ).loc main_arg0)
abbrev A1 (c : Dev nD) : S8x320x1024.Idx → EReal := m ((c : Thread nD τ).loc main_arg1)
abbrev A2 (c : Dev nD) : S8x320x1024.Idx → EReal := m ((c : Thread nD τ).loc main_arg2)
abbrev A3 (c : Dev nD) : S8x320x1024.Idx → EReal := m ((c : Thread nD τ).loc main_arg3)

/-- The reference's result over the kernel's arguments. -/
abbrev REF4 (c : Dev nD) := val_main_v12 (F := Ideal) (A0 m c) (A1 m c) (A2 m c) (A3 m c)

theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] :=
  (by decide +kernel : ∀ t : Fin grid0.N, _)

/-- Row `r` of grid point `t`'s block. -/
abbrev row (t : Fin cfg0.N) (r : Fin 64) : Fin 320 := ⟨64 * t.val + r.val, by have h : t.val < 5 := lt_of_lt_of_eq t.isLt N_0; have := r.isLt; omega⟩

/-- A slot's element in the block is its element at the block's row. -/
theorem slots (c : Dev nD) (t : Fin cfg0.N) (k : Fin 8) (r : Fin 64) (d : Fin 1024) :
    iblk m c 0 t (ix3 k r d) = A0 m c (ix3 k (row t r) d)
    ∧ iblk m c 1 t (ix3 k r d) = A1 m c (ix3 k (row t r) d)
    ∧ iblk m c 2 t (ix3 k r d) = A2 m c (ix3 k (row t r) d)
    ∧ iblk m c 3 t (ix3 k r d) = A3 m c (ix3 k (row t r) d) := by
  refine ⟨?_, ?_, ?_, ?_⟩ <;> blk_point [iblk, V, idx t]

/-- A layer of the reference is the sum of its slots. -/
theorem layers4 (c : Dev nD) (r : Fin 320) (d : Fin 1024) :
    REF4 m c (ix3 0 r d) = ∑ k : Fin 8, A0 m c (ix3 k r d)
    ∧ REF4 m c (ix3 1 r d) = ∑ k : Fin 8, A1 m c (ix3 k r d)
    ∧ REF4 m c (ix3 2 r d) = ∑ k : Fin 8, A2 m c (ix3 k r d)
    ∧ REF4 m c (ix3 3 r d) = ∑ k : Fin 8, A3 m c (ix3 k r d) := by
  refine ⟨(Cert.layer _ _ 0 (by simp) 0 rfl _ rfl rfl r d).trans ?_,
    (Cert.layer _ _ 1 (by simp) 1 rfl _ rfl rfl r d).trans ?_,
    (Cert.layer _ _ 2 (by simp) 2 rfl _ rfl rfl r d).trans ?_,
    (Cert.layer _ _ 3 (by simp) 3 rfl _ rfl rfl r d).trans ?_⟩ <;>
  pointwise [val_main_v8, val_main_v1, val_main_v0, val_main_cst, val_main_v9, val_main_v3, val_main_v2, val_main_cst_0, val_main_v10, val_main_v5, val_main_v4, val_main_cst_1, val_main_v11, val_main_v7, val_main_v6, val_main_cst_2]

theorem point4 (c : Dev nD) (t : Fin cfg0.N) (l : Fin 4) (r : Fin 64) (d : Fin 1024) :
    out0_4 (iblk m c 0 t) (iblk m c 1 t) (iblk m c 2 t) (iblk m c 3 t) (ix3 l r d) = REF4 m c (ix3 l (row t r) d) := by
  canon_tiles x h using cover0_4 ..
  · obtain ⟨a, p, q, rfl⟩ : ∃ (a : Fin 1) (p : Fin 64) (q : Fin 1024), x = ix3 a p q := ⟨x 0, x 1, x 2, by blk_ext []⟩
    obtain rfl : a = 0 := Fin.fin_one_eq_zero a
    obtain rfl : l = 3 := Fin.ext h0
    obtain rfl : r = p := Fin.ext h1
    obtain rfl : d = q := Fin.ext h2
    rw [(layers4 m c _ d).2.2.2, Fin.sum_univ_eight]
    pointwise [k0_pay1, k0_pay8, k0_pay9]
    simp only [(slots m c t _ r d).2.2.2]
  · obtain ⟨a, p, q, rfl⟩ : ∃ (a : Fin 1) (p : Fin 64) (q : Fin 1024), x = ix3 a p q := ⟨x 0, x 1, x 2, by blk_ext []⟩
    obtain rfl : a = 0 := Fin.fin_one_eq_zero a
    obtain rfl : l = 2 := Fin.ext h0
    obtain rfl : r = p := Fin.ext h1
    obtain rfl : d = q := Fin.ext h2
    rw [(layers4 m c _ d).2.2.1, Fin.sum_univ_eight]
    pointwise [k0_pay7, k0_pay6]
    simp only [(slots m c t _ r d).2.2.1]
  · obtain ⟨a, p, q, rfl⟩ : ∃ (a : Fin 1) (p : Fin 64) (q : Fin 1024), x = ix3 a p q := ⟨x 0, x 1, x 2, by blk_ext []⟩
    obtain rfl : a = 0 := Fin.fin_one_eq_zero a
    obtain rfl : l = 1 := Fin.ext h0
    obtain rfl : r = p := Fin.ext h1
    obtain rfl : d = q := Fin.ext h2
    rw [(layers4 m c _ d).2.1, Fin.sum_univ_eight]
    pointwise [k0_pay5, k0_pay4]
    simp only [(slots m c t _ r d).2.1]
  · obtain ⟨a, p, q, rfl⟩ : ∃ (a : Fin 1) (p : Fin 64) (q : Fin 1024), x = ix3 a p q := ⟨x 0, x 1, x 2, by blk_ext []⟩
    obtain rfl : a = 0 := Fin.fin_one_eq_zero a
    obtain rfl : l = 0 := Fin.ext h0
    obtain rfl : r = p := Fin.ext h1
    obtain rfl : d = q := Fin.ext h2
    rw [(layers4 m c _ d).1, Fin.sum_univ_eight]
    pointwise [k0_pay3, k0_pay2]
    simp only [(slots m c t _ r d).1]

theorem final4 (c : Dev nD) : (dats m 0 c).arrAt 4 (cfgs 0).N = REF4 m c := by
  refine (dats m 0 c).arrAt_eq_of_covers 4 _ (by decide +kernel) fun t _ y => ?_
  obtain ⟨l, r, d, rfl⟩ : ∃ (l : Fin 4) (r : Fin 64) (d : Fin 1024), y = ix3 l r d := ⟨y 0, y 1, y 2, by blk_ext []⟩
  blk_simp
  rw [after0_4, show ((cfg0.win 4).blk t).view.emb (ix3 l r d) = ix3 l (row t r) d from by blk_ext [idx t]]
  exact point4 m c t l r d

end Cert.Kernel16Ideal.Value

theorem Cert.algebraic16 : Cert.algebraic_Kernel16Ideal_Reference16Ideal
    (hKernel16Ideal := Cert.Kernel16Ideal.Gen.facts) (hReference16Ideal := Cert.Reference16Ideal.Gen.facts) := by
  pair_intro
  · run_from Cert.Kernel16Ideal.Gen.run_main m g
  · run_from Cert.Reference16Ideal.Value.run m' g'
    refine (Cert.Reference16Ideal.Read.val_main_v12_eq _ _ _ _).trans ?_
    simp only [hagree c]
    exact (Cert.Kernel16Ideal.Value.final4 m c).symm

/-! ## `w_out` -/

namespace Cert.Kernel17Ideal.Value

open Cert.Kernel17Ideal Cert.Kernel17Ideal.Gen Cert.Reference17Ideal.Read

variable (m : (ℓ : Loc nD τ sig) → Buf (Elt Ideal) ℓ)

abbrev A0 (c : Dev nD) : S8x128x1024.Idx → EReal := m ((c : Thread nD τ).loc main_arg0)
abbrev A1 (c : Dev nD) : S8x128x1024.Idx → EReal := m ((c : Thread nD τ).loc main_arg1)
abbrev A2 (c : Dev nD) : S8x128x1024.Idx → EReal := m ((c : Thread nD τ).loc main_arg2)
abbrev A3 (c : Dev nD) : S8x128x1024.Idx → EReal := m ((c : Thread nD τ).loc main_arg3)

/-- The reference's result over the kernel's arguments. -/
abbrev REF4 (c : Dev nD) := val_main_v12 (F := Ideal) (A0 m c) (A1 m c) (A2 m c) (A3 m c)

theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] :=
  (by decide +kernel : ∀ t : Fin grid0.N, _)

/-- Row `r` of grid point `t`'s block. -/
abbrev row (t : Fin cfg0.N) (r : Fin 64) : Fin 128 := ⟨64 * t.val + r.val, by have h : t.val < 2 := lt_of_lt_of_eq t.isLt N_0; have := r.isLt; omega⟩

/-- A slot's element in the block is its element at the block's row. -/
theorem slots (c : Dev nD) (t : Fin cfg0.N) (k : Fin 8) (r : Fin 64) (d : Fin 1024) :
    iblk m c 0 t (ix3 k r d) = A0 m c (ix3 k (row t r) d)
    ∧ iblk m c 1 t (ix3 k r d) = A1 m c (ix3 k (row t r) d)
    ∧ iblk m c 2 t (ix3 k r d) = A2 m c (ix3 k (row t r) d)
    ∧ iblk m c 3 t (ix3 k r d) = A3 m c (ix3 k (row t r) d) := by
  refine ⟨?_, ?_, ?_, ?_⟩ <;> blk_point [iblk, V, idx t]

/-- A layer of the reference is the sum of its slots. -/
theorem layers4 (c : Dev nD) (r : Fin 128) (d : Fin 1024) :
    REF4 m c (ix3 0 r d) = ∑ k : Fin 8, A0 m c (ix3 k r d)
    ∧ REF4 m c (ix3 1 r d) = ∑ k : Fin 8, A1 m c (ix3 k r d)
    ∧ REF4 m c (ix3 2 r d) = ∑ k : Fin 8, A2 m c (ix3 k r d)
    ∧ REF4 m c (ix3 3 r d) = ∑ k : Fin 8, A3 m c (ix3 k r d) := by
  refine ⟨(Cert.layer _ _ 0 (by simp) 0 rfl _ rfl rfl r d).trans ?_,
    (Cert.layer _ _ 1 (by simp) 1 rfl _ rfl rfl r d).trans ?_,
    (Cert.layer _ _ 2 (by simp) 2 rfl _ rfl rfl r d).trans ?_,
    (Cert.layer _ _ 3 (by simp) 3 rfl _ rfl rfl r d).trans ?_⟩ <;>
  pointwise [val_main_v8, val_main_v1, val_main_v0, val_main_cst, val_main_v9, val_main_v3, val_main_v2, val_main_cst_0, val_main_v10, val_main_v5, val_main_v4, val_main_cst_1, val_main_v11, val_main_v7, val_main_v6, val_main_cst_2]

theorem point4 (c : Dev nD) (t : Fin cfg0.N) (l : Fin 4) (r : Fin 64) (d : Fin 1024) :
    out0_4 (iblk m c 0 t) (iblk m c 1 t) (iblk m c 2 t) (iblk m c 3 t) (ix3 l r d) = REF4 m c (ix3 l (row t r) d) := by
  canon_tiles x h using cover0_4 ..
  · obtain ⟨a, p, q, rfl⟩ : ∃ (a : Fin 1) (p : Fin 64) (q : Fin 1024), x = ix3 a p q := ⟨x 0, x 1, x 2, by blk_ext []⟩
    obtain rfl : a = 0 := Fin.fin_one_eq_zero a
    obtain rfl : l = 3 := Fin.ext h0
    obtain rfl : r = p := Fin.ext h1
    obtain rfl : d = q := Fin.ext h2
    rw [(layers4 m c _ d).2.2.2, Fin.sum_univ_eight]
    pointwise [k0_pay1, k0_pay8, k0_pay9]
    simp only [(slots m c t _ r d).2.2.2]
  · obtain ⟨a, p, q, rfl⟩ : ∃ (a : Fin 1) (p : Fin 64) (q : Fin 1024), x = ix3 a p q := ⟨x 0, x 1, x 2, by blk_ext []⟩
    obtain rfl : a = 0 := Fin.fin_one_eq_zero a
    obtain rfl : l = 2 := Fin.ext h0
    obtain rfl : r = p := Fin.ext h1
    obtain rfl : d = q := Fin.ext h2
    rw [(layers4 m c _ d).2.2.1, Fin.sum_univ_eight]
    pointwise [k0_pay7, k0_pay6]
    simp only [(slots m c t _ r d).2.2.1]
  · obtain ⟨a, p, q, rfl⟩ : ∃ (a : Fin 1) (p : Fin 64) (q : Fin 1024), x = ix3 a p q := ⟨x 0, x 1, x 2, by blk_ext []⟩
    obtain rfl : a = 0 := Fin.fin_one_eq_zero a
    obtain rfl : l = 1 := Fin.ext h0
    obtain rfl : r = p := Fin.ext h1
    obtain rfl : d = q := Fin.ext h2
    rw [(layers4 m c _ d).2.1, Fin.sum_univ_eight]
    pointwise [k0_pay5, k0_pay4]
    simp only [(slots m c t _ r d).2.1]
  · obtain ⟨a, p, q, rfl⟩ : ∃ (a : Fin 1) (p : Fin 64) (q : Fin 1024), x = ix3 a p q := ⟨x 0, x 1, x 2, by blk_ext []⟩
    obtain rfl : a = 0 := Fin.fin_one_eq_zero a
    obtain rfl : l = 0 := Fin.ext h0
    obtain rfl : r = p := Fin.ext h1
    obtain rfl : d = q := Fin.ext h2
    rw [(layers4 m c _ d).1, Fin.sum_univ_eight]
    pointwise [k0_pay3, k0_pay2]
    simp only [(slots m c t _ r d).1]

theorem final4 (c : Dev nD) : (dats m 0 c).arrAt 4 (cfgs 0).N = REF4 m c := by
  refine (dats m 0 c).arrAt_eq_of_covers 4 _ (by decide +kernel) fun t _ y => ?_
  obtain ⟨l, r, d, rfl⟩ : ∃ (l : Fin 4) (r : Fin 64) (d : Fin 1024), y = ix3 l r d := ⟨y 0, y 1, y 2, by blk_ext []⟩
  blk_simp
  rw [after0_4, show ((cfg0.win 4).blk t).view.emb (ix3 l r d) = ix3 l (row t r) d from by blk_ext [idx t]]
  exact point4 m c t l r d

end Cert.Kernel17Ideal.Value

theorem Cert.algebraic17 : Cert.algebraic_Kernel17Ideal_Reference17Ideal
    (hKernel17Ideal := Cert.Kernel17Ideal.Gen.facts) (hReference17Ideal := Cert.Reference17Ideal.Gen.facts) := by
  pair_intro
  · run_from Cert.Kernel17Ideal.Gen.run_main m g
  · run_from Cert.Reference17Ideal.Value.run m' g'
    refine (Cert.Reference17Ideal.Read.val_main_v12_eq _ _ _ _).trans ?_
    simp only [hagree c]
    exact (Cert.Kernel17Ideal.Value.final4 m c).symm

/-! ## `w_mlp1` and `w_mlp2` -/

namespace Cert.Kernel18Ideal.Value

open Cert.Kernel18Ideal Cert.Kernel18Ideal.Gen Cert.Reference18Ideal.Read

variable (m : (ℓ : Loc nD τ sig) → Buf (Elt Ideal) ℓ)

abbrev A0 (c : Dev nD) : S8x512x1024.Idx → EReal := m ((c : Thread nD τ).loc main_arg0)
abbrev A1 (c : Dev nD) : S8x512x1024.Idx → EReal := m ((c : Thread nD τ).loc main_arg1)
abbrev A2 (c : Dev nD) : S8x512x1024.Idx → EReal := m ((c : Thread nD τ).loc main_arg2)
abbrev A3 (c : Dev nD) : S8x512x1024.Idx → EReal := m ((c : Thread nD τ).loc main_arg3)
abbrev A4 (c : Dev nD) : S8x512x1024.Idx → EReal := m ((c : Thread nD τ).loc main_arg4)
abbrev A5 (c : Dev nD) : S8x512x1024.Idx → EReal := m ((c : Thread nD τ).loc main_arg5)
abbrev A6 (c : Dev nD) : S8x512x1024.Idx → EReal := m ((c : Thread nD τ).loc main_arg6)
abbrev A7 (c : Dev nD) : S8x512x1024.Idx → EReal := m ((c : Thread nD τ).loc main_arg7)

/-- The reference's result over the kernel's arguments. -/
abbrev REF8 (c : Dev nD) := val_main_v12 (F := Ideal) (A0 m c) (A1 m c) (A2 m c) (A3 m c)

/-- The reference's result over the kernel's arguments. -/
abbrev REF9 (c : Dev nD) := val_main_v25 (F := Ideal) (A4 m c) (A5 m c) (A6 m c) (A7 m c)

theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] ∧ win0_8.index t = ![0, t.val, 0] ∧ win0_9.index t = ![0, t.val, 0] :=
  (by decide +kernel : ∀ t : Fin grid0.N, _)

/-- Row `r` of grid point `t`'s block. -/
abbrev row (t : Fin cfg0.N) (r : Fin 64) : Fin 512 := ⟨64 * t.val + r.val, by have h : t.val < 8 := lt_of_lt_of_eq t.isLt N_0; have := r.isLt; omega⟩

/-- A slot's element in the block is its element at the block's row. -/
theorem slots (c : Dev nD) (t : Fin cfg0.N) (k : Fin 8) (r : Fin 64) (d : Fin 1024) :
    iblk m c 0 t (ix3 k r d) = A0 m c (ix3 k (row t r) d)
    ∧ iblk m c 1 t (ix3 k r d) = A1 m c (ix3 k (row t r) d)
    ∧ iblk m c 2 t (ix3 k r d) = A2 m c (ix3 k (row t r) d)
    ∧ iblk m c 3 t (ix3 k r d) = A3 m c (ix3 k (row t r) d)
    ∧ iblk m c 4 t (ix3 k r d) = A4 m c (ix3 k (row t r) d)
    ∧ iblk m c 5 t (ix3 k r d) = A5 m c (ix3 k (row t r) d)
    ∧ iblk m c 6 t (ix3 k r d) = A6 m c (ix3 k (row t r) d)
    ∧ iblk m c 7 t (ix3 k r d) = A7 m c (ix3 k (row t r) d) := by
  refine ⟨?_, ?_, ?_, ?_, ?_, ?_, ?_, ?_⟩ <;> blk_point [iblk, V, idx t]

/-- A layer of the reference is the sum of its slots. -/
theorem layers8 (c : Dev nD) (r : Fin 512) (d : Fin 1024) :
    REF8 m c (ix3 0 r d) = ∑ k : Fin 8, A0 m c (ix3 k r d)
    ∧ REF8 m c (ix3 1 r d) = ∑ k : Fin 8, A1 m c (ix3 k r d)
    ∧ REF8 m c (ix3 2 r d) = ∑ k : Fin 8, A2 m c (ix3 k r d)
    ∧ REF8 m c (ix3 3 r d) = ∑ k : Fin 8, A3 m c (ix3 k r d) := by
  refine ⟨(Cert.layer _ _ 0 (by simp) 0 rfl _ rfl rfl r d).trans ?_,
    (Cert.layer _ _ 1 (by simp) 1 rfl _ rfl rfl r d).trans ?_,
    (Cert.layer _ _ 2 (by simp) 2 rfl _ rfl rfl r d).trans ?_,
    (Cert.layer _ _ 3 (by simp) 3 rfl _ rfl rfl r d).trans ?_⟩ <;>
  pointwise [val_main_v8, val_main_v1, val_main_v0, val_main_cst, val_main_v9, val_main_v3, val_main_v2, val_main_cst_0, val_main_v10, val_main_v5, val_main_v4, val_main_cst_1, val_main_v11, val_main_v7, val_main_v6, val_main_cst_2]

theorem point8 (c : Dev nD) (t : Fin cfg0.N) (l : Fin 4) (r : Fin 64) (d : Fin 1024) :
    out0_8 (iblk m c 0 t) (iblk m c 1 t) (iblk m c 2 t) (iblk m c 3 t) (iblk m c 4 t) (iblk m c 5 t) (iblk m c 6 t) (iblk m c 7 t) (ix3 l r d) = REF8 m c (ix3 l (row t r) d) := by
  canon_tiles x h using cover0_8 ..
  · obtain ⟨a, p, q, rfl⟩ : ∃ (a : Fin 1) (p : Fin 64) (q : Fin 1024), x = ix3 a p q := ⟨x 0, x 1, x 2, by blk_ext []⟩
    obtain rfl : a = 0 := Fin.fin_one_eq_zero a
    obtain rfl : l = 3 := Fin.ext h0
    obtain rfl : r = p := Fin.ext h1
    obtain rfl : d = q := Fin.ext h2
    rw [(layers8 m c _ d).2.2.2, Fin.sum_univ_eight]
    pointwise [k0_pay10, k0_pay8, k0_pay9]
    simp only [(slots m c t _ r d).2.2.2.1]
  · obtain ⟨a, p, q, rfl⟩ : ∃ (a : Fin 1) (p : Fin 64) (q : Fin 1024), x = ix3 a p q := ⟨x 0, x 1, x 2, by blk_ext []⟩
    obtain rfl : a = 0 := Fin.fin_one_eq_zero a
    obtain rfl : l = 2 := Fin.ext h0
    obtain rfl : r = p := Fin.ext h1
    obtain rfl : d = q := Fin.ext h2
    rw [(layers8 m c _ d).2.2.1, Fin.sum_univ_eight]
    pointwise [k0_pay7, k0_pay6]
    simp only [(slots m c t _ r d).2.2.1]
  · obtain ⟨a, p, q, rfl⟩ : ∃ (a : Fin 1) (p : Fin 64) (q : Fin 1024), x = ix3 a p q := ⟨x 0, x 1, x 2, by blk_ext []⟩
    obtain rfl : a = 0 := Fin.fin_one_eq_zero a
    obtain rfl : l = 1 := Fin.ext h0
    obtain rfl : r = p := Fin.ext h1
    obtain rfl : d = q := Fin.ext h2
    rw [(layers8 m c _ d).2.1, Fin.sum_univ_eight]
    pointwise [k0_pay5, k0_pay4]
    simp only [(slots m c t _ r d).2.1]
  · obtain ⟨a, p, q, rfl⟩ : ∃ (a : Fin 1) (p : Fin 64) (q : Fin 1024), x = ix3 a p q := ⟨x 0, x 1, x 2, by blk_ext []⟩
    obtain rfl : a = 0 := Fin.fin_one_eq_zero a
    obtain rfl : l = 0 := Fin.ext h0
    obtain rfl : r = p := Fin.ext h1
    obtain rfl : d = q := Fin.ext h2
    rw [(layers8 m c _ d).1, Fin.sum_univ_eight]
    pointwise [k0_pay3, k0_pay2]
    simp only [(slots m c t _ r d).1]

theorem final8 (c : Dev nD) : (dats m 0 c).arrAt 8 (cfgs 0).N = REF8 m c := by
  refine (dats m 0 c).arrAt_eq_of_covers 8 _ (by decide +kernel) fun t _ y => ?_
  obtain ⟨l, r, d, rfl⟩ : ∃ (l : Fin 4) (r : Fin 64) (d : Fin 1024), y = ix3 l r d := ⟨y 0, y 1, y 2, by blk_ext []⟩
  blk_simp
  rw [after0_8, show ((cfg0.win 8).blk t).view.emb (ix3 l r d) = ix3 l (row t r) d from by blk_ext [idx t]]
  exact point8 m c t l r d

/-- A layer of the reference is the sum of its slots. -/
theorem layers9 (c : Dev nD) (r : Fin 512) (d : Fin 1024) :
    REF9 m c (ix3 0 r d) = ∑ k : Fin 8, A4 m c (ix3 k r d)
    ∧ REF9 m c (ix3 1 r d) = ∑ k : Fin 8, A5 m c (ix3 k r d)
    ∧ REF9 m c (ix3 2 r d) = ∑ k : Fin 8, A6 m c (ix3 k r d)
    ∧ REF9 m c (ix3 3 r d) = ∑ k : Fin 8, A7 m c (ix3 k r d) := by
  refine ⟨(Cert.layer _ _ 0 (by simp) 0 rfl _ rfl rfl r d).trans ?_,
    (Cert.layer _ _ 1 (by simp) 1 rfl _ rfl rfl r d).trans ?_,
    (Cert.layer _ _ 2 (by simp) 2 rfl _ rfl rfl r d).trans ?_,
    (Cert.layer _ _ 3 (by simp) 3 rfl _ rfl rfl r d).trans ?_⟩ <;>
  pointwise [val_main_v21, val_main_v14, val_main_v13, val_main_cst_3, val_main_v22, val_main_v16, val_main_v15, val_main_cst_4, val_main_v23, val_main_v18, val_main_v17, val_main_cst_5, val_main_v24, val_main_v20, val_main_v19, val_main_cst_6]

theorem point9 (c : Dev nD) (t : Fin cfg0.N) (l : Fin 4) (r : Fin 64) (d : Fin 1024) :
    out0_9 (iblk m c 0 t) (iblk m c 1 t) (iblk m c 2 t) (iblk m c 3 t) (iblk m c 4 t) (iblk m c 5 t) (iblk m c 6 t) (iblk m c 7 t) (ix3 l r d) = REF9 m c (ix3 l (row t r) d) := by
  canon_tiles x h using cover0_9 ..
  · obtain ⟨a, p, q, rfl⟩ : ∃ (a : Fin 1) (p : Fin 64) (q : Fin 1024), x = ix3 a p q := ⟨x 0, x 1, x 2, by blk_ext []⟩
    obtain rfl : a = 0 := Fin.fin_one_eq_zero a
    obtain rfl : l = 3 := Fin.ext h0
    obtain rfl : r = p := Fin.ext h1
    obtain rfl : d = q := Fin.ext h2
    rw [(layers9 m c _ d).2.2.2, Fin.sum_univ_eight]
    pointwise [k0_pay1, k0_pay18]
    simp only [(slots m c t _ r d).2.2.2.2.2.2.2]
  · obtain ⟨a, p, q, rfl⟩ : ∃ (a : Fin 1) (p : Fin 64) (q : Fin 1024), x = ix3 a p q := ⟨x 0, x 1, x 2, by blk_ext []⟩
    obtain rfl : a = 0 := Fin.fin_one_eq_zero a
    obtain rfl : l = 2 := Fin.ext h0
    obtain rfl : r = p := Fin.ext h1
    obtain rfl : d = q := Fin.ext h2
    rw [(layers9 m c _ d).2.2.1, Fin.sum_univ_eight]
    pointwise [k0_pay17, k0_pay15, k0_pay16]
    simp only [(slots m c t _ r d).2.2.2.2.2.2.1]
  · obtain ⟨a, p, q, rfl⟩ : ∃ (a : Fin 1) (p : Fin 64) (q : Fin 1024), x = ix3 a p q := ⟨x 0, x 1, x 2, by blk_ext []⟩
    obtain rfl : a = 0 := Fin.fin_one_eq_zero a
    obtain rfl : l = 1 := Fin.ext h0
    obtain rfl : r = p := Fin.ext h1
    obtain rfl : d = q := Fin.ext h2
    rw [(layers9 m c _ d).2.1, Fin.sum_univ_eight]
    pointwise [k0_pay14, k0_pay13]
    simp only [(slots m c t _ r d).2.2.2.2.2.1]
  · obtain ⟨a, p, q, rfl⟩ : ∃ (a : Fin 1) (p : Fin 64) (q : Fin 1024), x = ix3 a p q := ⟨x 0, x 1, x 2, by blk_ext []⟩
    obtain rfl : a = 0 := Fin.fin_one_eq_zero a
    obtain rfl : l = 0 := Fin.ext h0
    obtain rfl : r = p := Fin.ext h1
    obtain rfl : d = q := Fin.ext h2
    rw [(layers9 m c _ d).1, Fin.sum_univ_eight]
    pointwise [k0_pay12, k0_pay11]
    simp only [(slots m c t _ r d).2.2.2.2.1]

theorem final9 (c : Dev nD) : (dats m 0 c).arrAt 9 (cfgs 0).N = REF9 m c := by
  refine (dats m 0 c).arrAt_eq_of_covers 9 _ (by decide +kernel) fun t _ y => ?_
  obtain ⟨l, r, d, rfl⟩ : ∃ (l : Fin 4) (r : Fin 64) (d : Fin 1024), y = ix3 l r d := ⟨y 0, y 1, y 2, by blk_ext []⟩
  blk_simp
  rw [after0_9, show ((cfg0.win 9).blk t).view.emb (ix3 l r d) = ix3 l (row t r) d from by blk_ext [idx t]]
  exact point9 m c t l r d

end Cert.Kernel18Ideal.Value

theorem Cert.algebraic18 : Cert.algebraic_Kernel18Ideal_Reference18Ideal
    (hKernel18Ideal := Cert.Kernel18Ideal.Gen.facts) (hReference18Ideal := Cert.Reference18Ideal.Gen.facts) := by
  pair_intro
  · run_from Cert.Kernel18Ideal.Gen.run_main m g
  · run_from Cert.Reference18Ideal.Value.run m' g'
    · refine (Cert.Reference18Ideal.Read.val_main_v12_eq _ _ _ _).trans ?_
      simp only [hagree c]
      exact (Cert.Kernel18Ideal.Value.final8 m c).symm
    · refine (Cert.Reference18Ideal.Read.val_main_v25_eq _ _ _ _).trans ?_
      simp only [hagree c]
      exact (Cert.Kernel18Ideal.Value.final9 m c).symm

end
-- ==== Proof.SumSmall.lean ====
module

public import proofs.«01_k».proof.Proof.Gen.Kernel19Ideal.Frame
public import proofs.«01_k».proof.Proof.Gen.Reference19Ideal.Read
public import Idealize.ShloMosaic.Lib.Pipeline.ValueKit
public import Idealize.ShloMosaic.Lib.Claim
public import proofs.«01_k».proof.Defs

@[expose] public section

set_option maxRecDepth 16384

/-! # `_sum_small`: the packed small gradients and the squared error, summed over the devices -/

noncomputable section

open Idealize.ShloMosaic Idealize.ShloMosaic.TcCoe Idealize.SL.Sem
open Idealize.ShloMosaic.Pipeline (Dat)

namespace Cert.Kernel19Ideal.Value

open Cert.Kernel19Ideal Cert.Kernel19Ideal.Gen Cert.Reference19Ideal.Read

variable (m : (ℓ : Loc nD τ sig) → Buf (Elt Ideal) ℓ)

abbrev A (c : Dev nD) : S5440x128.Idx → EReal := m ((c : Thread nD τ).loc main_arg0)

/-- The packed arrays' sum over the slots. -/
def TOT (c : Dev nD) : S680x128.Idx → EReal := fun y =>
  ∑ k : Fin 8, A m c (ix2 (⟨680 * k.val + (y 0).val, by have := (y 0).isLt; have := k.isLt; simp at *; omega⟩ : Fin 5440) (y 1))

theorem idx : ∀ t : Fin cfg0.N, win0_0.index t = ![0, 0] ∧ win0_1.index t = ![0, 0] :=
  (by decide +kernel : ∀ t : Fin grid0.N, _)

theorem final (c : Dev nD) : (dats m 0 c).arrAt 1 (cfgs 0).N = TOT m c := by
  refine (dats m 0 c).arrAt_eq_of_covers 1 _ (by decide +kernel) fun t _ y => ?_
  obtain ⟨i, j, rfl⟩ : ∃ (i : Fin 680) (j : Fin 128), y = ix2 i j := ⟨y 0, y 1, by blk_ext []⟩
  blk_simp
  rw [after0_1]
  frame_out
  unfold TOT
  rw [Fin.sum_univ_eight]
  pointwise [k0_pay1]
  blk_point [iblk, V, idx t]

/-- The packed total laid flat is the reference's sum of the flat slots. -/
theorem flat (c : Dev nD) (h) : (shapeCast S87040 (TOT m c : FVec Ideal S680x128 .f32) h) = val_main_v1 (F := Ideal) (A m c) := by
  funext n
  unfold TOT
  pointwise [val_main_v1, val_main_v0, val_main_cst]
  exact Finset.sum_congr rfl fun k _ => by simp only [Nat.mul_comm 680]

/-- What the lines after the region find in the array of its output. -/
theorem read0 (c : Dev nD) : Pipeline.withArrays (cfgs 0).spec c (V0 m c) (fun w => (dats m 0 c).arrAt w (cfgs 0).N) (Proc.devRef .tc main_v0) = TOT m c :=
  (Pipeline.Dat.withArrays_arrAt (dats m 0 c) (by decide +kernel) (V0 m c) (A_eq m c) 1).trans (final m c)

/-- Each result is its stretch of the packed total. -/
theorem tails (c : Dev nD) : Pipeline.afterTail₀ cfgs (dats m) 0 (V0 m) [hostOps1] c main_v3
      = shapeCast S4x1024 (extractStridedSlice S4096 ![0] (val_main_v1 (F := Ideal) (A m c)) slices_S87040_S4096_0) shapeCasts_S4096_S4x1024
    ∧ Pipeline.afterTail₀ cfgs (dats m) 0 (V0 m) [hostOps1] c main_v5
      = shapeCast S4x64 (extractStridedSlice S256 ![4096] (val_main_v1 (F := Ideal) (A m c)) slices_S87040_S256_4096) shapeCasts_S256_S4x64
    ∧ Pipeline.afterTail₀ cfgs (dats m) 0 (V0 m) [hostOps1] c main_v7
      = shapeCast S4x64 (extractStridedSlice S256 ![4352] (val_main_v1 (F := Ideal) (A m c)) slices_S87040_S256_4352) shapeCasts_S256_S4x64
    ∧ Pipeline.afterTail₀ cfgs (dats m) 0 (V0 m) [hostOps1] c main_v9
      = shapeCast S4x8x257 (extractStridedSlice S8224 ![4608] (val_main_v1 (F := Ideal) (A m c)) slices_S87040_S8224_4608) shapeCasts_S8224_S4x8x257
    ∧ Pipeline.afterTail₀ cfgs (dats m) 0 (V0 m) [hostOps1] c main_v11
      = shapeCast S4x3x256 (extractStridedSlice S3072 ![12832] (val_main_v1 (F := Ideal) (A m c)) slices_S87040_S3072_12832) shapeCasts_S3072_S4x3x256
    ∧ Pipeline.afterTail₀ cfgs (dats m) 0 (V0 m) [hostOps1] c main_v13
      = shapeCast S4x4x64x64 (extractStridedSlice S65536 ![15904] (val_main_v1 (F := Ideal) (A m c)) slices_S87040_S65536_15904) shapeCasts_S65536_S4x4x64x64
    ∧ Pipeline.afterTail₀ cfgs (dats m) 0 (V0 m) [hostOps1] c main_v15
      = shapeCast S4x256 (extractStridedSlice S1024 ![81440] (val_main_v1 (F := Ideal) (A m c)) slices_S87040_S1024_81440) shapeCasts_S1024_S4x256
    ∧ Pipeline.afterTail₀ cfgs (dats m) 0 (V0 m) [hostOps1] c main_v17
      = shapeCast S4x1024 (extractStridedSlice S4096 ![82464] (val_main_v1 (F := Ideal) (A m c)) slices_S87040_S4096_82464) shapeCasts_S4096_S4x1024
    ∧ Pipeline.afterTail₀ cfgs (dats m) 0 (V0 m) [hostOps1] c main_v20
      = (mulf (constant S_ .f32 0x3A000000#32) (shapeCast S_ (extractStridedSlice S1 ![86560] (val_main_v1 (F := Ideal) (A m c)) slices_S87040_S1_86560) shapeCasts_S1_S_) : FVec Ideal S_ .f32) := by
  rw [← flat m c shapeCasts_S680x128_S87040, ← read0]
  refine ⟨?_, ?_, ?_, ?_, ?_, ?_, ?_, ?_, ?_⟩ <;>
  (unfold Pipeline.afterTail₀ hostOps1
   after_results
   rfl)

theorem ofBits_n : Ideal.ofBits FTy.f32 1149239296#32 = ((1024 : ℝ) : EReal) := by
  simp [Ideal.ofBits, Ideal.ieee, -EReal.coe_mul]; norm_num

theorem ofBits_half : Ideal.ofBits FTy.f32 1056964608#32 = ((1 / 2 : ℝ) : EReal) := by
  simp [Ideal.ofBits, Ideal.ieee, -EReal.coe_mul]; norm_num

theorem ofBits_half_n : Ideal.ofBits FTy.f32 973078528#32 = ((1 / 2048 : ℝ) : EReal) := by
  simp [Ideal.ofBits, Ideal.ieee, -EReal.coe_mul]; norm_num

theorem loss (x : FVec Ideal S_ .f32) : mulf (constant S_ .f32 0x3A000000#32) x = divf (mulf (constant S_ .f32 0x3F000000#32) x) (constant S_ .f32 0x44800000#32) := by
  funext i
  pointwise []
  rw [ofBits_n, ofBits_half, ofBits_half_n, Ideal.div_coe (by norm_num : (1024 : ℝ) ≠ 0), mul_right_comm, ← EReal.coe_mul]
  norm_num

end Cert.Kernel19Ideal.Value

theorem Cert.algebraic19 : Cert.algebraic_Kernel19Ideal_Reference19Ideal
    (hKernel19Ideal := Cert.Kernel19Ideal.Gen.facts) (hReference19Ideal := Cert.Reference19Ideal.Gen.facts) := by
  pair_intro
  · run_from Cert.Kernel19Ideal.Gen.run_main m g
  · hlo_run
    · rw [(Cert.Kernel19Ideal.Value.tails m c).2.2.2.2.2.2.2.2, Cert.Kernel19Ideal.Value.loss]; rfl
    · rw [(Cert.Kernel19Ideal.Value.tails m c).1]; rfl
    · rw [(Cert.Kernel19Ideal.Value.tails m c).2.1]; rfl
    · rw [(Cert.Kernel19Ideal.Value.tails m c).2.2.1]; rfl
    · rw [(Cert.Kernel19Ideal.Value.tails m c).2.2.2.1]; rfl
    · rw [(Cert.Kernel19Ideal.Value.tails m c).2.2.2.2.1]; rfl
    · rw [(Cert.Kernel19Ideal.Value.tails m c).2.2.2.2.2.1]; rfl
    · rw [(Cert.Kernel19Ideal.Value.tails m c).2.2.2.2.2.2.1]; rfl
    · rw [(Cert.Kernel19Ideal.Value.tails m c).2.2.2.2.2.2.2.1]; rfl
end
-- ==== Proof.lean ====
/- The claim: for each call the frames of its three programs, the preservation, and the equality of its results with the reference's. -/
module

public import proofs.«01_k».proof.Defs
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel3Ideal.Value
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel4Ideal.Value
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel5Ideal.Value
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel6Ideal.Value
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel7Ideal.Value
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel8Ideal.Value
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel9Ideal.Value
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel10Ideal.Value
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel11Ideal.Value
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel12Ideal.Value
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel13Ideal.Value
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel14Ideal.Value
public import proofs.«01_k».proof.Proof.Gen.Reference14Ideal.Read
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Kernel16Ideal.Value
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Kernel17Ideal.Value
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Kernel18Ideal.Value
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Reference19Ideal.Read
public import proofs.«01_k».proof.Proof.RefFrames
public import proofs.«01_k».proof.Proof.WGrad
public import proofs.«01_k».proof.Proof.Mlp
public import proofs.«01_k».proof.Proof.InProj
public import proofs.«01_k».proof.Proof.FeedForward
public import proofs.«01_k».proof.Proof.LossLayer
public import proofs.«01_k».proof.Proof.AdamW
public import proofs.«01_k».proof.Proof.AttnFrame
public import proofs.«01_k».proof.Proof.SmallFrame
public import proofs.«01_k».proof.Proof.AdamWSmall
public import proofs.«01_k».proof.Proof.SumSlots
public import proofs.«01_k».proof.Proof.SumSmall
public import Idealize.ShloMosaic.Adequacy
public import Idealize.ShloMosaic.Init

@[expose] public section

noncomputable section

namespace Cert.Proof

open Idealize.ShloMosaic Idealize.SL.Sem

theorem claim : Cert.Claim :=
  ⟨Cert.Kernel2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    fun m ρ _ => Cert.Kernel2Ideal.Attn.frame m ρ,
    fun m ρ _ => Cert.Kernel3.Gen.frame m ρ,
    fun m ρ _ => Cert.Kernel3Ideal.Gen.frame m ρ,
    frame_Reference3Ideal,
    fun m ρ _ => Cert.Kernel4.Gen.frame m ρ,
    fun m ρ _ => Cert.Kernel4Ideal.Gen.frame m ρ,
    frame_Reference4Ideal,
    fun m ρ _ => Cert.Kernel5.Gen.frame m ρ,
    fun m ρ _ => Cert.Kernel5Ideal.Gen.frame m ρ,
    frame_Reference5Ideal,
    fun m ρ _ => Cert.Kernel6.Gen.frame m ρ,
    fun m ρ _ => Cert.Kernel6Ideal.Gen.frame m ρ,
    frame_Reference6Ideal,
    fun m ρ _ => Cert.Kernel7.Gen.frame m ρ,
    fun m ρ _ => Cert.Kernel7Ideal.Gen.frame m ρ,
    frame_Reference7Ideal,
    fun m ρ _ => Cert.Kernel8.Gen.frame m ρ,
    fun m ρ _ => Cert.Kernel8Ideal.Gen.frame m ρ,
    frame_Reference8Ideal,
    fun m ρ _ => Cert.Kernel9.Gen.frame m ρ,
    fun m ρ _ => Cert.Kernel9Ideal.Gen.frame m ρ,
    frame_Reference9Ideal,
    fun m ρ _ => Cert.Kernel10.Gen.frame m ρ,
    fun m ρ _ => Cert.Kernel10Ideal.Gen.frame m ρ,
    frame_Reference10Ideal,
    fun m ρ _ => Cert.Kernel11.Gen.frame m ρ,
    fun m ρ _ => Cert.Kernel11Ideal.Gen.frame m ρ,
    frame_Reference11Ideal,
    fun m ρ _ => Cert.Kernel12.Gen.frame m ρ,
    fun m ρ _ => Cert.Kernel12Ideal.Gen.frame m ρ,
    frame_Reference12Ideal,
    fun m ρ _ => Cert.Kernel13.Gen.frame m ρ,
    fun m ρ _ => Cert.Kernel13Ideal.Gen.frame m ρ,
    frame_Reference13Ideal,
    fun m ρ _ => Cert.Kernel14.Gen.frame m ρ,
    fun m ρ _ => Cert.Kernel14Ideal.Gen.frame m ρ,
    frame_Reference14Ideal,
    fun m ρ _ => Cert.Kernel15Ideal.Small.frame m ρ,
    frame_Reference15Ideal,
    fun m ρ _ => Cert.Kernel16.Gen.frame m ρ,
    fun m ρ _ => Cert.Kernel16Ideal.Gen.frame m ρ,
    frame_Reference16Ideal,
    fun m ρ _ => Cert.Kernel17.Gen.frame m ρ,
    fun m ρ _ => Cert.Kernel17Ideal.Gen.frame m ρ,
    frame_Reference17Ideal,
    fun m ρ _ => Cert.Kernel18.Gen.frame m ρ,
    fun m ρ _ => Cert.Kernel18Ideal.Gen.frame m ρ,
    frame_Reference18Ideal,
    fun m ρ _ => Cert.Kernel19.Gen.frame m ρ,
    fun m ρ _ => Cert.Kernel19Ideal.Gen.frame m ρ,
    frame_Reference19Ideal,
    trivial,
    Cert.algebraic3,
    trivial,
    Cert.algebraic4,
    trivial,
    Cert.algebraic5,
    trivial,
    Cert.algebraic6,
    trivial,
    Cert.algebraic7,
    trivial,
    Cert.algebraic8,
    trivial,
    Cert.algebraic9,
    trivial,
    Cert.algebraic10,
    trivial,
    Cert.algebraic11,
    trivial,
    Cert.algebraic12,
    trivial,
    Cert.algebraic13,
    trivial,
    Cert.algebraic14,
    Cert.algebraic15,
    trivial,
    Cert.algebraic16,
    trivial,
    Cert.algebraic17,
    trivial,
    Cert.algebraic18,
    trivial,
    Cert.algebraic19⟩

end Cert.Proof

end
